-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite1 [hPre_finite1 : Cert.Pre_finite1.Facts] (m : (ℓ : Loc Cert.KernelIdeal.nD Cert.KernelIdeal.τ Cert.KernelIdeal.sig) → Buf (Elt Ideal) ℓ) : Prop :=
  ∀ c : Dev Cert.KernelIdeal.nD,
    (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite1 [hPre_finite1 : Cert.Pre_finite1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite1 [hKernelIdeal : Cert.KernelIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite1 [hReferenceIdeal : Cert.ReferenceIdeal.Facts] [hPre_finite1 : Cert.Pre_finite1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite1 [hKernelIdeal : Cert.KernelIdeal.Facts] [hReferenceIdeal : Cert.ReferenceIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite1 : Cert.Pre_finite1.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite1 (hKernelIdeal := hKernelIdeal) (hPre_finite1 := hPre_finite1)
    ∧ quiescent_ReferenceIdeal (hReferenceIdeal := hReferenceIdeal)
    ∧ quiescent_ReferenceIdeal_pre_finite1 (hReferenceIdeal := hReferenceIdeal) (hPre_finite1 := hPre_finite1)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite1 (hKernelIdeal := hKernelIdeal) (hReferenceIdeal := hReferenceIdeal) (hPre_finite1 := hPre_finite1)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite1.lean ====
abbrev S8192x15360 : Shape := ⟨2, ![8192, 15360]⟩
abbrev S8192x128 : Shape := ⟨2, ![8192, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S16x1024 : Shape := ⟨2, ![16, 1024]⟩
abbrev S1024 : Shape := ⟨1, ![1024]⟩
abbrev S512 : Shape := ⟨1, ![512]⟩
abbrev S_ : Shape := ⟨0, ![]⟩

class Facts : Prop where
  bitsLt_bf16_f32 : FTy.bits .bf16 < FTy.bits .f32
  bcast_S_S8192x15360 : S_.BroadcastsInDim S8192x15360 (![] : Fin 0 → Fin S8192x15360.rank)
  reducesTo_S8192x15360_S_d0_1 : S8192x15360.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S4x3072 : S_.BroadcastsInDim S4x3072 (![] : Fin 0 → Fin S4x3072.rank)
  reducesTo_S4x3072_S_d0_1 : S4x3072.ReducesTo [0, 1] S_
  bcast_S_S3072 : S_.BroadcastsInDim S3072 (![] : Fin 0 → Fin S3072.rank)
  reducesTo_S3072_S_d0 : S3072.ReducesTo [0] S_
  bcast_S_S32 : S_.BroadcastsInDim S32 (![] : Fin 0 → Fin S32.rank)
  reducesTo_S32_S_d0 : S32.ReducesTo [0] S_
  bcast_S_S2048 : S_.BroadcastsInDim S2048 (![] : Fin 0 → Fin S2048.rank)
  reducesTo_S2048_S_d0 : S2048.ReducesTo [0] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_
  bcast_S_S512 : S_.BroadcastsInDim S512 (![] : Fin 0 → Fin S512.rank)
  reducesTo_S512_S_d0 : S512.ReducesTo [0] S_

variable [Facts]

def fn_part3 {F : FTy → Type} [FloatOps F] (main_v49 : IVec S_ 1) (main_v50 : FVec F S512 .f32) (main_cst_18 : FVec F S_ .f32) : IVec S_ 1 :=
  let main_v51 : FVec F S512 .f32 := broadcastInDim S512 ![] bcast_S_S512 main_cst_18
  let main_v52 : IVec S512 1 := cmpf .olt main_v50 main_v51
  let main_c_19 : IVec S_ 1 := constantI S_ 1 1#1
  let main_v53 : IVec S_ 1 := (fun x v => Host.reduce IntOp.andi x v reducesTo_S512_S_d0 h_S_) main_v52 main_c_19
  let main_v54 : IVec S_ 1 := andi main_v49 main_v53
  main_v54

def fn_part2 {F : FTy → Type} [FloatOps F] (main_arg7 : FVec F S2048 .f32) (main_arg8 : FVec F S16x1024 .f32) (main_arg9 : FVec F S1024 .f32) (main_arg10 : FVec F S512 .f32) (main_v29 : IVec S_ 1) (main_v33 : IVec S_ 1) : IVec S_ 1 :=
  let main_v34 : IVec S_ 1 := andi main_v29 main_v33
  let main_v35 : FVec F S2048 .f32 := Host.absf main_arg7
  let main_cst_12 : FVec F S_ .f32 := constant S_ .f32 0x7F800000#32
  let main_v36 : FVec F S2048 .f32 := broadcastInDim S2048 ![] bcast_S_S2048 main_cst_12
  let main_v37 : IVec S2048 1 := cmpf .olt main_v35 main_v36
  let main_c_13 : IVec S_ 1 := constantI S_ 1 1#1
  let main_v38 : IVec S_ 1 := (fun x v => Host.reduce IntOp.andi x v reducesTo_S2048_S_d0 h_S_) main_v37 main_c_13
  let main_v39 : IVec S_ 1 := andi main_v34 main_v38
  let main_v40 : FVec F S16x1024 .f32 := Host.absf main_arg8
  let main_cst_14 : FVec F S_ .f32 := constant S_ .f32 0x7F800000#32
  let main_v41 : FVec F S16x1024 .f32 := broadcastInDim S16x1024 ![] bcast_S_S16x1024 main_cst_14
  let main_v42 : IVec S16x1024 1 := cmpf .olt main_v40 main_v41
  let main_c_15 : IVec S_ 1 := constantI S_ 1 1#1
  let main_v43 : IVec S_ 1 := (fun x v => Host.reduce IntOp.andi x v reducesTo_S16x1024_S_d0_1 h_S_) main_v42 main_c_15
  let main_v44 : IVec S_ 1 := andi main_v39 main_v43
  let main_v45 : FVec F S1024 .f32 := Host.absf main_arg9
  let main_cst_16 : FVec F S_ .f32 := constant S_ .f32 0x7F800000#32
  let main_v46 : FVec F S1024 .f32 := broadcastInDim S1024 ![] bcast_S_S1024 main_cst_16
  let main_v47 : IVec S1024 1 := cmpf .olt main_v45 main_v46
  let main_c_17 : IVec S_ 1 := constantI S_ 1 1#1
  let main_v48 : IVec S_ 1 := (fun x v => Host.reduce IntOp.andi x v reducesTo_S1024_S_d0 h_S_) main_v47 main_c_17
  let main_v49 : IVec S_ 1 := andi main_v44 main_v48
  let main_v50 : FVec F S512 .f32 := Host.absf main_arg10
  let main_cst_18 : FVec F S_ .f32 := constant S_ .f32 0x7F800000#32
  fn_part3 (F := F) main_v49 main_v50 main_cst_18

def fn_part1 {F : FTy → Type} [FloatOps F] (main_arg4 : FVec F S32 .f32) (main_arg5 : FVec F S32 .f32) (main_arg6 : FVec F S32 .f32) (main_arg7 : FVec F S2048 .f32) (main_arg8 : FVec F S16x1024 .f32) (main_arg9 : FVec F S1024 .f32) (main_arg10 : FVec F S512 .f32) (main_v14 : IVec S_ 1) (main_v15 : FVec F S3072 .f32) (main_v16 : FVec F S3072 .f32) : IVec S_ 1 :=
  let main_v17 : IVec S3072 1 := cmpf .olt main_v15 main_v16
  let main_c_5 : IVec S_ 1 := constantI S_ 1 1#1
  let main_v18 : IVec S_ 1 := (fun x v => Host.reduce IntOp.andi x v reducesTo_S3072_S_d0 h_S_) main_v17 main_c_5
  let main_v19 : IVec S_ 1 := andi main_v14 main_v18
  let main_v20 : FVec F S32 .f32 := Host.absf main_arg4
  let main_cst_6 : FVec F S_ .f32 := constant S_ .f32 0x7F800000#32
  let main_v21 : FVec F S32 .f32 := broadcastInDim S32 ![] bcast_S_S32 main_cst_6
  let main_v22 : IVec S32 1 := cmpf .olt main_v20 main_v21
  let main_c_7 : IVec S_ 1 := constantI S_ 1 1#1
  let main_v23 : IVec S_ 1 := (fun x v => Host.reduce IntOp.andi x v reducesTo_S32_S_d0 h_S_) main_v22 main_c_7
  let main_v24 : IVec S_ 1 := andi main_v19 main_v23
  let main_v25 : FVec F S32 .f32 := Host.absf main_arg5
  let main_cst_8 : FVec F S_ .f32 := constant S_ .f32 0x7F800000#32
  let main_v26 : FVec F S32 .f32 := broadcastInDim S32 ![] bcast_S_S32 main_cst_8
  let main_v27 : IVec S32 1 := cmpf .olt main_v25 main_v26
  let main_c_9 : IVec S_ 1 := constantI S_ 1 1#1
  let main_v28 : IVec S_ 1 := (fun x v => Host.reduce IntOp.andi x v reducesTo_S32_S_d0 h_S_) main_v27 main_c_9
  let main_v29 : IVec S_ 1 := andi main_v24 main_v28
  let main_v30 : FVec F S32 .f32 := Host.absf main_arg6
  let main_cst_10 : FVec F S_ .f32 := constant S_ .f32 0x7F800000#32
  let main_v31 : FVec F S32 .f32 := broadcastInDim S32 ![] bcast_S_S32 main_cst_10
  let main_v32 : IVec S32 1 := cmpf .olt main_v30 main_v31
  let main_c_11 : IVec S_ 1 := constantI S_ 1 1#1
  let main_v33 : IVec S_ 1 := (fun x v => Host.reduce IntOp.andi x v reducesTo_S32_S_d0 h_S_) main_v32 main_c_11
  fn_part2 (F := F) main_arg7 main_arg8 main_arg9 main_arg10 main_v29 main_v33

def fn {F : FTy → Type} [FloatOps F] (main_arg0 : FVec F S8192x15360 .bf16) (main_arg1 : FVec F S8192x128 .f32) (main_arg2 : FVec F S4x3072 .f32) (main_arg3 : FVec F S3072 .f32) (main_arg4 : FVec F S32 .f32) (main_arg5 : FVec F S32 .f32) (main_arg6 : FVec F S32 .f32) (main_arg7 : FVec F S2048 .f32) (main_arg8 : FVec F S16x1024 .f32) (main_arg9 : FVec F S1024 .f32) (main_arg10 : FVec F S512 .f32) : IVec S_ 1 :=
  let main_v0 : FVec F S8192x15360 .f32 := (extf .f32 · bitsLt_bf16_f32) main_arg0
  let main_v1 : FVec F S8192x15360 .f32 := Host.absf main_v0
  let main_cst : FVec F S_ .f32 := constant S_ .f32 0x7F800000#32
  let main_v2 : FVec F S8192x15360 .f32 := broadcastInDim S8192x15360 ![] bcast_S_S8192x15360 main_cst
  let main_v3 : IVec S8192x15360 1 := cmpf .olt main_v1 main_v2
  let main_c : IVec S_ 1 := constantI S_ 1 1#1
  let main_v4 : IVec S_ 1 := (fun x v => Host.reduce IntOp.andi x v reducesTo_S8192x15360_S_d0_1 h_S_) main_v3 main_c
  let main_v5 : FVec F S8192x128 .f32 := Host.absf main_arg1
  let main_cst_0 : FVec F S_ .f32 := constant S_ .f32 0x7F800000#32
  let main_v6 : FVec F S8192x128 .f32 := broadcastInDim S8192x128 ![] bcast_S_S8192x128 main_cst_0
  let main_v7 : IVec S8192x128 1 := cmpf .olt main_v5 main_v6
  let main_c_1 : IVec S_ 1 := constantI S_ 1 1#1
  let main_v8 : IVec S_ 1 := (fun x v => Host.reduce IntOp.andi x v reducesTo_S8192x128_S_d0_1 h_S_) main_v7 main_c_1
  let main_v9 : IVec S_ 1 := andi main_v4 main_v8
  let main_v10 : FVec F S4x3072 .f32 := Host.absf main_arg2
  let main_cst_2 : FVec F S_ .f32 := constant S_ .f32 0x7F800000#32
  let main_v11 : FVec F S4x3072 .f32 := broadcastInDim S4x3072 ![] bcast_S_S4x3072 main_cst_2
  let main_v12 : IVec S4x3072 1 := cmpf .olt main_v10 main_v11
  let main_c_3 : IVec S_ 1 := constantI S_ 1 1#1
  let main_v13 : IVec S_ 1 := (fun x v => Host.reduce IntOp.andi x v reducesTo_S4x3072_S_d0_1 h_S_) main_v12 main_c_3
  let main_v14 : IVec S_ 1 := andi main_v9 main_v13
  let main_v15 : FVec F S3072 .f32 := Host.absf main_arg3
  let main_cst_4 : FVec F S_ .f32 := constant S_ .f32 0x7F800000#32
  let main_v16 : FVec F S3072 .f32 := broadcastInDim S3072 ![] bcast_S_S3072 main_cst_4
  fn_part1 (F := F) main_arg4 main_arg5 main_arg6 main_arg7 main_arg8 main_arg9 main_arg10 main_v14 main_v15 main_v16
-- ==== Pre_finite3.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S64x2048 : Shape := ⟨2, ![64, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S2048 : S_.BroadcastsInDim S2048 (![] : Fin 0 → Fin S2048.rank)
  reducesTo_S2048_S_d0 : S2048.ReducesTo [0] S_
  bcast_S_S64x2048 : S_.BroadcastsInDim S64x2048 (![] : Fin 0 → Fin S64x2048.rank)
  reducesTo_S64x2048_S_d0_1 : S64x2048.ReducesTo [0, 1] S_

variable [Facts]

def fn_part2 {F : FTy → Type} [FloatOps F] (main_arg7 : FVec F S64x2048 .f32) (main_v30 : IVec S_ 1) (main_v33 : IVec S1x2048 1) (main_c_11 : IVec S_ 1) : IVec S_ 1 :=
  let main_v34 : IVec S_ 1 := (fun x v => Host.reduce IntOp.andi x v reducesTo_S1x2048_S_d0_1 h_S_) main_v33 main_c_11
  let main_v35 : IVec S_ 1 := andi main_v30 main_v34
  let main_v36 : FVec F S64x2048 .f32 := Host.absf main_arg7
  let main_cst_12 : FVec F S_ .f32 := constant S_ .f32 0x7F800000#32
  let main_v37 : FVec F S64x2048 .f32 := broadcastInDim S64x2048 ![] bcast_S_S64x2048 main_cst_12
  let main_v38 : IVec S64x2048 1 := cmpf .olt main_v36 main_v37
  let main_c_13 : IVec S_ 1 := constantI S_ 1 1#1
  let main_v39 : IVec S_ 1 := (fun x v => Host.reduce IntOp.andi x v reducesTo_S64x2048_S_d0_1 h_S_) main_v38 main_c_13
  let main_v40 : IVec S_ 1 := andi main_v35 main_v39
  main_v40

def fn_part1 {F : FTy → Type} [FloatOps F] (main_arg4 : FVec F S2048 .f32) (main_arg5 : FVec F S1x2048 .f32) (main_arg6 : FVec F S1x2048 .f32) (main_arg7 : FVec F S64x2048 .f32) (main_v15 : IVec S_ 1) (main_v16 : FVec F S1x2048 .f32) (main_cst_4 : FVec F S_ .f32) : IVec S_ 1 :=
  let main_v17 : FVec F S1x2048 .f32 := broadcastInDim S1x2048 ![] bcast_S_S1x2048 main_cst_4
  let main_v18 : IVec S1x2048 1 := cmpf .olt main_v16 main_v17
  let main_c_5 : IVec S_ 1 := constantI S_ 1 1#1
  let main_v19 : IVec S_ 1 := (fun x v => Host.reduce IntOp.andi x v reducesTo_S1x2048_S_d0_1 h_S_) main_v18 main_c_5
  let main_v20 : IVec S_ 1 := andi main_v15 main_v19
  let main_v21 : FVec F S2048 .f32 := Host.absf main_arg4
  let main_cst_6 : FVec F S_ .f32 := constant S_ .f32 0x7F800000#32
  let main_v22 : FVec F S2048 .f32 := broadcastInDim S2048 ![] bcast_S_S2048 main_cst_6
  let main_v23 : IVec S2048 1 := cmpf .olt main_v21 main_v22
  let main_c_7 : IVec S_ 1 := constantI S_ 1 1#1
  let main_v24 : IVec S_ 1 := (fun x v => Host.reduce IntOp.andi x v reducesTo_S2048_S_d0 h_S_) main_v23 main_c_7
  let main_v25 : IVec S_ 1 := andi main_v20 main_v24
  let main_v26 : FVec F S1x2048 .f32 := Host.absf main_arg5
  let main_cst_8 : FVec F S_ .f32 := constant S_ .f32 0x7F800000#32
  let main_v27 : FVec F S1x2048 .f32 := broadcastInDim S1x2048 ![] bcast_S_S1x2048 main_cst_8
  let main_v28 : IVec S1x2048 1 := cmpf .olt main_v26 main_v27
  let main_c_9 : IVec S_ 1 := constantI S_ 1 1#1
  let main_v29 : IVec S_ 1 := (fun x v => Host.reduce IntOp.andi x v reducesTo_S1x2048_S_d0_1 h_S_) main_v28 main_c_9
  let main_v30 : IVec S_ 1 := andi main_v25 main_v29
  let main_v31 : FVec F S1x2048 .f32 := Host.absf main_arg6
  let main_cst_10 : FVec F S_ .f32 := constant S_ .f32 0x7F800000#32
  let main_v32 : FVec F S1x2048 .f32 := broadcastInDim S1x2048 ![] bcast_S_S1x2048 main_cst_10
  let main_v33 : IVec S1x2048 1 := cmpf .olt main_v31 main_v32
  let main_c_11 : IVec S_ 1 := constantI S_ 1 1#1
  fn_part2 (F := F) main_arg7 main_v30 main_v33 main_c_11

def fn {F : FTy → Type} [FloatOps F] (main_arg0 : FVec F S8192x2048 .bf16) (main_arg1 : FVec F S8192x2048 .f32) (main_arg2 : FVec F S2048x2048 .bf16) (main_arg3 : FVec F S1x2048 .f32) (main_arg4 : FVec F S2048 .f32) (main_arg5 : FVec F S1x2048 .f32) (main_arg6 : FVec F S1x2048 .f32) (main_arg7 : FVec F S64x2048 .f32) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x2048 .f32 := Host.absf main_arg1
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_c_1 : IVec S_ 1 := constantI S_ 1 1#1
  let main_v8 : IVec S_ 1 := (fun x v => Host.reduce IntOp.andi x v reducesTo_S8192x2048_S_d0_1 h_S_) main_v7 main_c_1
  let main_v9 : IVec S_ 1 := andi main_v4 main_v8
  let main_v10 : FVec F S2048x2048 .f32 := (extf .f32 · bitsLt_bf16_f32) main_arg2
  let main_v11 : FVec F S2048x2048 .f32 := Host.absf main_v10
  let main_cst_2 : FVec F S_ .f32 := constant S_ .f32 0x7F800000#32
  let main_v12 : FVec F S2048x2048 .f32 := broadcastInDim S2048x2048 ![] bcast_S_S2048x2048 main_cst_2
  let main_v13 : IVec S2048x2048 1 := cmpf .olt main_v11 main_v12
  let main_c_3 : IVec S_ 1 := constantI S_ 1 1#1
  let main_v14 : IVec S_ 1 := (fun x v => Host.reduce IntOp.andi x v reducesTo_S2048x2048_S_d0_1 h_S_) main_v13 main_c_3
  let main_v15 : IVec S_ 1 := andi main_v9 main_v14
  let main_v16 : FVec F S1x2048 .f32 := Host.absf main_arg3
  let main_cst_4 : FVec F S_ .f32 := constant S_ .f32 0x7F800000#32
  fn_part1 (F := F) main_arg4 main_arg5 main_arg6 main_arg7 main_v15 main_v16 main_cst_4
-- ==== Pre_finite4.lean ====
abbrev S1x2048 : Shape := ⟨2, ![1, 2048]⟩
abbrev S2048x12288 : Shape := ⟨2, ![2048, 12288]⟩
abbrev S12288 : Shape := ⟨1, ![12288]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel

variable [Facts]

def fn {F : FTy → Type} [FloatOps F] (main_arg0 : FVec F S1x2048 .f32) (main_arg1 : FVec F S2048x12288 .f32) (main_arg2 : FVec F S12288 .f32) : IVec S_ 1 :=
  let main_v0 : FVec F S1x2048 .f32 := Host.absf main_arg0
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  main_v3
-- ==== Kernel.lean ====
abbrev S8192x15360 : Shape := ⟨2, ![8192, 15360]⟩
abbrev S8192x128 : Shape := ⟨2, ![8192, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S16x1024 : Shape := ⟨2, ![16, 1024]⟩
abbrev S1024 : Shape := ⟨1, ![1024]⟩
abbrev S512 : Shape := ⟨1, ![512]⟩
abbrev S32x64 : Shape := ⟨2, ![32, 64]⟩
abbrev S1x2048 : Shape := ⟨2, ![1, 2048]⟩
abbrev S1x3072 : Shape := ⟨2, ![1, 3072]⟩
abbrev S1x32 : Shape := ⟨2, ![1, 32]⟩
abbrev S1x1024 : Shape := ⟨2, ![1, 1024]⟩
abbrev S1x512 : Shape := ⟨2, ![1, 512]⟩
abbrev S8192x2048 : Shape := ⟨2, ![8192, 2048]⟩
abbrev S128x2048 : Shape := ⟨2, ![128, 2048]⟩
abbrev S128x1024 : Shape := ⟨2, ![128, 1024]⟩
abbrev S128x128 : Shape := ⟨2, ![128, 128]⟩
abbrev S4x2048 : Shape := ⟨2, ![4, 2048]⟩
abbrev S4x1024 : Shape := ⟨2, ![4, 1024]⟩
abbrev S136x2048 : Shape := ⟨2, ![136, 2048]⟩
abbrev S136x1024 : Shape := ⟨2, ![136, 1024]⟩
abbrev S4x128x512 : Shape := ⟨3, ![4, 128, 512]⟩
abbrev S4x512x256 : Shape := ⟨3, ![4, 512, 256]⟩
abbrev S8x2048 : Shape := ⟨2, ![8, 2048]⟩
abbrev S8x1024 : Shape := ⟨2, ![8, 1024]⟩
abbrev S128x32 : Shape := ⟨2, ![128, 32]⟩
abbrev S32x32 : Shape := ⟨2, ![32, 32]⟩
abbrev S32x128 : Shape := ⟨2, ![32, 128]⟩
abbrev S32x2048 : Shape := ⟨2, ![32, 2048]⟩
abbrev S96x2048 : Shape := ⟨2, ![96, 2048]⟩
abbrev S128x96 : Shape := ⟨2, ![128, 96]⟩
abbrev S1x128x512 : Shape := ⟨3, ![1, 128, 512]⟩
abbrev S128x512 : Shape := ⟨2, ![128, 512]⟩
abbrev S128x1 : Shape := ⟨2, ![128, 1]⟩
abbrev S1x128 : Shape := ⟨2, ![1, 128]⟩
abbrev S128x256 : Shape := ⟨2, ![128, 256]⟩
abbrev S256x128 : Shape := ⟨2, ![256, 128]⟩
abbrev S128 : Shape := ⟨1, ![128]⟩
abbrev S64x64 : Shape := ⟨2, ![64, 64]⟩
abbrev S64x192 : Shape := ⟨2, ![64, 192]⟩
abbrev S64x16 : Shape := ⟨2, ![64, 16]⟩
abbrev S64x1024 : Shape := ⟨2, ![64, 1024]⟩
abbrev S192x1024 : Shape := ⟨2, ![192, 1024]⟩
abbrev S64x2048 : Shape := ⟨2, ![64, 2048]⟩
abbrev S64x256 : Shape := ⟨2, ![64, 256]⟩
abbrev S1x512x256 : Shape := ⟨3, ![1, 512, 256]⟩
abbrev S512x256 : Shape := ⟨2, ![512, 256]⟩
abbrev S64x512 : Shape := ⟨2, ![64, 512]⟩
abbrev S1x256 : Shape := ⟨2, ![1, 256]⟩
abbrev S64 : Shape := ⟨1, ![64]⟩
abbrev S64x1 : Shape := ⟨2, ![64, 1]⟩

abbrev nBuf : Space → Nat
  | .hbm => 21
  | .vmem => 39
  | .smem => 0
  | _ => 0

abbrev bufTy : (tb : Table) → Fin (tcTables nBuf tb) → BufTy
  | .hbm, ⟨0, _⟩ => ⟨S8192x15360, .bf16⟩
  | .hbm, ⟨1, _⟩ => ⟨S8192x128, .f32⟩
  | .hbm, ⟨2, _⟩ => ⟨S4x3072, .f32⟩
  | .hbm, ⟨3, _⟩ => ⟨S3072, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S2048, .f32⟩
  | .hbm, ⟨8, _⟩ => ⟨S16x1024, .f32⟩
  | .hbm, ⟨9, _⟩ => ⟨S1024, .f32⟩
  | .hbm, ⟨10, _⟩ => ⟨S512, .f32⟩
  | .hbm, ⟨11, _⟩ => ⟨S32x64, .f32⟩
  | .hbm, ⟨12, _⟩ => ⟨S2048, .f32⟩
  | .hbm, ⟨13, _⟩ => ⟨S1x2048, .f32⟩
  | .hbm, ⟨14, _⟩ => ⟨S1x3072, .f32⟩
  | .hbm, ⟨15, _⟩ => ⟨S1x32, .f32⟩
  | .hbm, ⟨16, _⟩ => ⟨S1x32, .f32⟩
  | .hbm, ⟨17, _⟩ => ⟨S1x2048, .f32⟩
  | .hbm, ⟨18, _⟩ => ⟨S1x1024, .f32⟩
  | .hbm, ⟨19, _⟩ => ⟨S1x512, .f32⟩
  | .hbm, ⟨20, _⟩ => ⟨S8192x2048, .bf16⟩
  | .local _ .vmem, ⟨0, _⟩ => ⟨S128x2048, .bf16⟩
  | .local _ .vmem, ⟨1, _⟩ => ⟨S128x2048, .bf16⟩
  | .local _ .vmem, ⟨2, _⟩ => ⟨S128x1024, .bf16⟩
  | .local _ .vmem, ⟨3, _⟩ => ⟨S128x1024, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x128, .f32⟩
  | .local _ .vmem, ⟨9, _⟩ => ⟨S128x128, .f32⟩
  | .local _ .vmem, ⟨10, _⟩ => ⟨S4x2048, .f32⟩
  | .local _ .vmem, ⟨11, _⟩ => ⟨S4x1024, .f32⟩
  | .local _ .vmem, ⟨12, _⟩ => ⟨S1x2048, .f32⟩
  | .local _ .vmem, ⟨13, _⟩ => ⟨S1x1024, .f32⟩
  | .local _ .vmem, ⟨14, _⟩ => ⟨S1x32, .f32⟩
  | .local _ .vmem, ⟨15, _⟩ => ⟨S1x32, .f32⟩
  | .local _ .vmem, ⟨16, _⟩ => ⟨S1x2048, .f32⟩
  | .local _ .vmem, ⟨17, _⟩ => ⟨S1x2048, .f32⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x2048, .bf16⟩
  | .local _ .vmem, ⟨23, _⟩ => ⟨S128x2048, .bf16⟩
  | .local _ .vmem, ⟨24, _⟩ => ⟨S128x2048, .bf16⟩
  | .local _ .vmem, ⟨25, _⟩ => ⟨S128x2048, .bf16⟩
  | .local _ .vmem, ⟨26, _⟩ => ⟨S128x2048, .bf16⟩
  | .local _ .vmem, ⟨27, _⟩ => ⟨S128x2048, .bf16⟩
  | .local _ .vmem, ⟨28, _⟩ => ⟨S128x128, .f32⟩
  | .local _ .vmem, ⟨29, _⟩ => ⟨S128x128, .f32⟩
  | .local _ .vmem, ⟨30, _⟩ => ⟨S16x1024, .f32⟩
  | .local _ .vmem, ⟨31, _⟩ => ⟨S1x1024, .f32⟩
  | .local _ .vmem, ⟨32, _⟩ => ⟨S1x512, .f32⟩
  | .local _ .vmem, ⟨33, _⟩ => ⟨S128x2048, .bf16⟩
  | .local _ .vmem, ⟨34, _⟩ => ⟨S128x2048, .bf16⟩
  | .local _ .vmem, ⟨35, _⟩ => ⟨S136x2048, .f32⟩
  | .local _ .vmem, ⟨36, _⟩ => ⟨S136x1024, .f32⟩
  | .local _ .vmem, ⟨37, _⟩ => ⟨S4x128x512, .f32⟩
  | .local _ .vmem, ⟨38, _⟩ => ⟨S4x512x256, .f32⟩
  | _, _ => ⟨S8192x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg22_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_14 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_15 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_16 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_17 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S16x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S128x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceIdeal.lean ====
abbrev S8192x15360 : Shape := ⟨2, ![8192, 15360]⟩
abbrev S8192x128 : Shape := ⟨2, ![8192, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S16x1024 : Shape := ⟨2, ![16, 1024]⟩
abbrev S1024 : Shape := ⟨1, ![1024]⟩
abbrev S512 : Shape := ⟨1, ![512]⟩
abbrev S8192x2048 : Shape := ⟨2, ![8192, 2048]⟩
abbrev S8192x3072 : Shape := ⟨2, ![8192, 3072]⟩
abbrev S8192x1024 : Shape := ⟨2, ![8192, 1024]⟩
abbrev S8192x32 : Shape := ⟨2, ![8192, 32]⟩
abbrev S8192x16 : Shape := ⟨2, ![8192, 16]⟩
abbrev S_ : Shape := ⟨0, ![]⟩
abbrev S8195x3072 : Shape := ⟨2, ![8195, 3072]⟩
abbrev S1x3072 : Shape := ⟨2, ![1, 3072]⟩
abbrev S1x32 : Shape := ⟨2, ![1, 32]⟩
abbrev S8192x32x64 : Shape := ⟨3, ![8192, 32, 64]⟩
abbrev S8192x512 : Shape := ⟨2, ![8192, 512]⟩
abbrev S8192x4x128 : Shape := ⟨3, ![8192, 4, 128]⟩
abbrev S8192x32x1 : Shape := ⟨3, ![8192, 32, 1]⟩
abbrev S8192x4x8x64 : Shape := ⟨4, ![8192, 4, 8, 64]⟩
abbrev S8192x8192 : Shape := ⟨2, ![8192, 8192]⟩
abbrev S8192x8192x1 : Shape := ⟨3, ![8192, 8192, 1]⟩
abbrev S8192x1x32 : Shape := ⟨3, ![8192, 1, 32]⟩
abbrev S1x8192x32 : Shape := ⟨3, ![1, 8192, 32]⟩
abbrev S8192x8192x32 : Shape := ⟨3, ![8192, 8192, 32]⟩
abbrev S8192x8192x4x8 : Shape := ⟨4, ![8192, 8192, 4, 8]⟩
abbrev S4x8192x8192 : Shape := ⟨3, ![4, 8192, 8192]⟩
abbrev S8192x8192x4 : Shape := ⟨3, ![8192, 8192, 4]⟩
abbrev S8192x8192x4x1 : Shape := ⟨4, ![8192, 8192, 4, 1]⟩
abbrev S4x8x64x8192 : Shape := ⟨4, ![4, 8, 64, 8192]⟩
abbrev S32x1 : Shape := ⟨2, ![32, 1]⟩
abbrev S1x32x1 : Shape := ⟨3, ![1, 32, 1]⟩
abbrev S8192x4x512 : Shape := ⟨3, ![8192, 4, 512]⟩
abbrev S8192x4 : Shape := ⟨2, ![8192, 4]⟩
abbrev S8192x4x1 : Shape := ⟨3, ![8192, 4, 1]⟩
abbrev S1x2048 : Shape := ⟨2, ![1, 2048]⟩
abbrev S1x1024 : Shape := ⟨2, ![1, 1024]⟩
abbrev S8192x4x256 : Shape := ⟨3, ![8192, 4, 256]⟩
abbrev S4x512x8192 : Shape := ⟨3, ![4, 512, 8192]⟩
abbrev S1x1x512 : Shape := ⟨3, ![1, 1, 512]⟩

abbrev nBuf : Space → Nat
  | .hbm => 280
  | .vmem => 0
  | .smem => 0
  | _ => 0

abbrev hbmTy0_0 (i : Nat) : BufTy := match i % 128 with
  | 0 => ⟨S8192x15360, .bf16⟩
  | 1 => ⟨S8192x128, .f32⟩
  | 2 => ⟨S4x3072, .f32⟩
  | 3 => ⟨S3072, .f32⟩
  | 4 => ⟨S32, .f32⟩
  | 5 => ⟨S32, .f32⟩
  | 6 => ⟨S32, .f32⟩
  | 7 => ⟨S2048, .f32⟩
  | 8 => ⟨S16x1024, .f32⟩
  | 9 => ⟨S1024, .f32⟩
  | 10 => ⟨S512, .f32⟩
  | 11 => ⟨S8192x2048, .bf16⟩
  | 12 => ⟨S8192x2048, .f32⟩
  | 13 => ⟨S8192x3072, .bf16⟩
  | 14 => ⟨S8192x3072, .f32⟩
  | 15 => ⟨S8192x1024, .bf16⟩
  | 16 => ⟨S8192x1024, .f32⟩
  | 17 => ⟨S8192x2048, .bf16⟩
  | 18 => ⟨S8192x2048, .f32⟩
  | 19 => ⟨S8192x2048, .bf16⟩
  | 20 => ⟨S8192x2048, .f32⟩
  | 21 => ⟨S8192x2048, .bf16⟩
  | 22 => ⟨S8192x2048, .f32⟩
  | 23 => ⟨S8192x2048, .bf16⟩
  | 24 => ⟨S8192x2048, .f32⟩
  | 25 => ⟨S8192x1024, .bf16⟩
  | 26 => ⟨S8192x1024, .f32⟩
  | 27 => ⟨S8192x32, .f32⟩
  | 28 => ⟨S8192x16, .f32⟩
  | 29 => ⟨S_, .i32⟩
  | 30 => ⟨S_, .f32⟩
  | 31 => ⟨S8195x3072, .f32⟩
  | 32 => ⟨S8192x3072, .f32⟩
  | 33 => ⟨S1x3072, .f32⟩
  | 34 => ⟨S3072, .f32⟩
  | 35 => ⟨S1x3072, .f32⟩
  | 36 => ⟨S8192x3072, .f32⟩
  | 37 => ⟨S8192x3072, .f32⟩
  | 38 => ⟨S_, .f32⟩
  | 39 => ⟨S8192x3072, .f32⟩
  | 40 => ⟨S8192x3072, .f32⟩
  | 41 => ⟨S8192x3072, .f32⟩
  | 42 => ⟨S1x3072, .f32⟩
  | 43 => ⟨S3072, .f32⟩
  | 44 => ⟨S1x3072, .f32⟩
  | 45 => ⟨S8192x3072, .f32⟩
  | 46 => ⟨S8192x3072, .f32⟩
  | 47 => ⟨S8192x3072, .f32⟩
  | 48 => ⟨S8192x3072, .f32⟩
  | 49 => ⟨S1x3072, .f32⟩
  | 50 => ⟨S3072, .f32⟩
  | 51 => ⟨S1x3072, .f32⟩
  | 52 => ⟨S8192x3072, .f32⟩
  | 53 => ⟨S8192x3072, .f32⟩
  | 54 => ⟨S8192x3072, .f32⟩
  | 55 => ⟨S8192x3072, .f32⟩
  | 56 => ⟨S1x3072, .f32⟩
  | 57 => ⟨S3072, .f32⟩
  | 58 => ⟨S1x3072, .f32⟩
  | 59 => ⟨S8192x3072, .f32⟩
  | 60 => ⟨S8192x3072, .f32⟩
  | 61 => ⟨S8192x3072, .f32⟩
  | 62 => ⟨S1x3072, .f32⟩
  | 63 => ⟨S8192x3072, .f32⟩
  | 64 => ⟨S8192x3072, .f32⟩
  | 65 => ⟨S8192x3072, .f32⟩
  | 66 => ⟨S8192x3072, .f32⟩
  | 67 => ⟨S_, .f32⟩
  | 68 => ⟨S8192x3072, .f32⟩
  | 69 => ⟨S8192x3072, .f32⟩
  | 70 => ⟨S_, .f32⟩
  | 71 => ⟨S8192x3072, .f32⟩
  | 72 => ⟨S8192x3072, .f32⟩
  | 73 => ⟨S8192x3072, .f32⟩
  | 74 => ⟨S1x32, .f32⟩
  | 75 => ⟨S8192x32, .f32⟩
  | 76 => ⟨S8192x32, .f32⟩
  | 77 => ⟨S_, .f32⟩
  | 78 => ⟨S8192x32, .f32⟩
  | 79 => ⟨S8192x32, .f32⟩
  | 80 => ⟨S8192x32, .f32⟩
  | 81 => ⟨S8192x32, .f32⟩
  | 82 => ⟨S8192x32, .i1⟩
  | 83 => ⟨S8192x32, .f32⟩
  | 84 => ⟨S8192x32, .f32⟩
  | 85 => ⟨S8192x32, .f32⟩
  | 86 => ⟨S8192x32, .f32⟩
  | 87 => ⟨S8192x32, .f32⟩
  | 88 => ⟨S8192x32, .f32⟩
  | 89 => ⟨S8192x32, .f32⟩
  | 90 => ⟨S8192x32, .f32⟩
  | 91 => ⟨S32, .f32⟩
  | 92 => ⟨S32, .f32⟩
  | 93 => ⟨S8192x2048, .f32⟩
  | 94 => ⟨S8192x32x64, .f32⟩
  | 95 => ⟨S8192x512, .f32⟩
  | 96 => ⟨S8192x4x128, .f32⟩
  | 97 => ⟨S8192x512, .f32⟩
  | 98 => ⟨S8192x4x128, .f32⟩
  | 99 => ⟨S8192x32x1, .f32⟩
  | 100 => ⟨S8192x32x64, .f32⟩
  | 101 => ⟨S8192x32x64, .f32⟩
  | 102 => ⟨S8192x4x8x64, .f32⟩
  | 103 => ⟨S1x32, .f32⟩
  | 104 => ⟨S8192x32, .f32⟩
  | 105 => ⟨S8192x32, .f32⟩
  | 106 => ⟨S_, .f32⟩
  | 107 => ⟨S_, .f32⟩
  | 108 => ⟨S8192x32, .f32⟩
  | 109 => ⟨S_, .i1⟩
  | 110 => ⟨S8192x8192, .i1⟩
  | 111 => ⟨S8192x8192, .i32⟩
  | 112 => ⟨S_, .i32⟩
  | 113 => ⟨S8192x8192, .i32⟩
  | 114 => ⟨S8192x8192, .i32⟩
  | 115 => ⟨S8192x8192, .i32⟩
  | 116 => ⟨S8192x8192, .i1⟩
  | 117 => ⟨S_, .i1⟩
  | 118 => ⟨S8192x8192, .i1⟩
  | 119 => ⟨S8192x8192, .i1⟩
  | 120 => ⟨S8192x8192x1, .i1⟩
  | 121 => ⟨S8192x1x32, .f32⟩
  | 122 => ⟨S1x8192x32, .f32⟩
  | 123 => ⟨S8192x8192x32, .f32⟩
  | 124 => ⟨S8192x8192x32, .f32⟩
  | 125 => ⟨S8192x8192x32, .f32⟩
  | 126 => ⟨S_, .f32⟩
  | 127 => ⟨S_, .f32⟩
  | _ => ⟨S8192x15360, .bf16⟩

abbrev hbmTy0_1 (i : Nat) : BufTy := match i % 128 with
  | 0 => ⟨S8192x8192x32, .i1⟩
  | 1 => ⟨S8192x8192x32, .f32⟩
  | 2 => ⟨S8192x8192x32, .f32⟩
  | 3 => ⟨S8192x8192x32, .f32⟩
  | 4 => ⟨S8192x8192x4x8, .f32⟩
  | 5 => ⟨S4x8192x8192, .f32⟩
  | 6 => ⟨S8192x8192x4, .f32⟩
  | 7 => ⟨S8192x8192x4x1, .f32⟩
  | 8 => ⟨S8192x8192x4x8, .f32⟩
  | 9 => ⟨S8192x8192x4x8, .f32⟩
  | 10 => ⟨S4x8x64x8192, .f32⟩
  | 11 => ⟨S8192x4x8x64, .f32⟩
  | 12 => ⟨S8192x32x64, .f32⟩
  | 13 => ⟨S32x1, .f32⟩
  | 14 => ⟨S1x32x1, .f32⟩
  | 15 => ⟨S8192x32x64, .f32⟩
  | 16 => ⟨S8192x32x64, .f32⟩
  | 17 => ⟨S8192x32x64, .f32⟩
  | 18 => ⟨S8192x2048, .f32⟩
  | 19 => ⟨S8192x2048, .f32⟩
  | 20 => ⟨S8192x2048, .f32⟩
  | 21 => ⟨S_, .f32⟩
  | 22 => ⟨S8192x2048, .f32⟩
  | 23 => ⟨S8192x2048, .f32⟩
  | 24 => ⟨S_, .f32⟩
  | 25 => ⟨S8192x2048, .f32⟩
  | 26 => ⟨S8192x2048, .f32⟩
  | 27 => ⟨S8192x2048, .f32⟩
  | 28 => ⟨S8192x2048, .f32⟩
  | 29 => ⟨S8192x4x512, .f32⟩
  | 30 => ⟨S8192x4x512, .f32⟩
  | 31 => ⟨S_, .f32⟩
  | 32 => ⟨S8192x4, .f32⟩
  | 33 => ⟨S8192x4x1, .f32⟩
  | 34 => ⟨S_, .f32⟩
  | 35 => ⟨S8192x4x1, .f32⟩
  | 36 => ⟨S8192x4x1, .f32⟩
  | 37 => ⟨S_, .f32⟩
  | 38 => ⟨S8192x4x1, .f32⟩
  | 39 => ⟨S8192x4x1, .f32⟩
  | 40 => ⟨S8192x4x1, .f32⟩
  | 41 => ⟨S8192x4x512, .f32⟩
  | 42 => ⟨S8192x4x512, .f32⟩
  | 43 => ⟨S8192x2048, .f32⟩
  | 44 => ⟨S1x2048, .f32⟩
  | 45 => ⟨S8192x2048, .f32⟩
  | 46 => ⟨S8192x2048, .f32⟩
  | 47 => ⟨S8192x1024, .f32⟩
  | 48 => ⟨S1x1024, .f32⟩
  | 49 => ⟨S8192x1024, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S8192x1024, .f32⟩
  | 56 => ⟨S8192x1024, .f32⟩
  | 57 => ⟨S8192x1024, .i1⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S8192x4x256, .f32⟩
  | 71 => ⟨S8192x4x256, .f32⟩
  | 72 => ⟨S8192x4x512, .f32⟩
  | 73 => ⟨S8192x4x256, .f32⟩
  | 74 => ⟨S_, .f32⟩
  | 75 => ⟨S_, .f32⟩
  | 76 => ⟨S8192x4x256, .f32⟩
  | 77 => ⟨S_, .i1⟩
  | 78 => ⟨S8192x8192, .i1⟩
  | 79 => ⟨S8192x8192, .i32⟩
  | 80 => ⟨S_, .i32⟩
  | 81 => ⟨S8192x8192, .i32⟩
  | 82 => ⟨S8192x8192, .i32⟩
  | 83 => ⟨S8192x8192, .i32⟩
  | 84 => ⟨S8192x8192, .i1⟩
  | 85 => ⟨S_, .i1⟩
  | 86 => ⟨S8192x8192, .i1⟩
  | 87 => ⟨S8192x8192, .i1⟩
  | 88 => ⟨S_, .f32⟩
  | 89 => ⟨S8192x4x256, .f32⟩
  | 90 => ⟨S8192x4x256, .f32⟩
  | 91 => ⟨S8192x4x256, .f32⟩
  | 92 => ⟨S8192x4x256, .f32⟩
  | 93 => ⟨S8192x4x256, .f32⟩
  | 94 => ⟨S8192x4x256, .f32⟩
  | 95 => ⟨S8192x4x256, .f32⟩
  | 96 => ⟨S4x8192x8192, .f32⟩
  | 97 => ⟨S_, .f32⟩
  | 98 => ⟨S_, .f32⟩
  | 99 => ⟨S4x8192x8192, .i1⟩
  | 100 => ⟨S4x8192x8192, .f32⟩
  | 101 => ⟨S4x8192x8192, .f32⟩
  | 102 => ⟨S4x512x8192, .f32⟩
  | 103 => ⟨S8192x4x512, .f32⟩
  | 104 => ⟨S8192x4x512, .f32⟩
  | 105 => ⟨S_, .f32⟩
  | 106 => ⟨S8192x4, .f32⟩
  | 107 => ⟨S8192x4x1, .f32⟩
  | 108 => ⟨S_, .f32⟩
  | 109 => ⟨S8192x4x1, .f32⟩
  | 110 => ⟨S8192x4x1, .f32⟩
  | 111 => ⟨S_, .f32⟩
  | 112 => ⟨S8192x4x1, .f32⟩
  | 113 => ⟨S8192x4x1, .f32⟩
  | 114 => ⟨S8192x4x1, .f32⟩
  | 115 => ⟨S8192x4x512, .f32⟩
  | 116 => ⟨S8192x4x512, .f32⟩
  | 117 => ⟨S1x1x512, .f32⟩
  | 118 => ⟨S8192x4x512, .f32⟩
  | 119 => ⟨S8192x4x512, .f32⟩
  | 120 => ⟨S8192x4x512, .f32⟩
  | 121 => ⟨S8192x4x512, .f32⟩
  | 122 => ⟨S8192x4x512, .f32⟩
  | 123 => ⟨S_, .f32⟩
  | 124 => ⟨S8192x4x512, .f32⟩
  | 125 => ⟨S8192x4x512, .f32⟩
  | 126 => ⟨S_, .f32⟩
  | 127 => ⟨S8192x4x512, .f32⟩
  | _ => ⟨S8192x15360, .bf16⟩

abbrev hbmTy0_2 (i : Nat) : BufTy := match i % 128 with
  | 0 => ⟨S8192x4x512, .f32⟩
  | 1 => ⟨S8192x4x512, .f32⟩
  | 2 => ⟨S8192x4x512, .f32⟩
  | 3 => ⟨S8192x2048, .f32⟩
  | 4 => ⟨S8192x2048, .f32⟩
  | 5 => ⟨S8192x2048, .f32⟩
  | 6 => ⟨S_, .f32⟩
  | 7 => ⟨S8192x2048, .f32⟩
  | 8 => ⟨S8192x2048, .f32⟩
  | 9 => ⟨S_, .f32⟩
  | 10 => ⟨S8192x2048, .f32⟩
  | 11 => ⟨S8192x2048, .f32⟩
  | 12 => ⟨S8192x2048, .f32⟩
  | 13 => ⟨S8192x2048, .f32⟩
  | 14 => ⟨S8192x2048, .f32⟩
  | 15 => ⟨S_, .f32⟩
  | 16 => ⟨S8192x2048, .f32⟩
  | 17 => ⟨S8192x2048, .f32⟩
  | 18 => ⟨S_, .f32⟩
  | 19 => ⟨S8192x2048, .f32⟩
  | 20 => ⟨S8192x2048, .f32⟩
  | 21 => ⟨S8192x2048, .f32⟩
  | 22 => ⟨S8192x2048, .f32⟩
  | 23 => ⟨S8192x2048, .bf16⟩
  | _ => ⟨S8192x15360, .bf16⟩

abbrev hbmTy (i : Nat) : BufTy := match i / 128 with
  | 0 => hbmTy0_0 i
  | 1 => hbmTy0_1 i
  | 2 => hbmTy0_2 i
  | _ => ⟨S8192x15360, .bf16⟩

abbrev bufTy : (tb : Table) → Fin (tcTables nBuf tb) → BufTy
  | .hbm, ⟨i, _⟩ => hbmTy i
  | _, _ => ⟨S8192x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_call3_call0_cst : Ref sig .tc := ⟨.hbm, 106, rfl⟩
abbrev main_call3_call0_v0 : Ref sig .tc := ⟨.hbm, 107, rfl⟩
abbrev main_v71 : Ref sig .tc := ⟨.hbm, 108, rfl⟩
abbrev main_c_0 : Ref sig .tc := ⟨.hbm, 109, rfl⟩
abbrev main_v72 : Ref sig .tc := ⟨.hbm, 110, rfl⟩
abbrev main_call4_v0 : Ref sig .tc := ⟨.hbm, 111, rfl⟩
abbrev main_call4_c : Ref sig .tc := ⟨.hbm, 112, rfl⟩
abbrev main_call4_v1 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_c_0 : Ref sig .tc := ⟨.hbm, 117, rfl⟩
abbrev main_call4_v5 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_1 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_call6_v0 : Ref sig .tc := ⟨.hbm, 147, rfl⟩
abbrev main_call6_v1 : Ref sig .tc := ⟨.hbm, 148, rfl⟩
abbrev main_call6_cst : Ref sig .tc := ⟨.hbm, 149, rfl⟩
abbrev main_call6_v2 : Ref sig .tc := ⟨.hbm, 150, rfl⟩
abbrev main_call6_v3 : Ref sig .tc := ⟨.hbm, 151, rfl⟩
abbrev main_call6_cst_0 : Ref sig .tc := ⟨.hbm, 152, rfl⟩
abbrev main_call6_v4 : Ref sig .tc := ⟨.hbm, 153, rfl⟩
abbrev main_call6_v5 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_2 : Ref sig .tc := ⟨.hbm, 159, rfl⟩
abbrev main_v101 : Ref sig .tc := ⟨.hbm, 160, rfl⟩
abbrev main_v102 : Ref sig .tc := ⟨.hbm, 161, rfl⟩
abbrev main_cst_3 : Ref sig .tc := ⟨.hbm, 162, rfl⟩
abbrev main_v103 : Ref sig .tc := ⟨.hbm, 163, rfl⟩
abbrev main_v104 : Ref sig .tc := ⟨.hbm, 164, rfl⟩
abbrev main_cst_4 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_call7_v0 : Ref sig .tc := ⟨.hbm, 179, rfl⟩
abbrev main_call7_call0_cst : Ref sig .tc := ⟨.hbm, 180, rfl⟩
abbrev main_call7_call0_v0 : Ref sig .tc := ⟨.hbm, 181, rfl⟩
abbrev main_call7_call0_v1 : Ref sig .tc := ⟨.hbm, 182, rfl⟩
abbrev main_call7_call0_v2 : Ref sig .tc := ⟨.hbm, 183, rfl⟩
abbrev main_call7_call0_v3 : Ref sig .tc := ⟨.hbm, 184, rfl⟩
abbrev main_call7_call0_v4 : Ref sig .tc := ⟨.hbm, 185, rfl⟩
abbrev main_call7_call0_v5 : Ref sig .tc := ⟨.hbm, 186, rfl⟩
abbrev main_call7_call0_v6 : Ref sig .tc := ⟨.hbm, 187, rfl⟩
abbrev main_call7_call0_v7 : Ref sig .tc := ⟨.hbm, 188, rfl⟩
abbrev main_call7_call0_v8 : Ref sig .tc := ⟨.hbm, 189, rfl⟩
abbrev main_call7_call0_v9 : Ref sig .tc := ⟨.hbm, 190, rfl⟩
abbrev main_call7_call0_v10 : Ref sig .tc := ⟨.hbm, 191, rfl⟩
abbrev main_call7_call0_v11 : Ref sig .tc := ⟨.hbm, 192, rfl⟩
abbrev main_call7_v1 : Ref sig .tc := ⟨.hbm, 193, rfl⟩
abbrev main_v118 : Ref sig .tc := ⟨.hbm, 194, rfl⟩
abbrev main_cst_5 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_call8_call0_cst : Ref sig .tc := ⟨.hbm, 202, rfl⟩
abbrev main_call8_call0_v0 : Ref sig .tc := ⟨.hbm, 203, rfl⟩
abbrev main_v125 : Ref sig .tc := ⟨.hbm, 204, rfl⟩
abbrev main_c_6 : Ref sig .tc := ⟨.hbm, 205, rfl⟩
abbrev main_v126 : Ref sig .tc := ⟨.hbm, 206, rfl⟩
abbrev main_call9_v0 : Ref sig .tc := ⟨.hbm, 207, rfl⟩
abbrev main_call9_c : Ref sig .tc := ⟨.hbm, 208, rfl⟩
abbrev main_call9_v1 : Ref sig .tc := ⟨.hbm, 209, rfl⟩
abbrev main_call9_v2 : Ref sig .tc := ⟨.hbm, 210, rfl⟩
abbrev main_call9_v3 : Ref sig .tc := ⟨.hbm, 211, rfl⟩
abbrev main_call9_v4 : Ref sig .tc := ⟨.hbm, 212, rfl⟩
abbrev main_call9_c_0 : Ref sig .tc := ⟨.hbm, 213, rfl⟩
abbrev main_call9_v5 : Ref sig .tc := ⟨.hbm, 214, rfl⟩
abbrev main_v127 : Ref sig .tc := ⟨.hbm, 215, rfl⟩
abbrev main_cst_7 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_cst_8 : Ref sig .tc := ⟨.hbm, 225, rfl⟩
abbrev main_call10_v0 : Ref sig .tc := ⟨.hbm, 226, rfl⟩
abbrev main_call10_v1 : Ref sig .tc := ⟨.hbm, 227, rfl⟩
abbrev main_call10_v2 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_cst_9 : Ref sig .tc := ⟨.hbm, 233, rfl⟩
abbrev main_v140 : Ref sig .tc := ⟨.hbm, 234, rfl⟩
abbrev main_v141 : Ref sig .tc := ⟨.hbm, 235, rfl⟩
abbrev main_cst_10 : Ref sig .tc := ⟨.hbm, 236, rfl⟩
abbrev main_v142 : Ref sig .tc := ⟨.hbm, 237, rfl⟩
abbrev main_v143 : Ref sig .tc := ⟨.hbm, 238, rfl⟩
abbrev main_cst_11 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_call11_v0 : Ref sig .tc := ⟨.hbm, 249, rfl⟩
abbrev main_call11_v1 : Ref sig .tc := ⟨.hbm, 250, rfl⟩
abbrev main_call11_cst : Ref sig .tc := ⟨.hbm, 251, rfl⟩
abbrev main_call11_v2 : Ref sig .tc := ⟨.hbm, 252, rfl⟩
abbrev main_call11_v3 : Ref sig .tc := ⟨.hbm, 253, rfl⟩
abbrev main_call11_cst_0 : Ref sig .tc := ⟨.hbm, 254, rfl⟩
abbrev main_call11_v4 : Ref sig .tc := ⟨.hbm, 255, rfl⟩
abbrev main_call11_v5 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_cst_12 : Ref sig .tc := ⟨.hbm, 262, rfl⟩
abbrev main_v158 : Ref sig .tc := ⟨.hbm, 263, rfl⟩
abbrev main_v159 : Ref sig .tc := ⟨.hbm, 264, rfl⟩
abbrev main_cst_13 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_cst_14 : Ref sig .tc := ⟨.hbm, 271, rfl⟩
abbrev main_v165 : Ref sig .tc := ⟨.hbm, 272, rfl⟩
abbrev main_v166 : Ref sig .tc := ⟨.hbm, 273, rfl⟩
abbrev main_cst_15 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_v171 : Ref sig .tc := ⟨.hbm, 279, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S1x2048 : Shape := ⟨2, ![1, 2048]⟩
abbrev S2048x15360 : Shape := ⟨2, ![2048, 15360]⟩
abbrev S128x2048 : Shape := ⟨2, ![128, 2048]⟩
abbrev S8192x15360 : Shape := ⟨2, ![8192, 15360]⟩
abbrev S8192x128 : Shape := ⟨2, ![8192, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x15360, .bf16⟩
  | .hbm, ⟨5, _⟩ => ⟨S128x2048, .f32⟩
  | .hbm, ⟨6, _⟩ => ⟨S1x2048, .f32⟩
  | .hbm, ⟨7, _⟩ => ⟨S8192x15360, .bf16⟩
  | .hbm, ⟨8, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S128x2048, .f32⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 15], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S8192x2048 : Shape := ⟨2, ![8192, 2048]⟩
abbrev S2048 : Shape := ⟨1, ![2048]⟩
abbrev S1x2048 : Shape := ⟨2, ![1, 2048]⟩
abbrev S2048x15360 : Shape := ⟨2, ![2048, 15360]⟩
abbrev S128x2048 : Shape := ⟨2, ![128, 2048]⟩
abbrev S_ : Shape := ⟨0, ![]⟩
abbrev S8192 : Shape := ⟨1, ![8192]⟩
abbrev S8192x1 : Shape := ⟨2, ![8192, 1]⟩
abbrev S8192x15360 : Shape := ⟨2, ![8192, 15360]⟩
abbrev S2048x128 : Shape := ⟨2, ![2048, 128]⟩
abbrev S8192x128 : Shape := ⟨2, ![8192, 128]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x15360, .bf16⟩
  | .hbm, ⟨5, _⟩ => ⟨S128x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S2048x15360, .f32⟩
  | .hbm, ⟨30, _⟩ => ⟨S8192x15360, .f32⟩
  | .hbm, ⟨31, _⟩ => ⟨S8192x15360, .bf16⟩
  | .hbm, ⟨32, _⟩ => ⟨S2048x128, .f32⟩
  | .hbm, ⟨33, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S64x2048 : Shape := ⟨2, ![64, 2048]⟩
abbrev S64x8192 : Shape := ⟨2, ![64, 8192]⟩
abbrev S512x2048 : Shape := ⟨2, ![512, 2048]⟩
abbrev S64x512 : Shape := ⟨2, ![64, 512]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S64x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S64x8192, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S64x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S64x512, .f32⟩
  | .local _ .vmem, ⟨15, _⟩ => ⟨S64x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S64x2048 : Shape := ⟨2, ![64, 2048]⟩
abbrev S_ : Shape := ⟨0, ![]⟩
abbrev S8192 : Shape := ⟨1, ![8192]⟩
abbrev S8192x1 : Shape := ⟨2, ![8192, 1]⟩
abbrev S2048x64 : Shape := ⟨2, ![2048, 64]⟩
abbrev S8192x64 : Shape := ⟨2, ![8192, 64]⟩
abbrev S64x8192 : Shape := ⟨2, ![64, 8192]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S64x2048, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S2048x64, .f32⟩
  | .hbm, ⟨38, _⟩ => ⟨S8192x64, .f32⟩
  | .hbm, ⟨39, _⟩ => ⟨S64x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel4.lean ====
abbrev S1x2048 : Shape := ⟨2, ![1, 2048]⟩
abbrev S2048x12288 : Shape := ⟨2, ![2048, 12288]⟩
abbrev S12288 : Shape := ⟨1, ![12288]⟩
abbrev S2048x1 : Shape := ⟨2, ![2048, 1]⟩
abbrev S1x12288 : Shape := ⟨2, ![1, 12288]⟩
abbrev S2048x1024 : Shape := ⟨2, ![2048, 1024]⟩
abbrev S1x1024 : Shape := ⟨2, ![1, 1024]⟩
abbrev S1024 : Shape := ⟨1, ![1024]⟩

abbrev nBuf : Space → Nat
  | .hbm => 6
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S2048x12288, .f32⟩
  | .hbm, ⟨2, _⟩ => ⟨S12288, .f32⟩
  | .hbm, ⟨3, _⟩ => ⟨S2048x1, .f32⟩
  | .hbm, ⟨4, _⟩ => ⟨S1x12288, .f32⟩
  | .hbm, ⟨5, _⟩ => ⟨S1x12288, .f32⟩
  | .local _ .vmem, ⟨0, _⟩ => ⟨S2048x1, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S1x2048 : Shape := ⟨2, ![1, 2048]⟩
abbrev S2048x12288 : Shape := ⟨2, ![2048, 12288]⟩
abbrev S12288 : Shape := ⟨1, ![12288]⟩
abbrev S_ : Shape := ⟨0, ![]⟩
abbrev S1x12288 : Shape := ⟨2, ![1, 12288]⟩

abbrev nBuf : Space → Nat
  | .hbm => 15
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2048x12288, .f32⟩
  | .hbm, ⟨2, _⟩ => ⟨S12288, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x12288, .f32⟩
  | .hbm, ⟨13, _⟩ => ⟨S1x12288, .f32⟩
  | .hbm, ⟨14, _⟩ => ⟨S1x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.Mixer.RunA.lean ====
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) :
    Σ' (L22 : List (View.Piece (Elt F) S128x2048 .bf16)), Σ' (LS0 : List (View.Piece (Elt F) S136x2048 .f32)), Σ' (LS1 : List (View.Piece (Elt F) S136x1024 .f32)), Σ' (LS2 : List (View.Piece (Elt F) S4x128x512 .f32)), { LS3 : List (View.Piece (Elt F) S4x512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2) ∗ (∃ f, arg27.view.loc (c : Thread nD τ) ↦[arg27.view.set]{fullShare} arg27.view.writes (Elt F) f LS3)) -∗ K ⟨⟩))
          ⊢ wp frame (wpE (defs₀ (F := F)) Variants.none c none) E (cc0_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, fun E K => ?run⟩
  case run =>
    simp only [cc0_mixer_eq_skeleton]; unfold cc0_mixer_skel
    simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [HS0]; · iexists _; iexact HS0
    isplitl [HS1]; · iexists _; iexact HS1
    isplitl [HS2]; · iexists _; iexact HS2
    iexists _; iexact HS3

end Cert.KernelIdeal.Mixer

end
-- ==== Proof.Mixer.Frame.lean ====
module

public import proofs.«01_k».proof.Proof.Mixer.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 22 tile its block (2 stores of `S64x2048`, checked by the kernel's evaluation: Lib/Ring.lean `Piece.tiledL`, linear in the pieces, through a loop's `@[irreducible]` trip theorem too), so they cover it. -/
theorem cover0_A_22 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) (y : S128x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21).1 S64x2048.size (by sl_kernel_rfl) y

/-- What case A leaves in output 22's staging buffer: its pieces read back over junk. -/
def out0_A_22 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) : Vec F S128x2048 .bf16 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21).1)

/-- Case A's pieces for scratch `arg24`, which the kernel carries between points, cover it: one of them a store of the WHOLE buffer (Lib/Ring.lean `sl_whole_mem`). -/
theorem scover0_A_0 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) (y : S136x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21).2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21).2.1 (by sl_whole_mem) y

/-- What case A leaves in scratch `arg24`: its pieces read back over junk. -/
def sout0_A_0 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) : Vec F S136x2048 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21).2.1)

/-- Case A's pieces for scratch `arg25`, which the kernel carries between points, cover it: one of them a store of the WHOLE buffer (Lib/Ring.lean `sl_whole_mem`). -/
theorem scover0_A_1 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) (y : S136x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21).2.2.1 (by sl_whole_mem) y

/-- What case A leaves in scratch `arg25`: its pieces read back over junk. -/
def sout0_A_1 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) : Vec F S136x1024 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21).2.2.1)

/-- Case A's pieces for scratch `arg26`, which the kernel carries between points, cover it: one of them a store of the WHOLE buffer (Lib/Ring.lean `sl_whole_mem`). -/
theorem scover0_A_2 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) (y : S4x128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21).2.2.2.1 (by sl_whole_mem) y

/-- What case A leaves in scratch `arg26`: its pieces read back over junk. -/
def sout0_A_2 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) : Vec F S4x128x512 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21).2.2.2.1)

/-- Case A's pieces for scratch `arg27`, which the kernel carries between points, cover it: one of them a store of the WHOLE buffer (Lib/Ring.lean `sl_whole_mem`). -/
theorem scover0_A_3 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) (y : S4x512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21).2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21).2.2.2.2.1 (by sl_whole_mem) y

/-- What case A leaves in scratch `arg27`: its pieces read back over junk. -/
def sout0_A_3 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) : Vec F S4x512x256 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21).2.2.2.2.1)

/-- Case B's pieces for output 22 tile its block (2 stores of `S64x2048`, checked by the kernel's evaluation: Lib/Ring.lean `Piece.tiledL`, linear in the pieces, through a loop's `@[irreducible]` trip theorem too), so they cover it. -/
theorem cover0_B_22 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : ¬cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) (xs0 : Vec F S136x2048 .f32) (xs1 : Vec F S136x1024 .f32) (xs2 : Vec F S4x128x512 .f32) (xs3 : Vec F S4x512x256 .f32) (y : S128x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21 xs0 xs1 xs2 xs3).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21 xs0 xs1 xs2 xs3).1 S64x2048.size (by sl_kernel_rfl) y

/-- What case B leaves in output 22's staging buffer: its pieces read back over junk. -/
def out0_B_22 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : ¬cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) (xs0 : Vec F S136x2048 .f32) (xs1 : Vec F S136x1024 .f32) (xs2 : Vec F S4x128x512 .f32) (xs3 : Vec F S4x512x256 .f32) : Vec F S128x2048 .bf16 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21 xs0 xs1 xs2 xs3).1)

/-- Case B's pieces for scratch `arg24`, which the kernel carries between points, cover it: 2 pieces (stores and landed copies) of several sizes (`S128x2048`, `S8x2048`) tiling it when cut into blocks of `![8, 2048]` (Lib/Ring.lean `Piece.tiledBy`). -/
theorem scover0_B_0 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : ¬cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) (xs0 : Vec F S136x2048 .f32) (xs1 : Vec F S136x1024 .f32) (xs2 : Vec F S4x128x512 .f32) (xs3 : Vec F S4x512x256 .f32) (y : S136x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21 xs0 xs1 xs2 xs3).2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21 xs0 xs1 xs2 xs3).2.1 ![8, 2048] (by sl_kernel_rfl) y

/-- What case B leaves in scratch `arg24`: its pieces read back over junk. -/
def sout0_B_0 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : ¬cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) (xs0 : Vec F S136x2048 .f32) (xs1 : Vec F S136x1024 .f32) (xs2 : Vec F S4x128x512 .f32) (xs3 : Vec F S4x512x256 .f32) : Vec F S136x2048 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21 xs0 xs1 xs2 xs3).2.1)

/-- Case B's pieces for scratch `arg25`, which the kernel carries between points, cover it: 2 pieces (stores and landed copies) of several sizes (`S128x1024`, `S8x1024`) tiling it when cut into blocks of `![8, 1024]` (Lib/Ring.lean `Piece.tiledBy`). -/
theorem scover0_B_1 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : ¬cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) (xs0 : Vec F S136x2048 .f32) (xs1 : Vec F S136x1024 .f32) (xs2 : Vec F S4x128x512 .f32) (xs3 : Vec F S4x512x256 .f32) (y : S136x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21 xs0 xs1 xs2 xs3).2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21 xs0 xs1 xs2 xs3).2.2.1 ![8, 1024] (by sl_kernel_rfl) y

/-- What case B leaves in scratch `arg25`: its pieces read back over junk. -/
def sout0_B_1 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : ¬cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) (xs0 : Vec F S136x2048 .f32) (xs1 : Vec F S136x1024 .f32) (xs2 : Vec F S4x128x512 .f32) (xs3 : Vec F S4x512x256 .f32) : Vec F S136x1024 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21 xs0 xs1 xs2 xs3).2.2.1)

/-- Case B's pieces for scratch `arg26`, which the kernel carries between points, cover it: 4 pieces of `S1x128x512` tiling it (Lib/Ring.lean `Piece.tiledL`). -/
theorem scover0_B_2 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : ¬cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) (xs0 : Vec F S136x2048 .f32) (xs1 : Vec F S136x1024 .f32) (xs2 : Vec F S4x128x512 .f32) (xs3 : Vec F S4x512x256 .f32) (y : S4x128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21 xs0 xs1 xs2 xs3).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21 xs0 xs1 xs2 xs3).2.2.2.1 S1x128x512.size (by sl_kernel_rfl) y

/-- What case B leaves in scratch `arg26`: its pieces read back over junk. -/
def sout0_B_2 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : ¬cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) (xs0 : Vec F S136x2048 .f32) (xs1 : Vec F S136x1024 .f32) (xs2 : Vec F S4x128x512 .f32) (xs3 : Vec F S4x512x256 .f32) : Vec F S4x128x512 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21 xs0 xs1 xs2 xs3).2.2.2.1)

/-- Case B's pieces for scratch `arg27`, which the kernel carries between points, cover it: 8 pieces of `S1x512x256` tiling it (Lib/Ring.lean `Piece.tiledL`). -/
theorem scover0_B_3 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : ¬cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) (xs0 : Vec F S136x2048 .f32) (xs1 : Vec F S136x1024 .f32) (xs2 : Vec F S4x128x512 .f32) (xs3 : Vec F S4x512x256 .f32) (y : S4x512x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21 xs0 xs1 xs2 xs3).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21 xs0 xs1 xs2 xs3).2.2.2.2.1 S1x512x256.size (by sl_kernel_rfl) y

/-- What case B leaves in scratch `arg27`: its pieces read back over junk. -/
def sout0_B_3 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x128 .f32) (harg5 : arg5.IsWhole) (arg6 : Memref sig .tc .vmem S4x2048 .f32) (harg6 : arg6.IsWhole) (arg7 : Memref sig .tc .vmem S4x1024 .f32) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x2048 .bf16) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S128x128 .f32) (harg19 : arg19.IsWhole) (arg20 : Memref sig .tc .vmem S16x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S128x2048 .bf16) (harg23 : arg23.IsWhole) (arg24 : Memref sig .tc .vmem S136x2048 .f32) (harg24 : arg24.IsWhole) (arg25 : Memref sig .tc .vmem S136x1024 .f32) (harg25 : arg25.IsWhole) (arg26 : Memref sig .tc .vmem S4x128x512 .f32) (harg26 : arg26.IsWhole) (arg27 : Memref sig .tc .vmem S4x512x256 .f32) (harg27 : arg27.IsWhole) (hc0 : ¬cond0_0 i)
    (x0 : Vec F S128x2048 .bf16) (x1 : Vec F S128x1024 .bf16) (x2 : Vec F S128x2048 .bf16) (x3 : Vec F S128x2048 .bf16) (x4 : Vec F S128x128 .f32) (x5 : Vec F S4x2048 .f32) (x6 : Vec F S4x1024 .f32) (x7 : Vec F S1x2048 .f32) (x8 : Vec F S1x1024 .f32) (x9 : Vec F S1x32 .f32) (x10 : Vec F S1x32 .f32) (x11 : Vec F S1x2048 .f32) (x12 : Vec F S1x2048 .f32) (x13 : Vec F S128x1024 .bf16) (x14 : Vec F S128x1024 .bf16) (x15 : Vec F S128x2048 .bf16) (x16 : Vec F S128x2048 .bf16) (x17 : Vec F S128x2048 .bf16) (x18 : Vec F S128x128 .f32) (x19 : Vec F S16x1024 .f32) (x20 : Vec F S1x1024 .f32) (x21 : Vec F S1x512 .f32) (xs0 : Vec F S136x2048 .f32) (xs1 : Vec F S136x1024 .f32) (xs2 : Vec F S4x128x512 .f32) (xs3 : Vec F S4x512x256 .f32) : Vec F S4x512x256 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17 x18 x19 x20 x21 xs0 xs1 xs2 xs3).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x2048 .bf16 × Vec F S136x2048 .f32 × Vec F S136x1024 .f32 × Vec F S4x128x512 .f32 × Vec F S4x512x256 .f32
  | 0, hn => (out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (iblk m c 1 ⟨0, hn⟩) (X0_2 m c ⟨0, hn⟩) (X0_3 m c ⟨0, hn⟩) (iblk m c 4 ⟨0, hn⟩) (X0_5 m c ⟨0, hn⟩) (iblk m c 6 ⟨0, hn⟩) (X0_7 m c ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (X0_15 m c ⟨0, hn⟩) (X0_16 m c ⟨0, hn⟩) (X0_17 m c ⟨0, hn⟩) (iblk m c 18 ⟨0, hn⟩) (iblk m c 19 ⟨0, hn⟩) (iblk m c 20 ⟨0, hn⟩) (iblk m c 21 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (iblk m c 1 ⟨0, hn⟩) (X0_2 m c ⟨0, hn⟩) (X0_3 m c ⟨0, hn⟩) (iblk m c 4 ⟨0, hn⟩) (X0_5 m c ⟨0, hn⟩) (iblk m c 6 ⟨0, hn⟩) (X0_7 m c ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (X0_15 m c ⟨0, hn⟩) (X0_16 m c ⟨0, hn⟩) (X0_17 m c ⟨0, hn⟩) (iblk m c 18 ⟨0, hn⟩) (iblk m c 19 ⟨0, hn⟩) (iblk m c 20 ⟨0, hn⟩) (iblk m c 21 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (iblk m c 1 ⟨0, hn⟩) (X0_2 m c ⟨0, hn⟩) (X0_3 m c ⟨0, hn⟩) (iblk m c 4 ⟨0, hn⟩) (X0_5 m c ⟨0, hn⟩) (iblk m c 6 ⟨0, hn⟩) (X0_7 m c ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (X0_15 m c ⟨0, hn⟩) (X0_16 m c ⟨0, hn⟩) (X0_17 m c ⟨0, hn⟩) (iblk m c 18 ⟨0, hn⟩) (iblk m c 19 ⟨0, hn⟩) (iblk m c 20 ⟨0, hn⟩) (iblk m c 21 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (iblk m c 1 ⟨0, hn⟩) (X0_2 m c ⟨0, hn⟩) (X0_3 m c ⟨0, hn⟩) (iblk m c 4 ⟨0, hn⟩) (X0_5 m c ⟨0, hn⟩) (iblk m c 6 ⟨0, hn⟩) (X0_7 m c ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (X0_15 m c ⟨0, hn⟩) (X0_16 m c ⟨0, hn⟩) (X0_17 m c ⟨0, hn⟩) (iblk m c 18 ⟨0, hn⟩) (iblk m c 19 ⟨0, hn⟩) (iblk m c 20 ⟨0, hn⟩) (iblk m c 21 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (iblk m c 1 ⟨0, hn⟩) (X0_2 m c ⟨0, hn⟩) (X0_3 m c ⟨0, hn⟩) (iblk m c 4 ⟨0, hn⟩) (X0_5 m c ⟨0, hn⟩) (iblk m c 6 ⟨0, hn⟩) (X0_7 m c ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (X0_15 m c ⟨0, hn⟩) (X0_16 m c ⟨0, hn⟩) (X0_17 m c ⟨0, hn⟩) (iblk m c 18 ⟨0, hn⟩) (iblk m c 19 ⟨0, hn⟩) (iblk m c 20 ⟨0, hn⟩) (iblk m c 21 ⟨0, hn⟩))
  | n + 1, hn =>
    if h0 : (n + 1) % 64 = 0 then
      (out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (iblk m c 1 ⟨n + 1, hn⟩) (X0_2 m c ⟨n + 1, hn⟩) (X0_3 m c ⟨n + 1, hn⟩) (iblk m c 4 ⟨n + 1, hn⟩) (X0_5 m c ⟨n + 1, hn⟩) (iblk m c 6 ⟨n + 1, hn⟩) (X0_7 m c ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (X0_15 m c ⟨n + 1, hn⟩) (X0_16 m c ⟨n + 1, hn⟩) (X0_17 m c ⟨n + 1, hn⟩) (iblk m c 18 ⟨n + 1, hn⟩) (iblk m c 19 ⟨n + 1, hn⟩) (iblk m c 20 ⟨n + 1, hn⟩) (iblk m c 21 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (iblk m c 1 ⟨n + 1, hn⟩) (X0_2 m c ⟨n + 1, hn⟩) (X0_3 m c ⟨n + 1, hn⟩) (iblk m c 4 ⟨n + 1, hn⟩) (X0_5 m c ⟨n + 1, hn⟩) (iblk m c 6 ⟨n + 1, hn⟩) (X0_7 m c ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (X0_15 m c ⟨n + 1, hn⟩) (X0_16 m c ⟨n + 1, hn⟩) (X0_17 m c ⟨n + 1, hn⟩) (iblk m c 18 ⟨n + 1, hn⟩) (iblk m c 19 ⟨n + 1, hn⟩) (iblk m c 20 ⟨n + 1, hn⟩) (iblk m c 21 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (iblk m c 1 ⟨n + 1, hn⟩) (X0_2 m c ⟨n + 1, hn⟩) (X0_3 m c ⟨n + 1, hn⟩) (iblk m c 4 ⟨n + 1, hn⟩) (X0_5 m c ⟨n + 1, hn⟩) (iblk m c 6 ⟨n + 1, hn⟩) (X0_7 m c ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (X0_15 m c ⟨n + 1, hn⟩) (X0_16 m c ⟨n + 1, hn⟩) (X0_17 m c ⟨n + 1, hn⟩) (iblk m c 18 ⟨n + 1, hn⟩) (iblk m c 19 ⟨n + 1, hn⟩) (iblk m c 20 ⟨n + 1, hn⟩) (iblk m c 21 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (iblk m c 1 ⟨n + 1, hn⟩) (X0_2 m c ⟨n + 1, hn⟩) (X0_3 m c ⟨n + 1, hn⟩) (iblk m c 4 ⟨n + 1, hn⟩) (X0_5 m c ⟨n + 1, hn⟩) (iblk m c 6 ⟨n + 1, hn⟩) (X0_7 m c ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (X0_15 m c ⟨n + 1, hn⟩) (X0_16 m c ⟨n + 1, hn⟩) (X0_17 m c ⟨n + 1, hn⟩) (iblk m c 18 ⟨n + 1, hn⟩) (iblk m c 19 ⟨n + 1, hn⟩) (iblk m c 20 ⟨n + 1, hn⟩) (iblk m c 21 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (iblk m c 1 ⟨n + 1, hn⟩) (X0_2 m c ⟨n + 1, hn⟩) (X0_3 m c ⟨n + 1, hn⟩) (iblk m c 4 ⟨n + 1, hn⟩) (X0_5 m c ⟨n + 1, hn⟩) (iblk m c 6 ⟨n + 1, hn⟩) (X0_7 m c ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (X0_15 m c ⟨n + 1, hn⟩) (X0_16 m c ⟨n + 1, hn⟩) (X0_17 m c ⟨n + 1, hn⟩) (iblk m c 18 ⟨n + 1, hn⟩) (iblk m c 19 ⟨n + 1, hn⟩) (iblk m c 20 ⟨n + 1, hn⟩) (iblk m c 21 ⟨n + 1, hn⟩))
    else
      (out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (iblk m c 1 ⟨n + 1, hn⟩) (X0_2 m c ⟨n + 1, hn⟩) (X0_3 m c ⟨n + 1, hn⟩) (iblk m c 4 ⟨n + 1, hn⟩) (X0_5 m c ⟨n + 1, hn⟩) (iblk m c 6 ⟨n + 1, hn⟩) (X0_7 m c ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (X0_15 m c ⟨n + 1, hn⟩) (X0_16 m c ⟨n + 1, hn⟩) (X0_17 m c ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (iblk m c 1 ⟨n + 1, hn⟩) (X0_2 m c ⟨n + 1, hn⟩) (X0_3 m c ⟨n + 1, hn⟩) (iblk m c 4 ⟨n + 1, hn⟩) (X0_5 m c ⟨n + 1, hn⟩) (iblk m c 6 ⟨n + 1, hn⟩) (X0_7 m c ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (X0_15 m c ⟨n + 1, hn⟩) (X0_16 m c ⟨n + 1, hn⟩) (X0_17 m c ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (iblk m c 1 ⟨n + 1, hn⟩) (X0_2 m c ⟨n + 1, hn⟩) (X0_3 m c ⟨n + 1, hn⟩) (iblk m c 4 ⟨n + 1, hn⟩) (X0_5 m c ⟨n + 1, hn⟩) (iblk m c 6 ⟨n + 1, hn⟩) (X0_7 m c ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (X0_15 m c ⟨n + 1, hn⟩) (X0_16 m c ⟨n + 1, hn⟩) (X0_17 m c ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (iblk m c 1 ⟨n + 1, hn⟩) (X0_2 m c ⟨n + 1, hn⟩) (X0_3 m c ⟨n + 1, hn⟩) (iblk m c 4 ⟨n + 1, hn⟩) (X0_5 m c ⟨n + 1, hn⟩) (iblk m c 6 ⟨n + 1, hn⟩) (X0_7 m c ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (X0_15 m c ⟨n + 1, hn⟩) (X0_16 m c ⟨n + 1, hn⟩) (X0_17 m c ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (iblk m c 1 ⟨n + 1, hn⟩) (X0_2 m c ⟨n + 1, hn⟩) (X0_3 m c ⟨n + 1, hn⟩) (iblk m c 4 ⟨n + 1, hn⟩) (X0_5 m c ⟨n + 1, hn⟩) (iblk m c 6 ⟨n + 1, hn⟩) (X0_7 m c ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (X0_15 m c ⟨n + 1, hn⟩) (X0_16 m c ⟨n + 1, hn⟩) (X0_17 m c ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 64 = 0) :
    outsAt0 m c t.val t.isLt = (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = (out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => X0_2 m c t
    | ⟨3, _⟩ => X0_3 m c t
    | ⟨4, _⟩ => iblk m c 4 t
    | ⟨5, _⟩ => X0_5 m c t
    | ⟨6, _⟩ => iblk m c 6 t
    | ⟨7, _⟩ => X0_7 m c t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => X0_15 m c t
    | ⟨16, _⟩ => X0_16 m c t
    | ⟨17, _⟩ => X0_17 m c t
    | ⟨18, _⟩ => iblk m c 18 t
    | ⟨19, _⟩ => iblk m c 19 t
    | ⟨20, _⟩ => iblk m c 20 t
    | ⟨21, _⟩ => iblk m c 21 t
    | ⟨22, _⟩ => (outsAt0 m c t.val t.isLt).1
    | ⟨_ + 23, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = X0_15 m c t := by dsimp only [dats]
theorem after0_16 (c : Dev nD) (t : Fin cfg0.N) : (dats m 0 c).after 16 t = X0_16 m c t := by dsimp only [dats]
theorem after0_17 (c : Dev nD) (t : Fin cfg0.N) : (dats m 0 c).after 17 t = X0_17 m c t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = X0_15 m c t :=
  before0_15_of m (dats m 0 c) (A_eq m c 15) (after0_15 m c) t d
theorem before0_16 (c : Dev nD) (t : Fin cfg0.N) (d) : (dats m 0 c).before 16 t d = X0_16 m c t :=
  before0_16_of m (dats m 0 c) (A_eq m c 16) (after0_16 m c) t d
theorem before0_17 (c : Dev nD) (t : Fin cfg0.N) (d) : (dats m 0 c).before 17 t d = X0_17 m c t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold out0_A_22 sout0_A_0 sout0_A_1 sout0_A_2 sout0_A_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexists _; iexact H22
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, H17, H18, H19, H20, H21, ⟨%e22, H22⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      unfold owns; iexists _; isplitr
      swap; · iexact H22
      ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_22 sout0_B_0 sout0_B_1 sout0_B_2 sout0_B_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexists _; iexact H22
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, H17, H18, H19, H20, H21, ⟨%e22, H22⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      unfold owns; iexists _; isplitr
      swap; · iexact H22
      ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Mixer

end
-- ==== Proof.Mixer.Value.lean ====
module

public import proofs.«01_k».proof.Proof.Mixer.Frame
public import Idealize.ShloMosaic.Lib.Pipeline.Value

@[expose] public section

noncomputable section

namespace Cert.KernelIdeal.Mixer

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 22's array: the run's contents for that window after the body (`Gen.outsAt0`: its component 0), read through the window's block. -/
theorem flushed22 (c : Dev nD) (t : Fin cfg0.N) :
    (dats m 0 c).flushed 22 t = (cfg0.win 22).cut (grid0.coords t) ((outsAt0 m c t.val t.isLt).1) := by
  show (cfg0.win 22).cut (grid0.coords t) ((dats m 0 c).after 22 t) = _
  rw [after0_22]

/-- The index map sends distinct grid points to distinct block indices (decided over the 64 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v9) = (dats m 0 c).arrAt 22 cfg0.N :=
  (h c).1 22

/-- After the frame run, argument `main_arg0` is as launched: input window 17 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 17).trans (((dats m 0 c).arrAt_in 17 rfl _).trans ((A_eq m c 17).trans (V_main_arg0 m c)))

/-- After the frame run, argument `main_arg1` is as launched: input window 18 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 18).trans (((dats m 0 c).arrAt_in 18 rfl _).trans ((A_eq m c 18).trans (V_main_arg1 m c)))

/-- After the frame run, argument `main_arg2` is as launched: input window 6 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 6).trans (((dats m 0 c).arrAt_in 6 rfl _).trans ((A_eq m c 6).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: input window 19 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 19).trans (((dats m 0 c).arrAt_in 19 rfl _).trans ((A_eq m c 19).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v9) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S128x2048 .bf16 × Vec F S136x2048 .f32 × Vec F S136x1024 .f32 × Vec F S4x128x512 .f32 × Vec F S4x512x256 .f32 :=
  ((VO0_22.read (Elt F) VO0_22.junk, VS0_0.read (Elt F) VS0_0.junk, VS0_1.read (Elt F) VS0_1.junk, VS0_2.read (Elt F) VS0_2.junk, VS0_3.read (Elt F) VS0_3.junk) : Vec F S128x2048 .bf16 × Vec F S136x2048 .f32 × Vec F S136x1024 .f32 × Vec F S4x128x512 .f32 × Vec F S4x512x256 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S128x2048 .bf16 × Vec F S136x2048 .f32 × Vec F S136x1024 .f32 × Vec F S4x128x512 .f32 × Vec F S4x512x256 .f32) : Vec F S128x2048 .bf16 × Vec F S136x2048 .f32 × Vec F S136x1024 .f32 × Vec F S4x128x512 .f32 × Vec F S4x512x256 .f32 :=
  if h0 : n % 64 = 0 then
    (out0_A_22 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (X0_0 m c (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (X0_5 m c (⟨n, hb⟩ : Fin cfg0.N)) (iblk m c 6 (⟨n, hb⟩ : Fin cfg0.N)) (X0_7 m c (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (X0_15 m c (⟨n, hb⟩ : Fin cfg0.N)) (X0_16 m c (⟨n, hb⟩ : Fin cfg0.N)) (X0_17 m c (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (X0_0 m c (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (X0_5 m c (⟨n, hb⟩ : Fin cfg0.N)) (iblk m c 6 (⟨n, hb⟩ : Fin cfg0.N)) (X0_7 m c (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (X0_15 m c (⟨n, hb⟩ : Fin cfg0.N)) (X0_16 m c (⟨n, hb⟩ : Fin cfg0.N)) (X0_17 m c (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (X0_0 m c (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (X0_5 m c (⟨n, hb⟩ : Fin cfg0.N)) (iblk m c 6 (⟨n, hb⟩ : Fin cfg0.N)) (X0_7 m c (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (X0_15 m c (⟨n, hb⟩ : Fin cfg0.N)) (X0_16 m c (⟨n, hb⟩ : Fin cfg0.N)) (X0_17 m c (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (X0_0 m c (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (X0_5 m c (⟨n, hb⟩ : Fin cfg0.N)) (iblk m c 6 (⟨n, hb⟩ : Fin cfg0.N)) (X0_7 m c (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (X0_15 m c (⟨n, hb⟩ : Fin cfg0.N)) (X0_16 m c (⟨n, hb⟩ : Fin cfg0.N)) (X0_17 m c (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)), sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (X0_0 m c (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (X0_5 m c (⟨n, hb⟩ : Fin cfg0.N)) (iblk m c 6 (⟨n, hb⟩ : Fin cfg0.N)) (X0_7 m c (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (X0_15 m c (⟨n, hb⟩ : Fin cfg0.N)) (X0_16 m c (⟨n, hb⟩ : Fin cfg0.N)) (X0_17 m c (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)))
  else
    (out0_B_22 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (X0_0 m c (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (X0_5 m c (⟨n, hb⟩ : Fin cfg0.N)) (iblk m c 6 (⟨n, hb⟩ : Fin cfg0.N)) (X0_7 m c (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (X0_15 m c (⟨n, hb⟩ : Fin cfg0.N)) (X0_16 m c (⟨n, hb⟩ : Fin cfg0.N)) (X0_17 m c (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) acc.2.1 acc.2.2.1 acc.2.2.2.1 acc.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (X0_0 m c (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (X0_5 m c (⟨n, hb⟩ : Fin cfg0.N)) (iblk m c 6 (⟨n, hb⟩ : Fin cfg0.N)) (X0_7 m c (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (X0_15 m c (⟨n, hb⟩ : Fin cfg0.N)) (X0_16 m c (⟨n, hb⟩ : Fin cfg0.N)) (X0_17 m c (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) acc.2.1 acc.2.2.1 acc.2.2.2.1 acc.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (X0_0 m c (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (X0_5 m c (⟨n, hb⟩ : Fin cfg0.N)) (iblk m c 6 (⟨n, hb⟩ : Fin cfg0.N)) (X0_7 m c (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (X0_15 m c (⟨n, hb⟩ : Fin cfg0.N)) (X0_16 m c (⟨n, hb⟩ : Fin cfg0.N)) (X0_17 m c (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) acc.2.1 acc.2.2.1 acc.2.2.2.1 acc.2.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (X0_0 m c (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (X0_5 m c (⟨n, hb⟩ : Fin cfg0.N)) (iblk m c 6 (⟨n, hb⟩ : Fin cfg0.N)) (X0_7 m c (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (X0_15 m c (⟨n, hb⟩ : Fin cfg0.N)) (X0_16 m c (⟨n, hb⟩ : Fin cfg0.N)) (X0_17 m c (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) acc.2.1 acc.2.2.1 acc.2.2.2.1 acc.2.2.2.2, sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (X0_0 m c (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (X0_5 m c (⟨n, hb⟩ : Fin cfg0.N)) (iblk m c 6 (⟨n, hb⟩ : Fin cfg0.N)) (X0_7 m c (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (X0_15 m c (⟨n, hb⟩ : Fin cfg0.N)) (X0_16 m c (⟨n, hb⟩ : Fin cfg0.N)) (X0_17 m c (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) acc.2.1 acc.2.2.1 acc.2.2.2.1 acc.2.2.2.2)

/-- `stAt0` at a point of case A: that case's contents. -/
theorem stAt0_A (c : Dev nD) (t : Fin cfg0.N) (acc : Vec F S128x2048 .bf16 × Vec F S136x2048 .f32 × Vec F S136x1024 .f32 × Vec F S4x128x512 .f32 × Vec F S4x512x256 .f32) (h0 : t.val % 64 = 0) :
    stAt0 m c t.val t.isLt acc = (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t)) :=
  (dif_pos h0).trans rfl

/-- `stAt0` at a point of case B: that case's contents, over `acc`. -/
theorem stAt0_B (c : Dev nD) (t : Fin cfg0.N) (acc : Vec F S128x2048 .bf16 × Vec F S136x2048 .f32 × Vec F S136x1024 .f32 × Vec F S4x128x512 .f32 × Vec F S4x512x256 .f32) (h0 : ¬t.val % 64 = 0) :
    stAt0 m c t.val t.isLt acc = (out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t) acc.2.1 acc.2.2.1 acc.2.2.2.1 acc.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t) acc.2.1 acc.2.2.1 acc.2.2.2.1 acc.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t) acc.2.1 acc.2.2.1 acc.2.2.2.1 acc.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t) acc.2.1 acc.2.2.1 acc.2.2.2.1 acc.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t) acc.2.1 acc.2.2.1 acc.2.2.2.1 acc.2.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 22 -/

/-- The block of the array that holds index `i`, numbered in the order the points write the blocks back (one per point),
    `i`'s place in it, and the point that writes it back. -/
abbrev run22Of (i : S8192x2048.Idx) : ℕ := 1 * ((i 0).val / 128 - 0) + 1 * ((i 1).val / 2048 - 0)
set_option backward.proofsInPublic true in
abbrev loc22Of (i : S8192x2048.Idx) : S128x2048.Idx := fun a => match a with
  | ⟨0, _⟩ => ⟨(i 0).val % 128, Nat.mod_lt _ (by decide)⟩
  | ⟨1, _⟩ => ⟨(i 1).val % 2048, Nat.mod_lt _ (by decide)⟩
abbrev pt22Of (i : S8192x2048.Idx) : ℕ := run22Of i

/-- WHAT THE ARRAY ENDS HOLDING at index `i` inside the box the flushing blocks fill: output 22's component of the carried
    state's fold at the point that writes `i`'s block back, at `i`'s place in the block. `G22` states the array's contents
    only inside the box. -/
def G22 (c : Dev nD) : Buf (Elt F) ((c : Thread nD τ).loc main_v9) := fun i =>
  if h : pt22Of i < cfg0.N then
    (Pipeline.accAt (fun n h => stAt0 m c n h junk0) (stAt0 m c) 0 (pt22Of i) (by omega)).1 (loc22Of i)
  else V m c (Pipeline.arrRef spec0 22) i

/-- The printed index map, decided over the grid: output window 22's block indices stay in the box, and the block number
    read off them is the point's (`t`). -/
theorem idx_facts22 : ∀ t : Fin cfg0.N, 0 ≤ win0_22.index t (0 : Fin 2) ∧ win0_22.index t (0 : Fin 2) ≤ 63
    ∧ 0 ≤ win0_22.index t (1 : Fin 2) ∧ win0_22.index t (1 : Fin 2) ≤ 0
    ∧ 1 * (win0_22.index t (0 : Fin 2) - 0) + 1 * (win0_22.index t (1 : Fin 2) - 0) = t.val :=
  (by decide +kernel : ∀ t : Fin grid0.N, _)

/-- Every block of the box is SOME flushing point's: `onto22Pt`, the point that writes back the block at place `q` of the box. -/
abbrev onto22Pt (q0 : Fin 64) (q1 : Fin 1) : Fin grid0.N :=
  ⟨1 * q0.val + 1 * q1.val, lt_of_lt_of_eq (by omega) N_0.symm⟩
theorem idx_onto22 : ∀ (q0 : Fin 64) (q1 : Fin 1), ∃ t : Fin cfg0.N, (cfg0.win 22).flush t = true ∧ win0_22.index t = ![q0.val + 0, q1.val + 0] :=
  fun q0 q1 => ⟨onto22Pt q0 q1, (by decide +kernel : ∀ (q0 : Fin 64) (q1 : Fin 1), win0_22.flush (onto22Pt q0 q1) = true ∧ win0_22.index (onto22Pt q0 q1) = ![q0.val + 0, q1.val + 0]) q0 q1⟩

/-- WHAT A FLUSHING POINT `t` WRITES BACK is block `t` of `G22`: output 22's component of the fold up to `t`. -/
theorem flushed22_eq (c : Dev nD) (t : Fin cfg0.N) (hf : (cfg0.win 22).flush t = true) :
    (dats m 0 c).flushed 22 t = ((cfg0.win 22).blk t).view.read (Elt F) (G22 m c) := by
  show (cfg0.win 22).cut (grid0.coords t) ((dats m 0 c).after 22 t) = _
  rw [after0_22, outsAt0_sweep]
  obtain ⟨e0, e1, e2⟩ := idx_facts22 t
  funext y
  have hy0 : (y 0).val < 128 := (y 0).isLt
  have hy1 : (y 1).val < 2048 := (y 1).isLt
  have hb0 : (((cfg0.win 22).blk t).view.emb y 0).val = win0_22.index t (0 : Fin 2) * 128 + 1 * (y 0).val := rfl
  have hb1 : (((cfg0.win 22).blk t).view.emb y 1).val = win0_22.index t (1 : Fin 2) * 2048 + 1 * (y 1).val := rfl
  have hr : run22Of (((cfg0.win 22).blk t).view.emb y) = t.val := by
    show 1 * ((((cfg0.win 22).blk t).view.emb y 0).val / 128 - 0) + 1 * ((((cfg0.win 22).blk t).view.emb y 1).val / 2048 - 0) = _
    rw [hb0, hb1]
    rw [show (win0_22.index t (0 : Fin 2) * 128 + 1 * (y 0).val) / 128 = win0_22.index t (0 : Fin 2) from by omega]; rw [show (win0_22.index t (1 : Fin 2) * 2048 + 1 * (y 1).val) / 2048 = win0_22.index t (1 : Fin 2) from by omega]
    omega
  have hl : loc22Of (((cfg0.win 22).blk t).view.emb y) = (cfg0.win 22).xinj (grid0.coords t) y := by
    funext a; apply Fin.ext
    match a with
    | ⟨0, _⟩ => show (((cfg0.win 22).blk t).view.emb y 0).val % 128 = (y 0).val; rw [hb0]; omega
    | ⟨1, _⟩ => show (((cfg0.win 22).blk t).view.emb y 1).val % 2048 = (y 1).val; rw [hb1]; omega
  have hp : pt22Of (((cfg0.win 22).blk t).view.emb y) = t.val := by
    exact hr
  show (Pipeline.accAt (fun n h => stAt0 m c n h junk0) (stAt0 m c) 0 t.val _).1 ((cfg0.win 22).xinj (grid0.coords t) y) = G22 m c (((cfg0.win 22).blk t).view.emb y)
  unfold G22
  rw [dif_pos (by rw [hp]; exact t.isLt), hl, fold0_congr m c _ _ _ _ hp.symm]

/-- An index of the array is in point `t`'s block iff each coordinate is in the block's range on its axis. -/
theorem mem_blk22 (t : Fin cfg0.N) (i : S8192x2048.Idx) :
    i ∈ ((cfg0.win 22).blk t).view.set ↔ ∀ a : Fin 2, win0_22.index t a * S128x2048.size a ≤ (i a).val ∧ (i a).val < win0_22.index t a * S128x2048.size a + S128x2048.size a := by
  show i ∈ ((View.whole main_v9).slice (win0_22.rect t)).set ↔ _
  rw [View.set_slice_whole, Rect.mem_set_unit]
  exact Iff.rfl

/-- THE COVERED INDICES: in some flushing point's block iff inside the box those blocks fill. -/
theorem covered_iff22 (i : S8192x2048.Idx) :
    (∃ t : Fin cfg0.N, (cfg0.win 22).flush t = true ∧ i ∈ ((cfg0.win 22).blk t).view.set) ↔ 0 ≤ (i 0).val ∧ (i 0).val < 8192 ∧ 0 ≤ (i 1).val ∧ (i 1).val < 2048 := by
  constructor
  · rintro ⟨t, -, hi⟩
    rw [mem_blk22] at hi
    have b0 : win0_22.index t (0 : Fin 2) * 128 ≤ (i 0).val ∧ (i 0).val < win0_22.index t (0 : Fin 2) * 128 + 128 := hi 0
    have b1 : win0_22.index t (1 : Fin 2) * 2048 ≤ (i 1).val ∧ (i 1).val < win0_22.index t (1 : Fin 2) * 2048 + 2048 := hi 1
    obtain ⟨e0, e1, e2⟩ := idx_facts22 t
    omega
  · intro h
    have hi0 : (i 0).val < 8192 := (i 0).isLt
    have hi1 : (i 1).val < 2048 := (i 1).isLt
    obtain ⟨t, hft, ht⟩ := idx_onto22 ⟨(i 0).val / 128 - 0, by omega⟩ ⟨(i 1).val / 2048 - 0, by omega⟩
    have q0 : win0_22.index t (0 : Fin 2) = (i 0).val / 128 - 0 + 0 := congrFun ht 0
    have q1 : win0_22.index t (1 : Fin 2) = (i 1).val / 2048 - 0 + 0 := congrFun ht 1
    refine ⟨t, hft, ?_⟩
    rw [mem_blk22]
    intro a
    match a with
    | ⟨0, _⟩ => show win0_22.index t (0 : Fin 2) * 128 ≤ (i 0).val ∧ (i 0).val < win0_22.index t (0 : Fin 2) * 128 + 128; omega
    | ⟨1, _⟩ => show win0_22.index t (1 : Fin 2) * 2048 ≤ (i 1).val ∧ (i 1).val < win0_22.index t (1 : Fin 2) * 2048 + 2048; omega

/-- THE ARRAY after the run: `G22` (the flushing blocks tile it). -/
theorem final22 (c : Dev nD) : (dats m 0 c).arrAt 22 cfg0.N = G22 m c :=
  (dats m 0 c).arrAt_eq_of_cover 22 _ (fun t hf => flushed22_eq m c t hf) (fun i => (covered_iff22 i).2 (by
    have h0 : (i 0).val < 8192 := (i 0).isLt; have h1 : (i 1).val < 2048 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v9) = G22 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(post22 m r h c).trans (final22 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.KernelIdeal.Mixer

end
-- ==== Proof.Mixer.RealOps.lean ====
module

public import Idealize.ShloMosaic.Lib.Pointwise
public import Idealize.ShloMosaic.Lib.MatmulPlain

@[expose] public section

set_option maxRecDepth 16384

noncomputable section

/-! Vectors of extended reals that hold real numbers, and what each vector operation does to them.

`R2 v f` says that the matrix `v` holds, at row `a` and column `b`, the real number `f a b`. The real function is an
output of instance search: the instances below compute it from the operations a vector is built of. -/

namespace Mixer

open Idealize.ShloMosaic

/-- An extended-real scalar is the real number `r`. -/
class RS {φ : FTy} (x : Ideal φ) (r : outParam ℝ) : Prop where
  eq : x = ((r : ℝ) : EReal)

/-- A one-axis vector holds the real numbers `f`. -/
class R1 {m : ℕ} {φ : FTy} (v : FVec Ideal ⟨1, ![m]⟩ φ) (f : outParam (ℕ → ℝ)) : Prop where
  eq : ∀ i : (⟨1, ![m]⟩ : Shape).Idx, v i = ((f (i 0).val : ℝ) : EReal)

/-- A matrix holds the real numbers `f`. -/
class R2 {m n : ℕ} {φ : FTy} (v : FVec Ideal ⟨2, ![m, n]⟩ φ) (f : outParam (ℕ → ℕ → ℝ)) : Prop where
  eq : ∀ i : (⟨2, ![m, n]⟩ : Shape).Idx, v i = ((f (i 0).val (i 1).val : ℝ) : EReal)

/-- A three-axis vector holds the real numbers `f`. -/
class R3 {l m n : ℕ} {φ : FTy} (v : FVec Ideal ⟨3, ![l, m, n]⟩ φ) (f : outParam (ℕ → ℕ → ℕ → ℝ)) : Prop where
  eq : ∀ i : (⟨3, ![l, m, n]⟩ : Shape).Idx, v i = ((f (i 0).val (i 1).val (i 2).val : ℝ) : EReal)

/-- A matrix of bits marks the pairs for which `p` holds. -/
class B2 {m n : ℕ} (c : IVec ⟨2, ![m, n]⟩ 1) (p : outParam (ℕ → ℕ → Bool)) : Prop where
  eq : ∀ i : (⟨2, ![m, n]⟩ : Shape).Idx, c i = 1#1 ↔ p (i 0).val (i 1).val = true

/-- A matrix is minus infinity throughout. -/
class NegInf {m n : ℕ} {φ : FTy} (v : FVec Ideal ⟨2, ![m, n]⟩ φ) : Prop where
  eq : ∀ i, v i = (⊥ : EReal)

theorem R2.at {m n : ℕ} {φ : FTy} (v : FVec Ideal ⟨2, ![m, n]⟩ φ) {f : ℕ → ℕ → ℝ} [h : R2 v f]
    (i : (⟨2, ![m, n]⟩ : Shape).Idx) : v i = ((f (i 0).val (i 1).val : ℝ) : EReal) := h.eq i

theorem R2.congr {m n : ℕ} {φ : FTy} {v : FVec Ideal ⟨2, ![m, n]⟩ φ} {f g : ℕ → ℕ → ℝ} (h : R2 v f)
    (e : ∀ a b, a < m → b < n → f a b = g a b) : R2 v g :=
  ⟨fun i => by rw [h.eq i, e _ _ (i 0).isLt (i 1).isLt]⟩

theorem R1.congr {m : ℕ} {φ : FTy} {v : FVec Ideal ⟨1, ![m]⟩ φ} {f g : ℕ → ℝ} (h : R1 v f)
    (e : ∀ a, a < m → f a = g a) : R1 v g :=
  ⟨fun i => by rw [h.eq i, e _ (i 0).isLt]⟩

theorem R3.congr {l m n : ℕ} {φ : FTy} {v : FVec Ideal ⟨3, ![l, m, n]⟩ φ} {f g : ℕ → ℕ → ℕ → ℝ} (h : R3 v f)
    (e : ∀ a b c, a < l → b < m → c < n → f a b c = g a b c) : R3 v g :=
  ⟨fun i => by rw [h.eq i, e _ _ _ (i 0).isLt (i 1).isLt (i 2).isLt]⟩

/-! Constants. -/

theorem ofBits_half : Ideal.ofBits .f32 0x3F000000#32 = (((1 / 2 : ℝ)) : EReal) := by
  simp [Ideal.ofBits, Ideal.ieee]; norm_num; rw [← EReal.coe_mul]; norm_num
theorem ofBits_512 : Ideal.ofBits .f32 0x44000000#32 = (((512 : ℝ)) : EReal) := by
  simp [Ideal.ofBits, Ideal.ieee]; norm_num; rw [← EReal.coe_mul]; norm_num
theorem ofBits_sixteenth : Ideal.ofBits .f32 0x3D800000#32 = (((1 / 16 : ℝ)) : EReal) := by
  simp [Ideal.ofBits, Ideal.ieee]; norm_num; rw [← EReal.coe_mul]; norm_num
theorem ofBits_16 : Ideal.ofBits .f32 0x41800000#32 = (((16 : ℝ)) : EReal) := by
  simp [Ideal.ofBits, Ideal.ieee]; norm_num; rw [← EReal.coe_mul]; norm_num
theorem ofBits_ninf : Ideal.ofBits .f32 0xFF800000#32 = (⊥ : EReal) := by
  simp [Ideal.ofBits, Ideal.ieee]

/-- The small constant the norms add, the rational of its float word. -/
def eps : ℝ := 8796093 / 2 ^ 43

theorem eps_pos : 0 < eps := by unfold eps; norm_num

theorem ofBits_eps : Ideal.ofBits .f32 0x358637BD#32 = ((eps : ℝ) : EReal) := by
  simp [Ideal.ofBits, Ideal.ieee, eps]; norm_num; rw [← EReal.coe_mul]; norm_num

instance rs_zero : RS (FloatOps.ofBits (F := Ideal) .f32 0x00000000#32) 0 := ⟨by
  show Ideal.ofBits .f32 _ = _; rw [Ideal.ofBits_zero_f32]; rfl⟩
instance rs_one : RS (FloatOps.ofBits (F := Ideal) .f32 0x3F800000#32) 1 := ⟨by
  show Ideal.ofBits .f32 _ = _; rw [Ideal.ofBits_one_f32]; rfl⟩
instance rs_half : RS (FloatOps.ofBits (F := Ideal) .f32 0x3F000000#32) (1 / 2) := ⟨ofBits_half⟩
instance rs_c512 : RS (FloatOps.ofBits (F := Ideal) .f32 0x44000000#32) 512 := ⟨ofBits_512⟩
instance rs_sixteenth : RS (FloatOps.ofBits (F := Ideal) .f32 0x3D800000#32) (1 / 16) := ⟨ofBits_sixteenth⟩
instance rs_c16 : RS (FloatOps.ofBits (F := Ideal) .f32 0x41800000#32) 16 := ⟨ofBits_16⟩
instance rs_eps : RS (FloatOps.ofBits (F := Ideal) .f32 0x358637BD#32) eps := ⟨ofBits_eps⟩

instance : Fact ((0 : ℝ) < 512) := ⟨by norm_num⟩
instance : Fact ((0 : ℝ) < 16) := ⟨by norm_num⟩
instance : Fact ((0 : ℝ) < eps) := ⟨eps_pos⟩

section Elementwise
variable {m n : ℕ} {φ ψ : FTy} {x y z : FVec Ideal ⟨2, ![m, n]⟩ φ} {f g h : ℕ → ℕ → ℝ} {c : Ideal φ} {r : ℝ}

instance r2_broadcast [RS c r] : R2 (broadcast (⟨2, ![m, n]⟩ : Shape) c : FVec Ideal _ φ) (fun _ _ => r) :=
  ⟨fun _ => RS.eq (x := c)⟩
instance r2_constant {b : BitVec φ.bits} [RS (FloatOps.ofBits (F := Ideal) φ b) r] :
    R2 (constant (F := Ideal) (⟨2, ![m, n]⟩ : Shape) φ b) (fun _ _ => r) :=
  ⟨fun _ => RS.eq (x := FloatOps.ofBits (F := Ideal) φ b)⟩
instance neginf_broadcast : NegInf (broadcast (⟨2, ![m, n]⟩ : Shape)
    (FloatOps.ofBits (F := Ideal) .f32 0xFF800000#32) : FVec Ideal _ .f32) := ⟨fun _ => ofBits_ninf⟩

instance r2_addf [R2 x f] [R2 y g] : R2 (addf x y) (fun a b => f a b + g a b) := ⟨fun i => by
  show x i + y i = _; rw [R2.at x i, R2.at y i, ← EReal.coe_add]⟩
instance r2_subf [R2 x f] [R2 y g] : R2 (subf x y) (fun a b => f a b - g a b) := ⟨fun i => by
  show x i - y i = _; rw [R2.at x i, R2.at y i, ← EReal.coe_sub]⟩
instance r2_mulf [R2 x f] [R2 y g] : R2 (mulf x y) (fun a b => f a b * g a b) := ⟨fun i => by
  show x i * y i = _; rw [R2.at x i, R2.at y i, ← EReal.coe_mul]⟩
instance r2_maximumf [R2 x f] [R2 y g] : R2 (maximumf x y) (fun a b => max (f a b) (g a b)) := ⟨fun i => by
  show max (x i) (y i) = _; rw [R2.at x i, R2.at y i]; exact (EReal.coe_strictMono.monotone.map_max).symm⟩
instance r2_minimumf [R2 x f] [R2 y g] : R2 (minimumf x y) (fun a b => min (f a b) (g a b)) := ⟨fun i => by
  show min (x i) (y i) = _; rw [R2.at x i, R2.at y i]; exact (EReal.coe_strictMono.monotone.map_min).symm⟩
instance r2_absf [R2 x f] : R2 (absf x) (fun a b => |f a b|) := ⟨fun i => by
  show max (x i) (-(x i)) = _; rw [R2.at x i, ← EReal.coe_neg, abs_eq_max_neg]; exact (EReal.coe_strictMono.monotone.map_max).symm⟩
instance r2_negf [R2 x f] : R2 (negf x) (fun a b => -f a b) := ⟨fun i => by
  show -(x i) = _; rw [R2.at x i, ← EReal.coe_neg]⟩
instance r2_exp [R2 x f] : R2 (exp x) (fun a b => Real.exp (f a b)) := ⟨fun i => by
  show Ideal.exp (x i) = _; rw [R2.at x i, Ideal.exp_coe]⟩
instance r2_tanh [R2 x f] : R2 (tanh x) (fun a b => Real.tanh (f a b)) := ⟨fun i => by
  show Ideal.tanh (x i) = _; rw [R2.at x i, Ideal.tanh_coe]⟩
instance r2_extf {hb : φ.bits < ψ.bits} [R2 x f] : R2 (extf ψ x hb) f := ⟨fun i => R2.eq (v := x) i⟩
instance r2_truncf {hb : ψ.bits < φ.bits} [R2 x f] : R2 (truncf ψ x hb) f := ⟨fun i => R2.eq (v := x) i⟩

/-- A quotient by a positive constant. -/
instance r2_divf [R2 x f] [RS c r] [hr : Fact (0 < r)] :
    R2 (divf x (broadcast (⟨2, ![m, n]⟩ : Shape) c)) (fun a b => f a b / r) := ⟨fun i => by
  show Ideal.div (x i) c = _
  rw [R2.at x i, RS.eq (x := c), Ideal.div_coe hr.out.ne', ← EReal.coe_mul]; congr 1; ring⟩

/-- The logarithm of one plus an exponential. -/
instance r2_log_one_add_exp [R2 x f] [RS c 1] :
    R2 (log (addf (broadcast (⟨2, ![m, n]⟩ : Shape) c) (exp x)))
      (fun a b => Real.log (1 + Real.exp (f a b))) := ⟨fun i => by
  show Ideal.log (c + Ideal.exp (x i)) = _
  rw [R2.at x i, RS.eq (x := c), Ideal.exp_coe, ← EReal.coe_add, Ideal.log_coe, if_neg]
  have := Real.exp_pos (f (i 0).val (i 1).val); push Not; positivity⟩

/-- A function of two places that is never negative. -/
class NN (f : ℕ → ℕ → ℝ) : Prop where
  nn : ∀ a b, 0 ≤ f a b

instance nn_div {f : ℕ → ℕ → ℝ} {r : ℝ} [NN f] [hr : Fact (0 < r)] : NN (fun a b => f a b / r) :=
  ⟨fun a b => div_nonneg (NN.nn a b) hr.out.le⟩
instance nn_sumsq {K : ℕ} {g : ℕ → ℕ → ℕ → ℝ} : NN (fun a b => ∑ k ∈ Finset.range K, g a b k * g a b k) :=
  ⟨fun _ _ => Finset.sum_nonneg fun _ _ => mul_self_nonneg _⟩

/-- The reciprocal square root of a non-negative matrix plus a positive constant. -/
instance r2_rsqrt [R2 x f] [NN f] [RS c r] [hr : Fact (0 < r)] :
    R2 (rsqrt (addf x (broadcast (⟨2, ![m, n]⟩ : Shape) c)))
      (fun a b => (Real.sqrt (f a b + r))⁻¹) := ⟨fun i => by
  show Ideal.rsqrt (x i + c) = _
  have h0 := NN.nn (f := f) (i 0).val (i 1).val
  have h1 := hr.out
  rw [R2.at x i, RS.eq (x := c), ← EReal.coe_add, Ideal.rsqrt_coe, if_neg (by linarith), if_neg (by linarith)]⟩

instance r2_select {k : IVec ⟨2, ![m, n]⟩ 1} {p : ℕ → ℕ → Bool} [hk : B2 k p] [R2 x f] [R2 y g] :
    R2 (select k x y) (fun a b => if p a b then f a b else g a b) := ⟨fun i => by
  show (if k i = 1 then x i else y i) = _
  by_cases h : p (i 0).val (i 1).val = true
  · rw [if_pos h, if_pos (show k i = 1 from (hk.eq i).2 h), R2.at x i]
  · rw [if_neg h, if_neg (fun e : k i = 1 => h ((hk.eq i).1 e)), R2.at y i]⟩

/-- The exponential of a matrix that is minus infinity where the mask does not hold. -/
instance r2_exp_select {k : IVec ⟨2, ![m, n]⟩ 1} {p : ℕ → ℕ → Bool} [hk : B2 k p] [R2 x f] [hy : NegInf y] :
    R2 (exp (select k x y))
      (fun a b => if p a b then Real.exp (f a b) else 0) := ⟨fun i => by
  show Ideal.exp (if k i = 1 then x i else y i) = _
  by_cases h : p (i 0).val (i 1).val = true
  · rw [if_pos h, if_pos (show k i = 1 from (hk.eq i).2 h), R2.at x i, Ideal.exp_coe]
  · rw [if_neg h, if_neg (fun e : k i = 1 => h ((hk.eq i).1 e)), hy.eq i, Ideal.exp_bot]; rfl⟩

end Elementwise

section Shapes
variable {m n : ℕ} {φ : FTy} {f : ℕ → ℕ → ℝ}

/-- One row repeated. -/
instance r2_broadcastTo_row {x : FVec Ideal ⟨2, ![1, n]⟩ φ} {h : (⟨2, ![1, n]⟩ : Shape).Broadcasts ⟨2, ![m, n]⟩} [R2 x f] :
    R2 (broadcastTo ⟨2, ![m, n]⟩ x h : FVec Ideal ⟨2, ![m, n]⟩ φ) (fun _ b => f 0 b) := ⟨fun i => by
  have e := R2.eq (v := x) (f := f)
  unfold broadcastTo
  rw [e]
  congr 2
  by_cases h1 : n = 1
  · subst h1; have := (i 1).isLt; simp only [Shape.Coord] at this ⊢; simp; change _ < 1 at this; omega
  · simp [h1]⟩

/-- One column repeated. -/
instance r2_broadcastTo_col {x : FVec Ideal ⟨2, ![m, 1]⟩ φ} {h : (⟨2, ![m, 1]⟩ : Shape).Broadcasts ⟨2, ![m, n]⟩} [R2 x f] :
    R2 (broadcastTo ⟨2, ![m, n]⟩ x h : FVec Ideal ⟨2, ![m, n]⟩ φ) (fun a _ => f a 0) := ⟨fun i => by
  have e := R2.eq (v := x) (f := f)
  unfold broadcastTo
  rw [e]
  congr 2
  by_cases h1 : m = 1
  · subst h1; have := (i 0).isLt; simp; change _ < 1 at this; omega
  · simp [h1]⟩

/-- A block cut out at the offsets `o₀`, `o₁`. -/
instance r2_slice {m' n' o₀ o₁ : ℕ} {x : FVec Ideal ⟨2, ![m, n]⟩ φ}
    {h : (⟨2, ![m, n]⟩ : Shape).Slices ![o₀, o₁] ⟨2, ![m', n']⟩} [R2 x f] :
    R2 (extractStridedSlice ⟨2, ![m', n']⟩ ![o₀, o₁] x h : FVec Ideal ⟨2, ![m', n']⟩ φ) (fun a b => f (o₀ + a) (o₁ + b)) :=
  ⟨fun _ => R2.eq (v := x) _⟩

instance (priority := high) r2_slice_col {m' n' o₁ : ℕ} {x : FVec Ideal ⟨2, ![m, n]⟩ φ}
    {h : (⟨2, ![m, n]⟩ : Shape).Slices ![0, o₁] ⟨2, ![m', n']⟩} [R2 x f] :
    R2 (extractStridedSlice ⟨2, ![m', n']⟩ ![0, o₁] x h : FVec Ideal ⟨2, ![m', n']⟩ φ) (fun a b => f a (o₁ + b)) :=
  R2.congr (r2_slice (x := x) (f := f)) fun a b _ _ => by rw [Nat.zero_add]

instance (priority := high) r2_slice_row {m' n' o₀ : ℕ} {x : FVec Ideal ⟨2, ![m, n]⟩ φ}
    {h : (⟨2, ![m, n]⟩ : Shape).Slices ![o₀, 0] ⟨2, ![m', n']⟩} [R2 x f] :
    R2 (extractStridedSlice ⟨2, ![m', n']⟩ ![o₀, 0] x h : FVec Ideal ⟨2, ![m', n']⟩ φ) (fun a b => f (o₀ + a) b) :=
  R2.congr (r2_slice (x := x) (f := f)) fun a b _ _ => by rw [Nat.zero_add]

instance (priority := high + 1) r2_slice_zero {m' n' : ℕ} {x : FVec Ideal ⟨2, ![m, n]⟩ φ}
    {h : (⟨2, ![m, n]⟩ : Shape).Slices ![0, 0] ⟨2, ![m', n']⟩} [R2 x f] :
    R2 (extractStridedSlice ⟨2, ![m', n']⟩ ![0, 0] x h : FVec Ideal ⟨2, ![m', n']⟩ φ) f :=
  R2.congr (r2_slice (x := x) (f := f)) fun a b _ _ => by rw [Nat.zero_add, Nat.zero_add]

instance r2_shapeCast_self {x : FVec Ideal ⟨2, ![m, n]⟩ φ} {h : (⟨2, ![m, n]⟩ : Shape).ShapeCasts ⟨2, ![m, n]⟩} [R2 x f] :
    R2 (shapeCast ⟨2, ![m, n]⟩ x h : FVec Ideal ⟨2, ![m, n]⟩ φ) f :=
  ⟨fun i => by unfold shapeCast; rw [Shape.reshapeEquiv_self]; exact R2.eq (v := x) i⟩

instance r3_shapeCast_self {l : ℕ} {x : FVec Ideal ⟨3, ![l, m, n]⟩ φ} {g : ℕ → ℕ → ℕ → ℝ}
    {h : (⟨3, ![l, m, n]⟩ : Shape).ShapeCasts ⟨3, ![l, m, n]⟩} [R3 x g] :
    R3 (shapeCast ⟨3, ![l, m, n]⟩ x h : FVec Ideal ⟨3, ![l, m, n]⟩ φ) g :=
  ⟨fun i => by unfold shapeCast; rw [Shape.reshapeEquiv_self]; exact R3.eq (v := x) i⟩

end Shapes

section Matmul
variable {M K N : ℕ} {φ₁ φ₂ : FTy} {x : FVec Ideal ⟨2, ![M, K]⟩ φ₁} {f g : ℕ → ℕ → ℝ} {p : Option ContractPrecision}

theorem coe_sum_fin (K : ℕ) (F : ℕ → ℝ) : (∑ k : Fin K, ((F k.val : ℝ) : EReal)) = ((∑ k ∈ Finset.range K, F k : ℝ) : EReal) := by
  rw [← Fin.sum_univ_eq_sum_range F K]
  exact (map_sum (⟨⟨Real.toEReal, EReal.coe_zero⟩, EReal.coe_add⟩ : ℝ →+ EReal) (fun k : Fin K => F k.val) Finset.univ).symm

/-- Rows times columns. -/
theorem R2.matmul_nn {y : FVec Ideal ⟨2, ![K, N]⟩ φ₂} {h : ℕ → ℕ → ℝ} {acc : FVec Ideal ⟨2, ![M, N]⟩ .f32} (d : DotDims ⟨2, ![M, K]⟩ ⟨2, ![K, N]⟩ ⟨2, ![M, N]⟩)
    (hd : d = DotDims.plain M K N) (hx : R2 x f) (hy : R2 y g) (ha : R2 acc h) :
    R2 (matmul d p x y acc) (fun a b => h a b + ∑ k ∈ Finset.range K, f a k * g k b) := ⟨fun i => by
  subst hd
  have e := Ideal.matmul_plain_apply p x y acc (i 0) (i 1)
  have hi : i = ValueIdx.ix2 (i 0) (i 1) := ValueIdx.eq_ix2 i
  show FloatOps.matmul _ p x y acc i = _
  rw [hi]
  refine e.trans ?_
  rw [ha.eq, EReal.coe_add, ← coe_sum_fin]
  refine congrArg _ (Finset.sum_congr rfl fun k _ => ?_)
  rw [hx.eq, hy.eq, ← EReal.coe_mul]; rfl⟩

/-- Rows times columns, onto nothing. -/
theorem R2.matmul_nn0 {y : FVec Ideal ⟨2, ![K, N]⟩ φ₂} (d : DotDims ⟨2, ![M, K]⟩ ⟨2, ![K, N]⟩ ⟨2, ![M, N]⟩)
    (hd : d = DotDims.plain M K N) (hx : R2 x f) (hy : R2 y g) :
    R2 (matmul d p x y (constant (F := Ideal) ⟨2, ![M, N]⟩ .f32 0x00000000#32)) (fun a b => ∑ k ∈ Finset.range K, f a k * g k b) :=
  R2.congr (R2.matmul_nn d hd hx hy inferInstance) fun _ _ _ _ => zero_add _

/-- Rows times rows. -/
theorem R2.matmul_nt {y : FVec Ideal ⟨2, ![N, K]⟩ φ₂} {h : ℕ → ℕ → ℝ} {acc : FVec Ideal ⟨2, ![M, N]⟩ .f32} (d : DotDims ⟨2, ![M, K]⟩ ⟨2, ![N, K]⟩ ⟨2, ![M, N]⟩)
    (hd : d = DotDims.transposedRhs M K N) (hx : R2 x f) (hy : R2 y g) (ha : R2 acc h) :
    R2 (matmul d p x y acc) (fun a b => h a b + ∑ k ∈ Finset.range K, f a k * g b k) := ⟨fun i => by
  subst hd
  have e := Ideal.matmul_transposedRhs_apply p x y acc (i 0) (i 1)
  have hi : i = ValueIdx.ix2 (i 0) (i 1) := ValueIdx.eq_ix2 i
  show FloatOps.matmul _ p x y acc i = _
  rw [hi]
  refine e.trans ?_
  rw [ha.eq, EReal.coe_add, ← coe_sum_fin]
  refine congrArg _ (Finset.sum_congr rfl fun k _ => ?_)
  rw [hx.eq, hy.eq, ← EReal.coe_mul]; rfl⟩

/-- Rows times rows, onto nothing. -/
theorem R2.matmul_nt0 {y : FVec Ideal ⟨2, ![N, K]⟩ φ₂} (d : DotDims ⟨2, ![M, K]⟩ ⟨2, ![N, K]⟩ ⟨2, ![M, N]⟩)
    (hd : d = DotDims.transposedRhs M K N) (hx : R2 x f) (hy : R2 y g) :
    R2 (matmul d p x y (constant (F := Ideal) ⟨2, ![M, N]⟩ .f32 0x00000000#32)) (fun a b => ∑ k ∈ Finset.range K, f a k * g b k) :=
  R2.congr (R2.matmul_nt d hd hx hy inferInstance) fun _ _ _ _ => zero_add _

end Matmul

end Mixer
-- ==== Proof.Mixer.KernelOps.lean ====
module

public import proofs.«01_k».proof.Proof.Mixer.RealOps
public import proofs.«01_k».proof.Proof.Gen.KernelIdeal.Skeleton

@[expose] public section

set_option maxRecDepth 16384

noncomputable section

/-! The kernel's shape-specific operations on vectors that hold real numbers: its products, concatenations, masks and row
sums at their literal shapes. -/

namespace Mixer

open Idealize.ShloMosaic
open Cert.KernelIdeal Cert.KernelIdeal.Gen

section Products
variable {φ₁ φ₂ : FTy} {f g : ℕ → ℕ → ℝ} {p : Option ContractPrecision}

instance dot_cum {x : FVec Ideal S128x128 φ₁} {y : FVec Ideal S128x32 φ₂} [hx : R2 x f] [hy : R2 y g] :
    R2 (matmul dot_S128x128_S128x32_S128x32_1_0_0_1_n_n p x y (constant (F := Ideal) S128x32 .f32 0x00000000#32))
      (fun a b => ∑ k ∈ Finset.range 128, f a k * g k b) :=
  R2.matmul_nn0 _ rfl hx hy
instance dot_exp {x : FVec Ideal S128x96 φ₁} {y : FVec Ideal S96x2048 φ₂} [hx : R2 x f] [hy : R2 y g] :
    R2 (matmul dot_S128x96_S96x2048_S128x2048_1_0_0_1_n_n p x y (constant (F := Ideal) S128x2048 .f32 0x00000000#32))
      (fun a b => ∑ k ∈ Finset.range 96, f a k * g k b) :=
  R2.matmul_nn0 _ rfl hx hy
instance dot_rd {x : FVec Ideal S128x128 φ₁} {y : FVec Ideal S128x512 φ₂} [hx : R2 x f] [hy : R2 y g] :
    R2 (matmul dot_S128x128_S128x512_S128x512_1_0_0_1_n_n p x y (constant (F := Ideal) S128x512 .f32 0x00000000#32))
      (fun a b => ∑ k ∈ Finset.range 128, f a k * g k b) :=
  R2.matmul_nn0 _ rfl hx hy
instance dot_diag {x : FVec Ideal S128x256 φ₁} {y : FVec Ideal S256x128 φ₂} [hx : R2 x f] [hy : R2 y g] :
    R2 (matmul dot_S128x256_S256x128_S128x128_1_0_0_1_n_n p x y (constant (F := Ideal) S128x128 .f32 0x00000000#32))
      (fun a b => ∑ k ∈ Finset.range 256, f a k * g k b) :=
  R2.matmul_nn0 _ rfl hx hy
instance dot_gate {x : FVec Ideal S64x16 φ₁} {y : FVec Ideal S16x1024 φ₂} [hx : R2 x f] [hy : R2 y g] :
    R2 (matmul dot_S64x16_S16x1024_S64x1024_1_0_0_1_n_n p x y (constant (F := Ideal) S64x1024 .f32 0x00000000#32))
      (fun a b => ∑ k ∈ Finset.range 16, f a k * g k b) :=
  R2.matmul_nn0 _ rfl hx hy
instance dot_bcum {x : FVec Ideal S64x192 φ₁} {y : FVec Ideal S192x1024 φ₂} [hx : R2 x f] [hy : R2 y g] :
    R2 (matmul dot_S64x192_S192x1024_S64x1024_1_0_0_1_n_n p x y (constant (F := Ideal) S64x1024 .f32 0x00000000#32))
      (fun a b => ∑ k ∈ Finset.range 192, f a k * g k b) :=
  R2.matmul_nn0 _ rfl hx hy
instance dot_sv {x : FVec Ideal S64x64 φ₁} {y : FVec Ideal S64x512 φ₂} [hx : R2 x f] [hy : R2 y g] :
    R2 (matmul dot_S64x64_S64x512_S64x512_1_0_0_1_n_n p x y (constant (F := Ideal) S64x512 .f32 0x00000000#32))
      (fun a b => ∑ k ∈ Finset.range 64, f a k * g k b) :=
  R2.matmul_nn0 _ rfl hx hy
instance dot_eye {x : FVec Ideal S32x32 φ₁} {y : FVec Ideal S128x32 φ₂} [hx : R2 x f] [hy : R2 y g] :
    R2 (matmul dot_S32x32_S128x32_S32x128_1_1_0_0_n_n p x y (constant (F := Ideal) S32x128 .f32 0x00000000#32))
      (fun a b => ∑ k ∈ Finset.range 32, f a k * g b k) :=
  R2.matmul_nt0 _ rfl hx hy
instance dot_cb {x : FVec Ideal S128x128 φ₁} {y : FVec Ideal S128x128 φ₂} [hx : R2 x f] [hy : R2 y g] :
    R2 (matmul dot_S128x128_S128x128_S128x128_1_1_0_0_n_n p x y (constant (F := Ideal) S128x128 .f32 0x00000000#32))
      (fun a b => ∑ k ∈ Finset.range 128, f a k * g b k) :=
  R2.matmul_nt0 _ rfl hx hy
instance dot_qk {x : FVec Ideal S64x256 φ₁} {y : FVec Ideal S64x256 φ₂} [hx : R2 x f] [hy : R2 y g] :
    R2 (matmul dot_S64x256_S64x256_S64x64_1_1_0_0_n_n p x y (constant (F := Ideal) S64x64 .f32 0x00000000#32))
      (fun a b => ∑ k ∈ Finset.range 256, f a k * g b k) :=
  R2.matmul_nt0 _ rfl hx hy
instance dot_qs {x : FVec Ideal S64x256 φ₁} {y : FVec Ideal S512x256 φ₂} [hx : R2 x f] [hy : R2 y g] :
    R2 (matmul dot_S64x256_S512x256_S64x512_1_1_0_0_n_n p x y (constant (F := Ideal) S64x512 .f32 0x00000000#32))
      (fun a b => ∑ k ∈ Finset.range 256, f a k * g b k) :=
  R2.matmul_nt0 _ rfl hx hy

instance dot_st {x : FVec Ideal S128x128 φ₁} {y : FVec Ideal S128x512 φ₂} [hx : R2 x f] [hy : R2 y g] :
    R2 (matmul dot_S128x128_S128x512_S128x512_0_0_1_1_n_n p x y (constant (F := Ideal) S128x512 .f32 0x00000000#32))
      (fun a b => ∑ k ∈ Finset.range 128, f k a * g k b) := ⟨fun i => by
  pointwise
  rw [← coe_sum_fin]
  refine Finset.sum_congr rfl fun k _ => ?_
  rw [hx.eq, hy.eq, ← EReal.coe_mul]; rfl⟩
instance dot_ks {x : FVec Ideal S64x512 φ₁} {y : FVec Ideal S64x256 φ₂} [hx : R2 x f] [hy : R2 y g] :
    R2 (matmul dot_S64x512_S64x256_S512x256_0_0_1_1_n_n p x y (constant (F := Ideal) S512x256 .f32 0x00000000#32))
      (fun a b => ∑ k ∈ Finset.range 64, f k a * g k b) := ⟨fun i => by
  pointwise
  rw [← coe_sum_fin]
  refine Finset.sum_congr rfl fun k _ => ?_
  rw [hx.eq, hy.eq, ← EReal.coe_mul]; rfl⟩

end Products

section Pieces
variable {φ : FTy} {f g h k : ℕ → ℕ → ℝ}

instance cat_256_cols {x y : FVec Ideal S128x128 φ} {hc} [hx : R2 x f] [hy : R2 y g] :
    R2 (concatenate S128x256 1 [⟨S128x128, x⟩, ⟨S128x128, y⟩] hc : FVec Ideal S128x256 φ)
      (fun a b => if b < 128 then f a b else g a (b - 128)) := ⟨fun i => by
  pointwise; simp only [hx.eq, hy.eq]; split_ifs <;> rfl⟩
instance cat_256_rows {x y : FVec Ideal S128x128 φ} {hc} [hx : R2 x f] [hy : R2 y g] :
    R2 (concatenate S256x128 0 [⟨S128x128, x⟩, ⟨S128x128, y⟩] hc : FVec Ideal S256x128 φ)
      (fun a b => if a < 128 then f a b else g (a - 128) b) := ⟨fun i => by
  pointwise; simp only [hx.eq, hy.eq]; split_ifs <;> rfl⟩
instance cat_96_cols {x y z : FVec Ideal S128x32 φ} {hc} [hx : R2 x f] [hy : R2 y g] [hz : R2 z h] :
    R2 (concatenate S128x96 1 [⟨S128x32, x⟩, ⟨S128x32, y⟩, ⟨S128x32, z⟩] hc : FVec Ideal S128x96 φ)
      (fun a b => if b < 32 then f a b else if b - 32 < 32 then g a (b - 32) else h a (b - 32 - 32)) := ⟨fun i => by
  pointwise; simp only [hx.eq, hy.eq, hz.eq]; split_ifs <;> rfl⟩
instance cat_96_rows {x y z : FVec Ideal S32x2048 φ} {hc} [hx : R2 x f] [hy : R2 y g] [hz : R2 z h] :
    R2 (concatenate S96x2048 0 [⟨S32x2048, x⟩, ⟨S32x2048, y⟩, ⟨S32x2048, z⟩] hc : FVec Ideal S96x2048 φ)
      (fun a b => if a < 32 then f a b else if a - 32 < 32 then g (a - 32) b else h (a - 32 - 32) b) := ⟨fun i => by
  pointwise; simp only [hx.eq, hy.eq, hz.eq]; split_ifs <;> rfl⟩
instance cat_192_rows {x y z : FVec Ideal S64x1024 φ} {hc} [hx : R2 x f] [hy : R2 y g] [hz : R2 z h] :
    R2 (concatenate S192x1024 0 [⟨S64x1024, x⟩, ⟨S64x1024, y⟩, ⟨S64x1024, z⟩] hc : FVec Ideal S192x1024 φ)
      (fun a b => if a < 64 then f a b else if a - 64 < 64 then g (a - 64) b else h (a - 64 - 64) b) := ⟨fun i => by
  pointwise; simp only [hx.eq, hy.eq, hz.eq]; split_ifs <;> rfl⟩
instance cat_4x512 {x y z w : FVec Ideal S128x512 φ} {hc} [hx : R2 x f] [hy : R2 y g] [hz : R2 z h] [hw : R2 w k] :
    R2 (concatenate S128x2048 1 [⟨S128x512, x⟩, ⟨S128x512, y⟩, ⟨S128x512, z⟩, ⟨S128x512, w⟩] hc : FVec Ideal S128x2048 φ)
      (fun a b => if b < 512 then f a b else if b - 512 < 512 then g a (b - 512)
        else if b - 512 - 512 < 512 then h a (b - 512 - 512) else k a (b - 512 - 512 - 512)) := ⟨fun i => by
  pointwise; simp only [hx.eq, hy.eq, hz.eq, hw.eq]; split_ifs <;> rfl⟩
instance cat_64_4x512 {x y z w : FVec Ideal S64x512 φ} {hc} [hx : R2 x f] [hy : R2 y g] [hz : R2 z h] [hw : R2 w k] :
    R2 (concatenate S64x2048 1 [⟨S64x512, x⟩, ⟨S64x512, y⟩, ⟨S64x512, z⟩, ⟨S64x512, w⟩] hc : FVec Ideal S64x2048 φ)
      (fun a b => if b < 512 then f a b else if b - 512 < 512 then g a (b - 512)
        else if b - 512 - 512 < 512 then h a (b - 512 - 512) else k a (b - 512 - 512 - 512)) := ⟨fun i => by
  pointwise; simp only [hx.eq, hy.eq, hz.eq, hw.eq]; split_ifs <;> rfl⟩

/-- The pieces of a list are 128-column blocks holding `G o`, `G (o + 1)`, and so on. -/
def Blocks (φ : FTy) (G : ℕ → ℕ → ℕ → ℝ) : List ((s : Shape) × (s.Idx → EReal)) → ℕ → Prop
  | [], _ => True
  | q :: xs, o => (∃ x : FVec Ideal S128x128 φ, q = ⟨S128x128, x⟩ ∧ R2 x (G o)) ∧ Blocks φ G xs (o + 1)

theorem Blocks.at (φ : FTy) (G : ℕ → ℕ → ℕ → ℝ) (j : S128x2048.Idx) :
    ∀ (xs : List ((s : Shape) × (s.Idx → EReal))) (o : ℕ) (_ : Blocks φ G xs o)
      (hs : ∀ s ∈ xs.map (·.1), s.FitsOff S128x2048 1) (c : ℕ) (hc : c < (axisSizes S128x2048 1 xs).sum),
      concatenateAt S128x2048 1 j xs hs c hc = ((G (o + c / 128) (j 0).val (c % 128) : ℝ) : EReal)
  | [], _, _, _, _, hc => absurd hc (Nat.not_lt_zero _)
  | [q], o, h, hs, c, hc => by
    obtain ⟨⟨x, rfl, hx⟩, -⟩ := h
    have hc' : c < 128 := by simpa [axisSizes] using hc
    rw [concatenateAt_singleton]
    refine (hx.eq _).trans ?_
    have e1 : c / 128 = 0 := Nat.div_eq_of_lt hc'
    have e2 : c % 128 = c := Nat.mod_eq_of_lt hc'
    rw [e1, e2]; rfl
  | q :: r :: xs, o, h, hs, c, hc => by
    obtain ⟨⟨x, rfl, hx⟩, h'⟩ := h
    rw [concatenateAt_cons]
    by_cases hlt : c < 128
    · refine (dif_pos hlt).trans ?_
      refine (hx.eq _).trans ?_
      have e1 : c / 128 = 0 := Nat.div_eq_of_lt hlt
      have e2 : c % 128 = c := Nat.mod_eq_of_lt hlt
      rw [e1, e2]; rfl
    · refine (dif_neg hlt).trans ?_
      have IH := fun hc' => Blocks.at φ G j (r :: xs) (o + 1) h' (fun s' h => hs s' (List.mem_cons_of_mem _ h)) (c - 128) hc'
      refine (IH _).trans ?_
      have e1 : o + 1 + (c - 128) / 128 = o + c / 128 := by omega
      have e2 : (c - 128) % 128 = c % 128 := by omega
      rw [e1, e2]

/-- Sixteen 128-column blocks side by side. -/
instance cat_16x128 {x0 x1 x2 x3 x4 x5 x6 x7 x8 x9 x10 x11 x12 x13 x14 x15 : FVec Ideal S128x128 φ} {hc}
    {G : ℕ → ℕ → ℕ → ℝ}
    [h0 : R2 x0 (G 0)] [h1 : R2 x1 (G 1)] [h2 : R2 x2 (G 2)] [h3 : R2 x3 (G 3)]
    [h4 : R2 x4 (G 4)] [h5 : R2 x5 (G 5)] [h6 : R2 x6 (G 6)] [h7 : R2 x7 (G 7)]
    [h8 : R2 x8 (G 8)] [h9 : R2 x9 (G 9)] [h10 : R2 x10 (G 10)] [h11 : R2 x11 (G 11)]
    [h12 : R2 x12 (G 12)] [h13 : R2 x13 (G 13)] [h14 : R2 x14 (G 14)] [h15 : R2 x15 (G 15)] :
    R2 (concatenate S128x2048 1 [⟨S128x128, x0⟩, ⟨S128x128, x1⟩, ⟨S128x128, x2⟩, ⟨S128x128, x3⟩, ⟨S128x128, x4⟩,
      ⟨S128x128, x5⟩, ⟨S128x128, x6⟩, ⟨S128x128, x7⟩, ⟨S128x128, x8⟩, ⟨S128x128, x9⟩, ⟨S128x128, x10⟩, ⟨S128x128, x11⟩,
      ⟨S128x128, x12⟩, ⟨S128x128, x13⟩, ⟨S128x128, x14⟩, ⟨S128x128, x15⟩] hc : FVec Ideal S128x2048 φ)
      (fun a b => G (b / 128) a (b % 128)) := ⟨fun i => by
  rw [concatenate_apply]
  refine (Blocks.at φ G i _ 0 ?_ _ _ _).trans (by rw [Nat.zero_add])
  exact ⟨⟨_, rfl, h0⟩, ⟨_, rfl, h1⟩, ⟨_, rfl, h2⟩, ⟨_, rfl, h3⟩, ⟨_, rfl, h4⟩, ⟨_, rfl, h5⟩,
    ⟨_, rfl, h6⟩, ⟨_, rfl, h7⟩, ⟨_, rfl, h8⟩, ⟨_, rfl, h9⟩, ⟨_, rfl, h10⟩, ⟨_, rfl, h11⟩, ⟨_, rfl, h12⟩, ⟨_, rfl, h13⟩,
    ⟨_, rfl, h14⟩, ⟨_, rfl, h15⟩, trivial⟩⟩

instance cast_128x512 {x : FVec Ideal S1x128x512 φ} {G : ℕ → ℕ → ℕ → ℝ} {hc} [hx : R3 x G] :
    R2 (shapeCast S128x512 x hc : FVec Ideal S128x512 φ) (G 0) := ⟨fun i => by
  pointwise; rw [hx.eq]; rfl⟩
instance cast_512x256 {x : FVec Ideal S1x512x256 φ} {G : ℕ → ℕ → ℕ → ℝ} {hc} [hx : R3 x G] :
    R2 (shapeCast S512x256 x hc : FVec Ideal S512x256 φ) (G 0) := ⟨fun i => by
  pointwise; rw [hx.eq]; rfl⟩
instance cast_1x128x512 {x : FVec Ideal S128x512 φ} {hc} [hx : R2 x f] :
    R3 (shapeCast S1x128x512 x hc : FVec Ideal S1x128x512 φ) (fun _ => f) := ⟨fun i => by
  pointwise; rw [hx.eq]; rfl⟩
instance cast_1x512x256 {x : FVec Ideal S512x256 φ} {hc} [hx : R2 x f] :
    R3 (shapeCast S1x512x256 x hc : FVec Ideal S1x512x256 φ) (fun _ => f) := ⟨fun i => by
  pointwise; rw [hx.eq]; rfl⟩

instance rowsum_128 {x : FVec Ideal S128x512 .f32} {h1} {h2 : FTy.f32 = FTy.f32 ∨ FTy.f32 = FTy.bf16} {h3 : 0#32 = 0#32} {h4} [hx : R2 x f] :
    R2 (shapeCast S128x1 (multiReduction .add [1] S128 x 0x00000000#32 h1 h2 h3 : FVec Ideal S128 .f32) h4 : FVec Ideal S128x1 .f32)
      (fun a _ => ∑ k ∈ Finset.range 512, f a k) := ⟨fun i => by
  pointwise
  rw [← coe_sum_fin]
  refine Finset.sum_congr rfl fun k _ => ?_
  rw [hx.eq]; rfl⟩
instance rowsum_64 {x : FVec Ideal S64x512 .f32} {h1} {h2 : FTy.f32 = FTy.f32 ∨ FTy.f32 = FTy.bf16} {h3 : 0#32 = 0#32} {h4} [hx : R2 x f] :
    R2 (shapeCast S64x1 (multiReduction .add [1] S64 x 0x00000000#32 h1 h2 h3 : FVec Ideal S64 .f32) h4 : FVec Ideal S64x1 .f32)
      (fun a _ => ∑ k ∈ Finset.range 512, f a k) := ⟨fun i => by
  pointwise
  rw [← coe_sum_fin]
  refine Finset.sum_congr rfl fun k _ => ?_
  rw [hx.eq]; rfl⟩

end Pieces

section Masks

theorem ofBool_one_iff {b : Bool} : BitVec.ofBool b = 1#1 ↔ b = true := by cases b <;> decide

theorem ofNat_sge {a b : ℕ} (ha : a < 2 ^ 31) (hb : b < 2 ^ 31) :
    IntOp.cmpi .sge (BitVec.ofNat 32 a) (BitVec.ofNat 32 b) = 1#1 ↔ b ≤ a := by
  simp only [IntOp.cmpi]
  rw [ofBool_one_iff]
  simp only [BitVec.sle, decide_eq_true_eq, BitVec.toInt_eq_toNat_cond, BitVec.toNat_ofNat]
  omega

instance mask_causal_128 : B2 k0_pay20 (fun a b => decide (b ≤ a)) := ⟨fun i => by
  have h0 : (i 0).val < 128 := (i 0).isLt
  have h1 : (i 1).val < 128 := (i 1).isLt
  unfold k0_pay20
  simp only [cmpi, iota, List.foldl_cons, List.foldl_nil, Nat.zero_mul, Nat.zero_add, decide_eq_true_eq]
  exact ofNat_sge (by omega) (by omega)⟩
instance mask_causal_64 : B2 k0_pay104 (fun a b => decide (b ≤ a)) := ⟨fun i => by
  have h0 : (i 0).val < 64 := (i 0).isLt
  have h1 : (i 1).val < 64 := (i 1).isLt
  unfold k0_pay104
  simp only [cmpi, iota, List.foldl_cons, List.foldl_nil, Nat.zero_mul, Nat.zero_add, decide_eq_true_eq]
  exact ofNat_sge (by omega) (by omega)⟩

theorem ofNat_eq {a b : ℕ} (ha : a < 2 ^ 32) (hb : b < 2 ^ 32) :
    IntOp.cmpi .eq (BitVec.ofNat 32 a) (BitVec.ofNat 32 b) = 1#1 ↔ a = b := by
  simp only [IntOp.cmpi]
  rw [ofBool_one_iff]
  simp only [beq_iff_eq, ← BitVec.toNat_inj, BitVec.toNat_ofNat]
  rw [Nat.mod_eq_of_lt ha, Nat.mod_eq_of_lt hb]

instance mask_eye {h1 h2} : B2 (cmpi .eq (iota .tc S32x32 32 [0] h1) (iota .tc S32x32 32 [1] h2)) (fun a b => decide (a = b)) :=
  ⟨fun i => by
    have h0 : (i 0).val < 32 := (i 0).isLt
    have h1 : (i 1).val < 32 := (i 1).isLt
    simp only [cmpi, iota, List.foldl_cons, List.foldl_nil, Nat.zero_mul, Nat.zero_add, decide_eq_true_eq]
    exact ofNat_eq (by omega) (by omega)⟩

theorem shr6 : ∀ b : Fin 2048, IntOp.shrsi .vector (BitVec.ofNat 32 b.val) 6#32 = BitVec.ofNat 32 (b.val / 64) := by decide +kernel

instance mask_repeat {h1 h2} : B2 (cmpi .eq (shrsi (iota .tc S32x2048 32 [1] h1) (broadcast S32x2048 6#32)) (iota .tc S32x2048 32 [0] h2))
    (fun a b => decide (b / 64 = a)) :=
  ⟨fun i => by
    have h0 : (i 0).val < 32 := (i 0).isLt
    have h1 : (i 1).val < 2048 := (i 1).isLt
    simp only [cmpi, iota, shrsi, broadcast, List.foldl_cons, List.foldl_nil, Nat.zero_mul, Nat.zero_add, decide_eq_true_eq]
    have e := shr6 ⟨_, h1⟩
    simp only at e
    rw [e]
    exact ofNat_eq (by omega) (by omega)⟩

theorem and64 : ∀ b : Fin 2048, IntOp.cmpi .eq (IntOp.andi (BitVec.ofNat 32 b.val) 64#32) 0#32 = 1#1 ↔ b.val / 64 % 2 = 0 := by
  decide +kernel

instance mask_lane : B2 k0_pay36 (fun _ b => decide (b / 64 % 2 = 0)) := ⟨fun i => by
  have h1 : (i 1).val < 2048 := (i 1).isLt
  unfold k0_pay36
  simp only [cmpi, iota, andi, broadcast, List.foldl_cons, List.foldl_nil, Nat.zero_mul, Nat.zero_add, decide_eq_true_eq]
  exact and64 ⟨_, h1⟩⟩

/-- The column number within its 64-column copy, as the kernel computes it. -/
theorem rem64 : ∀ b : Fin 192, Scalar.select (IntOp.andi (IntOp.xori
      (IntOp.cmpi .slt (IntOp.remsi .vector (BitVec.ofNat 32 b.val) (Scalar.select (Scalar.cmpi .eq 64#32 0#32) 1#32 64#32)) 0#32)
      (Scalar.cmpi .slt 64#32 0#32))
      (IntOp.cmpi .ne (IntOp.remsi .vector (BitVec.ofNat 32 b.val) (Scalar.select (Scalar.cmpi .eq 64#32 0#32) 1#32 64#32)) 0#32))
      (IntOp.addi (IntOp.remsi .vector (BitVec.ofNat 32 b.val) (Scalar.select (Scalar.cmpi .eq 64#32 0#32) 1#32 64#32)) 64#32)
      (IntOp.remsi .vector (BitVec.ofNat 32 b.val) (Scalar.select (Scalar.cmpi .eq 64#32 0#32) 1#32 64#32))
    = BitVec.ofNat 32 (b.val % 64) := by
  decide +kernel

/-- Three copies of the lower triangle side by side. -/
instance tril3 {h1} : R2 (k0_pay108 (F := Ideal) (iota .tc S64x192 32 [0] h1) 64#32 k0_pay105 k0_pay106 k0_pay107)
    (fun a b => if b % 64 ≤ a then 1 else 0) := ⟨fun i => by
  have h0 : (i 0).val < 64 := (i 0).isLt
  have h1 : (i 1).val < 192 := (i 1).isLt
  have e := rem64 ⟨_, h1⟩
  unfold k0_pay108 k0_pay106 k0_pay105 k0_pay107
  show (if IntOp.cmpi .sge _ _ = 1 then FloatOps.ofBits (F := Ideal) .f32 0x3F800000#32 else FloatOps.ofBits (F := Ideal) .f32 0x00000000#32) = _
  have e' : (if IntOp.cmpi .sge (BitVec.ofNat 32 (i 0).val) (BitVec.ofNat 32 ((i 1).val % 64)) = 1#1
      then FloatOps.ofBits (F := Ideal) .f32 0x3F800000#32 else FloatOps.ofBits (F := Ideal) .f32 0x00000000#32)
      = (((if (i 1).val % 64 ≤ (i 0).val then 1 else 0 : ℝ)) : EReal) := by
    rw [RS.eq (x := FloatOps.ofBits (F := Ideal) .f32 0x3F800000#32), RS.eq (x := FloatOps.ofBits (F := Ideal) .f32 0x00000000#32)]
    by_cases h : (i 1).val % 64 ≤ (i 0).val
    · rw [if_pos h, if_pos ((ofNat_sge (by omega) (by omega)).2 h)]
    · rw [if_neg h, if_neg (fun e => h ((ofNat_sge (by omega) (by omega)).1 e))]
  rw [← e', ← e]
  simp only [iota, select, andi, xori, cmpi, remsi, broadcast, broadcastTo, addi, List.foldl_cons, List.foldl_nil, Nat.zero_mul,
    Nat.zero_add]
  rfl⟩

end Masks

end Mixer
-- ==== Proof.Mixer.Gla.lean ====
module

public import proofs.«01_k».proof.Proof.Mixer.KernelOps

@[expose] public section

set_option maxRecDepth 16384

noncomputable section

/-! The gated linear attention of one 64-token chunk: what the kernel computes from the chunk's rows and the four states,
as real functions. -/

namespace Mixer

open Idealize.ShloMosaic
open Cert.KernelIdeal Cert.KernelIdeal.Gen

theorem sum_le_mask {n a : ℕ} (ha : a < n) (g : ℕ → ℝ) :
    ∑ k ∈ Finset.range n, (if k ≤ a then g k else 0) = ∑ k ∈ Finset.range (a + 1), g k := by
  rw [← Finset.sum_filter]
  refine Finset.sum_congr ?_ fun _ _ => rfl
  ext k; simp; omega

/-- `x` times its logistic, as the kernel computes it. -/
def silu (x : ℝ) : ℝ := 1 / 2 * x + 1 / 2 * x * Real.tanh (1 / 2 * x)
/-- The logistic, as the kernel computes it. -/
def sigm (x : ℝ) : ℝ := 1 / 2 * Real.tanh (1 / 2 * x) + 1 / 2

/-- What one chunk reads. -/
structure Gc where
  gl : FVec Ideal S64x16 .f32
  gw : FVec Ideal S16x1024 .f32
  gb : FVec Ideal S1x1024 .f32
  q : FVec Ideal S64x1024 .bf16
  k : FVec Ideal S64x1024 .bf16
  v : FVec Ideal S64x2048 .bf16
  r : FVec Ideal S64x2048 .bf16
  mb : FVec Ideal S64x2048 .bf16
  gn : FVec Ideal S1x512 .f32
  s : ℕ → FVec Ideal S1x512x256 .f32

/-- The real numbers one chunk reads. -/
structure Gv where
  gl : ℕ → ℕ → ℝ
  gw : ℕ → ℕ → ℝ
  gb : ℕ → ℝ
  q : ℕ → ℕ → ℝ
  k : ℕ → ℕ → ℝ
  v : ℕ → ℕ → ℝ
  r : ℕ → ℕ → ℝ
  mb : ℕ → ℕ → ℝ
  gn : ℕ → ℝ
  s : ℕ → ℕ → ℕ → ℝ

/-- The vectors a chunk reads hold these real numbers. -/
class Gc.Is (L : Gc) (ρ : outParam Gv) : Prop where
  gl : R2 L.gl ρ.gl
  gw : R2 L.gw ρ.gw
  gb : R2 L.gb (fun _ b => ρ.gb b)
  q : R2 L.q ρ.q
  k : R2 L.k ρ.k
  v : R2 L.v ρ.v
  r : R2 L.r ρ.r
  mb : R2 L.mb ρ.mb
  gn : R2 L.gn (fun _ b => ρ.gn b)
  s : ∀ h, h < 4 → R3 (L.s h) (fun _ => ρ.s h)

attribute [instance] Gc.Is.gl Gc.Is.gw Gc.Is.gb Gc.Is.q Gc.Is.k Gc.Is.v Gc.Is.r Gc.Is.mb Gc.Is.gn

namespace Gv
variable (ρ : Gv)
/-- The gate before its logistic. -/
def x (a b : ℕ) : ℝ := ∑ j ∈ Finset.range 16, ρ.gl a j * ρ.gw j b + ρ.gb b
/-- The log decay of one token. -/
def gk (a b : ℕ) : ℝ := (min (ρ.x a b) 0 - Real.log (1 + Real.exp (0 - |ρ.x a b|))) / 16
/-- The log decay accumulated from the chunk's start. -/
def G (a b : ℕ) : ℝ := ∑ j ∈ Finset.range (a + 1), ρ.gk j b
/-- The score of query `a` and key `j` in head `h`. -/
def sc (h a j : ℕ) : ℝ := ∑ c ∈ Finset.range 256,
  (ρ.q a (256 * h + c) * (1 / 16) * Real.exp (ρ.G a (256 * h + c) - ρ.G 32 (256 * h + c)))
    * (ρ.k j (256 * h + c) * Real.exp (ρ.G 32 (256 * h + c) - ρ.G j (256 * h + c)))
/-- The attention's value. -/
def y (h a b : ℕ) : ℝ := ∑ j ∈ Finset.range 64, (if j ≤ a then ρ.sc h a j else 0) * ρ.v j (512 * h + b)
  + ∑ c ∈ Finset.range 256, (ρ.q a (256 * h + c) * (1 / 16) * Real.exp (ρ.G a (256 * h + c))) * ρ.s h b c
/-- The state the chunk leaves. -/
def st (h b c : ℕ) : ℝ := ρ.s h b c * Real.exp (ρ.G 63 (256 * h + c))
  + ∑ j ∈ Finset.range 64, ρ.v j (512 * h + b) * (ρ.k j (256 * h + c) * Real.exp (ρ.G 63 (256 * h + c) - ρ.G j (256 * h + c)))
/-- The value after its norm. -/
def yn (h a b : ℕ) : ℝ := ρ.y h a b * (Real.sqrt ((∑ c ∈ Finset.range 512, ρ.y h a c * ρ.y h a c) / 512 + eps))⁻¹ * ρ.gn b
/-- The chunk's share of the result. -/
def out (a b : ℕ) : ℝ := ρ.yn (b / 512) a (b % 512) * silu (ρ.r a b) * sigm (ρ.mb a b)
end Gv

/-- Three copies of the lower triangle. -/
def T3 : FVec Ideal S64x192 .bf16 :=
  k0_pay108 (iota .tc S64x192 32 [0] iota_S64x192_d0_w32) 64#32 k0_pay105 k0_pay106 k0_pay107

instance : R2 T3 (fun a b => if b % 64 ≤ a then 1 else 0) := by unfold T3; infer_instance

namespace Gc
variable (L : Gc)
def gate : FVec Ideal S64x1024 .f32 := k0_pay109 L.gl L.gw L.gb
def G : FVec Ideal S64x1024 .f32 := k0_pay111 T3 L.gate k0_pay110
def mid : FVec Ideal S1x1024 .f32 := extractStridedSlice S1x1024 ![32, 0] L.G slices_S64x1024_o32_0_S1x1024
def last : FVec Ideal S1x1024 .f32 := extractStridedSlice S1x1024 ![63, 0] L.G slices_S64x1024_o63_0_S1x1024
def qr : FVec Ideal S64x1024 .bf16 := k0_pay148 L.G L.mid (k0_pay145 L.q)
def kr : FVec Ideal S64x1024 .bf16 := k0_pay149 L.G L.mid L.k
def qe : FVec Ideal S64x1024 .bf16 := k0_pay150 L.G (k0_pay145 L.q)
def ke : FVec Ideal S64x1024 .bf16 := k0_pay151 L.G L.last L.k
def el : FVec Ideal S1x1024 .f32 := k0_pay152 L.last

theorem sl256 {m h : ℕ} (hh : h < 4) : Shape.Slices ⟨2, ![m, 1024]⟩ ![0, 256 * h] ⟨2, ![m, 256]⟩ :=
  ⟨rfl, fun a => by match a with | 0 => exact (Nat.zero_add _).le | 1 => change 256 * h + 256 ≤ 1024; omega⟩
theorem sl512 {m h : ℕ} (hh : h < 4) : Shape.Slices ⟨2, ![m, 2048]⟩ ![0, 512 * h] ⟨2, ![m, 512]⟩ :=
  ⟨rfl, fun a => by match a with | 0 => exact (Nat.zero_add _).le | 1 => change 512 * h + 512 ≤ 2048; omega⟩

/-- The value of head `h`. -/
def y (h : ℕ) (hh : h < 4) : FVec Ideal S64x512 .f32 :=
  addf (matmul dot_S64x64_S64x512_S64x512_1_0_0_1_n_n none
      (truncf .bf16 (select k0_pay104
        (matmul dot_S64x256_S64x256_S64x64_1_1_0_0_n_n none (extractStridedSlice S64x256 ![0, 256 * h] L.qr (sl256 hh))
          (extractStridedSlice S64x256 ![0, 256 * h] L.kr (sl256 hh)) (constant S64x64 .f32 0x00000000#32))
        (broadcast S64x64 (FloatOps.ofBits (F := Ideal) .f32 0x00000000#32))) bitsLt_bf16_f32)
      (extractStridedSlice S64x512 ![0, 512 * h] L.v (sl512 hh)) (constant S64x512 .f32 0x00000000#32))
    (matmul dot_S64x256_S512x256_S64x512_1_1_0_0_n_n none (extractStridedSlice S64x256 ![0, 256 * h] L.qe (sl256 hh))
      (truncf .bf16 (shapeCast S512x256 (L.s h) shapeCasts_S1x512x256_S512x256) bitsLt_bf16_f32) (constant S64x512 .f32 0x00000000#32))

/-- The value of head `h` after its norm. -/
def yn (h : ℕ) (hh : h < 4) : FVec Ideal S64x512 .f32 := k0_pay157 (L.y h hh) L.gn

/-- The state head `h` leaves. -/
def st (h : ℕ) (hh : h < 4) : FVec Ideal S1x512x256 .f32 :=
  shapeCast S1x512x256 (addf
    (mulf (shapeCast S512x256 (L.s h) shapeCasts_S1x512x256_S512x256)
      (broadcastTo S512x256 (extractStridedSlice S1x256 ![0, 256 * h] L.el (sl256 hh)) broadcasts_S1x256_S512x256))
    (matmul dot_S64x512_S64x256_S512x256_0_0_1_1_n_n none (extractStridedSlice S64x512 ![0, 512 * h] L.v (sl512 hh))
      (extractStridedSlice S64x256 ![0, 256 * h] L.ke (sl256 hh)) (constant S512x256 .f32 0x00000000#32)))
    shapeCasts_S512x256_S1x512x256

end Gc

section
variable (L : Gc) (ρ : Gv) [hL : L.Is ρ]

instance gla_gate : R2 L.gate (fun a b => min (ρ.x a b) 0 - Real.log (1 + Real.exp (0 - |ρ.x a b|))) := by
  unfold Gc.gate
  refine R2.congr (f := ?f) ?h ?e
  case h => unfold k0_pay109; infer_instance
  case e =>
    intro a b ha hb
    simp [Gv.x]

theorem sum_tril3 {a : ℕ} (ha : a < 64) (g : ℕ → ℝ) :
    ∑ j ∈ Finset.range 192, (if j % 64 ≤ a then (1 : ℝ) else 0) * (if j < 64 then g j else if j - 64 < 64 then 0 else 0)
      = ∑ j ∈ Finset.range (a + 1), g j := by
  rw [show 192 = 64 + 128 from rfl, Finset.sum_range_add, ← sum_le_mask ha]
  have h2 : ∑ j ∈ Finset.range 128, (if (64 + j) % 64 ≤ a then (1 : ℝ) else 0)
      * (if 64 + j < 64 then g (64 + j) else if 64 + j - 64 < 64 then 0 else 0) = 0 :=
    Finset.sum_eq_zero fun j _ => by rw [if_neg (show ¬ 64 + j < 64 by omega)]; simp
  rw [h2, add_zero]
  refine Finset.sum_congr rfl fun j hj => ?_
  have hj := Finset.mem_range.1 hj
  rw [if_pos hj, Nat.mod_eq_of_lt hj, ite_mul, one_mul, zero_mul]

instance gla_G : R2 L.G ρ.G := by
  unfold Gc.G
  refine R2.congr (f := ?f) ?h ?e
  case h => unfold k0_pay111 k0_pay110; infer_instance
  case e =>
    intro a b ha hb
    simp only [sub_self]
    exact sum_tril3 ha (fun j => ρ.gk j b)

instance gla_mid : R2 L.mid (fun _ b => ρ.G 32 b) := by
  unfold Gc.mid
  refine R2.congr (f := ?f) ?h ?e
  case h => infer_instance
  case e =>
    intro a b ha hb
    obtain rfl : a = 0 := by omega
    rfl
instance gla_last : R2 L.last (fun _ b => ρ.G 63 b) := by
  unfold Gc.last
  refine R2.congr (f := ?f) ?h ?e
  case h => infer_instance
  case e =>
    intro a b ha hb
    obtain rfl : a = 0 := by omega
    rfl
instance gla_qr : R2 L.qr (fun a b => ρ.q a b * (1 / 16) * Real.exp (ρ.G a b - ρ.G 32 b)) := by
  unfold Gc.qr k0_pay148 k0_pay146 k0_pay145; dsimp only; infer_instance
instance gla_kr : R2 L.kr (fun a b => ρ.k a b * Real.exp (ρ.G 32 b - ρ.G a b)) := by
  unfold Gc.kr k0_pay149 k0_pay147; dsimp only; infer_instance
instance gla_qe : R2 L.qe (fun a b => ρ.q a b * (1 / 16) * Real.exp (ρ.G a b)) := by
  unfold Gc.qe k0_pay150 k0_pay146 k0_pay145; dsimp only; infer_instance
instance gla_ke : R2 L.ke (fun a b => ρ.k a b * Real.exp (ρ.G 63 b - ρ.G a b)) := by
  unfold Gc.ke k0_pay151 k0_pay147; dsimp only; infer_instance
instance gla_el : R2 L.el (fun _ b => Real.exp (ρ.G 63 b)) := by
  unfold Gc.el k0_pay152; infer_instance

instance gla_y (h : ℕ) (hh : h < 4) : R2 (L.y h hh) (ρ.y h) := by
  have hs := hL.s h hh
  unfold Gc.y
  refine R2.congr (f := ?f) ?h ?e
  case h => infer_instance
  case e =>
    intro a b ha hb
    simp only [Gv.y, Gv.sc, decide_eq_true_eq]

instance gla_yn (h : ℕ) (hh : h < 4) : R2 (L.yn h hh) (ρ.yn h) := by
  unfold Gc.yn k0_pay157
  exact R2.congr inferInstance fun a b ha hb => by simp only [Gv.yn]

instance gla_st (h : ℕ) (hh : h < 4) : R3 (L.st h hh) (fun _ => ρ.st h) := by
  have hs := hL.s h hh
  unfold Gc.st
  refine R3.congr (f := ?f) ?h ?e
  case h => infer_instance
  case e =>
    intro a b c ha hb hc
    simp only [Gv.st]

/-- The chunk's share of the result. -/
def Gc.out : FVec Ideal S64x2048 .f32 :=
  mulf (k0_pay174 (L.yn 0 (by decide)) (L.yn 1 (by decide)) (L.yn 2 (by decide)) (L.y 3 (by decide)) (k0_pay171 L.gn)
    (k0_pay172 k0_pay104 L.qr L.kr L.qe L.v (L.s 3)) k0_pay173 L.r)
    (addf (k0_pay175 L.mb) (broadcast S64x2048 (FloatOps.ofBits (F := Ideal) .f32 0x3F000000#32)))

theorem four_blocks (F : ℕ → ℕ → ℝ) {b : ℕ} (hb : b < 2048) :
    (if b < 512 then F 0 b else if b - 512 < 512 then F 1 (b - 512)
        else if b - 512 - 512 < 512 then F 2 (b - 512 - 512) else F 3 (b - 512 - 512 - 512)) = F (b / 512) (b % 512) := by
  split_ifs with h1 h2 h3
  · rw [Nat.div_eq_of_lt h1, Nat.mod_eq_of_lt h1]
  · rw [show b / 512 = 1 by omega, show b % 512 = b - 512 by omega]
  · rw [show b / 512 = 2 by omega, show b % 512 = b - 512 - 512 by omega]
  · rw [show b / 512 = 3 by omega, show b % 512 = b - 512 - 512 - 512 by omega]

instance gla_out : R2 L.out ρ.out := by
  have h3 : k0_pay169 k0_pay104 L.qr L.kr L.qe L.v (L.s 3) = L.y 3 (by decide) := rfl
  unfold Gc.out k0_pay174 k0_pay171 k0_pay172 k0_pay173 k0_pay175
  rw [h3]
  dsimp only
  refine R2.congr (f := ?f) ?h ?e
  case h => infer_instance
  case e =>
    intro a b ha hb
    have e := four_blocks (fun h c => ρ.yn h a c) hb
    unfold Gv.out
    rw [← e]
    rfl

end

end Mixer
-- ==== Proof.Mixer.Ssd.lean ====
module

public import proofs.«01_k».proof.Proof.Mixer.Gla

@[expose] public section

set_option maxRecDepth 16384

noncomputable section

/-! The state-space branch of one 128-token block: what the kernel computes from the block's rows and the four states, as
real functions. -/

namespace Mixer

open Idealize.ShloMosaic
open Cert.KernelIdeal Cert.KernelIdeal.Gen

/-- What one block reads. `p7`, `p6`, `p5` and `b7`, `b6`, `b5` are the rows one, two and three tokens earlier. -/
structure Sc where
  x0 : FVec Ideal S128x2048 .bf16
  x1 : FVec Ideal S128x1024 .bf16
  p7 : FVec Ideal S128x2048 .f32
  p6 : FVec Ideal S128x2048 .f32
  p5 : FVec Ideal S128x2048 .f32
  b7 : FVec Ideal S128x1024 .f32
  b6 : FVec Ideal S128x1024 .f32
  b5 : FVec Ideal S128x1024 .f32
  w3 : FVec Ideal S1x2048 .f32
  w2 : FVec Ideal S1x2048 .f32
  w1 : FVec Ideal S1x2048 .f32
  w0 : FVec Ideal S1x2048 .f32
  u3 : FVec Ideal S1x1024 .f32
  u2 : FVec Ideal S1x1024 .f32
  u1 : FVec Ideal S1x1024 .f32
  u0 : FVec Ideal S1x1024 .f32
  cx : FVec Ideal S1x2048 .f32
  cu : FVec Ideal S1x1024 .f32
  dtr : FVec Ideal S128x32 .f32
  dtb : FVec Ideal S1x32 .f32
  al : FVec Ideal S1x32 .f32
  dx : FVec Ideal S1x2048 .f32
  z : FVec Ideal S128x2048 .bf16
  ng : FVec Ideal S1x2048 .f32
  ma : FVec Ideal S128x2048 .bf16
  s : ℕ → FVec Ideal S1x128x512 .f32

/-- The real numbers one block reads. -/
structure Sv where
  px : ℕ → ℕ → ℝ
  pb : ℕ → ℕ → ℝ
  w : ℕ → ℕ → ℝ
  u : ℕ → ℕ → ℝ
  cx : ℕ → ℝ
  cu : ℕ → ℝ
  dtr : ℕ → ℕ → ℝ
  dtb : ℕ → ℝ
  al : ℕ → ℝ
  dx : ℕ → ℝ
  z : ℕ → ℕ → ℝ
  ng : ℕ → ℝ
  ma : ℕ → ℕ → ℝ
  s : ℕ → ℕ → ℕ → ℝ

/-- The vectors a block reads hold these real numbers. -/
class Sc.Is (L : Sc) (ρ : outParam Sv) : Prop where
  x0 : R2 L.x0 (fun a b => ρ.px (8 + a) b)
  x1 : R2 L.x1 (fun a b => ρ.pb (8 + a) b)
  p7 : R2 L.p7 (fun a b => ρ.px (7 + a) b)
  p6 : R2 L.p6 (fun a b => ρ.px (6 + a) b)
  p5 : R2 L.p5 (fun a b => ρ.px (5 + a) b)
  b7 : R2 L.b7 (fun a b => ρ.pb (7 + a) b)
  b6 : R2 L.b6 (fun a b => ρ.pb (6 + a) b)
  b5 : R2 L.b5 (fun a b => ρ.pb (5 + a) b)
  w3 : R2 L.w3 (fun _ b => ρ.w 3 b)
  w2 : R2 L.w2 (fun _ b => ρ.w 2 b)
  w1 : R2 L.w1 (fun _ b => ρ.w 1 b)
  w0 : R2 L.w0 (fun _ b => ρ.w 0 b)
  u3 : R2 L.u3 (fun _ b => ρ.u 3 b)
  u2 : R2 L.u2 (fun _ b => ρ.u 2 b)
  u1 : R2 L.u1 (fun _ b => ρ.u 1 b)
  u0 : R2 L.u0 (fun _ b => ρ.u 0 b)
  cx : R2 L.cx (fun _ b => ρ.cx b)
  cu : R2 L.cu (fun _ b => ρ.cu b)
  dtr : R2 L.dtr ρ.dtr
  dtb : R2 L.dtb (fun _ b => ρ.dtb b)
  al : R2 L.al (fun _ b => ρ.al b)
  dx : R2 L.dx (fun _ b => ρ.dx b)
  z : R2 L.z ρ.z
  ng : R2 L.ng (fun _ b => ρ.ng b)
  ma : R2 L.ma ρ.ma
  s : ∀ g, g < 4 → R3 (L.s g) (fun _ => ρ.s g)

attribute [instance] Sc.Is.x0 Sc.Is.x1 Sc.Is.p7 Sc.Is.p6 Sc.Is.p5 Sc.Is.b7 Sc.Is.b6 Sc.Is.b5 Sc.Is.w3 Sc.Is.w2 Sc.Is.w1 Sc.Is.w0
  Sc.Is.u3 Sc.Is.u2 Sc.Is.u1 Sc.Is.u0 Sc.Is.cx Sc.Is.cu Sc.Is.dtr Sc.Is.dtb Sc.Is.al Sc.Is.dx Sc.Is.z Sc.Is.ng Sc.Is.ma

namespace Sv
variable (ρ : Sv)
/-- The convolved and activated inputs. -/
def xs (a b : ℕ) : ℝ := silu (ρ.px (8 + a) b * ρ.w 3 b + ρ.cx b + ρ.px (7 + a) b * ρ.w 2 b + ρ.px (6 + a) b * ρ.w 1 b + ρ.px (5 + a) b * ρ.w 0 b)
def bc (a b : ℕ) : ℝ := silu (ρ.pb (8 + a) b * ρ.u 3 b + ρ.cu b + ρ.pb (7 + a) b * ρ.u 2 b + ρ.pb (6 + a) b * ρ.u 1 b + ρ.pb (5 + a) b * ρ.u 0 b)
/-- The time step of a token and head. -/
def dt (a h : ℕ) : ℝ := max (ρ.dtr a h + ρ.dtb h) 0 + Real.log (1 + Real.exp (0 - |ρ.dtr a h + ρ.dtb h|))
/-- The log decay of one token. -/
def dA (a h : ℕ) : ℝ := ρ.dt a h * (0 - Real.exp (ρ.al h))
/-- The log decay accumulated from the block's start. -/
def A (a h : ℕ) : ℝ := ∑ k ∈ Finset.range (a + 1), ρ.dA k h
/-- The scores of a group. -/
def cb (g a k : ℕ) : ℝ := ∑ n ∈ Finset.range 128, ρ.bc a (512 + 128 * g + n) * ρ.bc k (128 * g + n)
/-- What the block itself contributes. -/
def yd (a b : ℕ) : ℝ := ∑ k ∈ Finset.range 128, (ρ.cb (b / 512) a k * (if k ≤ a then Real.exp (ρ.A a (b / 64) - ρ.A k (b / 64)) else 0))
  * (ρ.xs k b * ρ.dt k (b / 64))
/-- What the state contributes, before its decay. -/
def yo (g a b : ℕ) : ℝ := ∑ n ∈ Finset.range 128, ρ.bc a (512 + 128 * g + n) * ρ.s g n b
/-- The branch before its norm. -/
def yg (a b : ℕ) : ℝ := (ρ.yd a b + ρ.yo (b / 512) a (b % 512) * Real.exp (ρ.A a (b / 64)) + ρ.dx b * ρ.xs a b) * silu (ρ.z a b)
/-- The branch after its norm. -/
def yn (a b : ℕ) : ℝ := ρ.yg a b * (Real.sqrt ((∑ c ∈ Finset.range 512, ρ.yg a (512 * (b / 512) + c) * ρ.yg a (512 * (b / 512) + c)) / 512 + eps))⁻¹
/-- The block's share of the result. -/
def out (a b : ℕ) : ℝ := sigm (ρ.ma a b) * (ρ.yn a b * ρ.ng b)
/-- The state the block leaves. -/
def st (g n c : ℕ) : ℝ := ρ.s g n c * Real.exp (ρ.A 127 ((512 * g + c) / 64))
  + ∑ k ∈ Finset.range 128, ρ.bc k (128 * g + n) * (ρ.xs k (512 * g + c)
    * (ρ.dt k ((512 * g + c) / 64) * Real.exp (ρ.A 127 ((512 * g + c) / 64) - ρ.A k ((512 * g + c) / 64))))
end Sv

namespace Sc
variable (L : Sc)
def cv : FVec Ideal S128x2048 .f32 := k0_pay9 L.x0 L.w3 L.cx L.p7 L.w2 L.p6 L.w1 L.p5 L.w0
def xs : FVec Ideal S128x2048 .f32 := k0_pay12 L.cv
def cvb : FVec Ideal S128x1024 .f32 := k0_pay14 (k0_pay7 L.x1) L.u3 L.cu L.b7 L.u2 L.b6 L.u1 L.b5 L.u0
def bc : FVec Ideal S128x1024 .f32 := k0_pay17 L.cvb
def dt : FVec Ideal S128x32 .f32 := k0_pay18 L.dtr L.dtb
def hi : FVec Ideal S128x32 .f32 := k0_pay26 L.dtr L.dtb L.al
def md : FVec Ideal S128x32 .bf16 := k0_pay24 L.dtr L.dtb L.al
def lo : FVec Ideal S128x32 .bf16 := k0_pay25 L.dtr L.dtb L.al
def A : FVec Ideal S128x32 .f32 := k0_pay27 k0_pay21 L.md L.lo L.hi (constant S128x32 .f32 0x00000000#32)
def At : FVec Ideal S32x128 .f32 := k0_pay28 k0_pay21 L.md L.lo L.hi (constant S128x32 .f32 0x00000000#32)
def eA : FVec Ideal S128x32 .f32 := k0_pay29 k0_pay21 L.md L.lo L.hi (constant S128x32 .f32 0x00000000#32)
def de : FVec Ideal S128x32 .f32 := k0_pay32 L.dt k0_pay21 L.md L.lo L.hi (constant S128x32 .f32 0x00000000#32)
def dtx : FVec Ideal S128x2048 .f32 := k0_pay31 L.dt
def eax : FVec Ideal S128x2048 .f32 := k0_pay33 L.eA k0_pay30
def cdx : FVec Ideal S1x2048 .f32 := extractStridedSlice S1x2048 ![127, 0] L.eax slices_S128x2048_o127_0_S1x2048
def xl : FVec Ideal S128x2048 .bf16 := k0_pay37 L.xs L.dtx
def xr : FVec Ideal S128x2048 .bf16 := k0_pay38 L.xs L.dtx
def xe : FVec Ideal S128x2048 .bf16 := k0_pay39 L.xs k0_pay30 L.de

theorem slc {m n w o : ℕ} (h : o + w ≤ n) : Shape.Slices ⟨2, ![m, n]⟩ ![0, o] ⟨2, ![m, w]⟩ :=
  ⟨rfl, fun a => by match a with | 0 => exact (Nat.zero_add _).le | 1 => exact h⟩
theorem slr {m n w o : ℕ} (h : o + w ≤ m) : Shape.Slices ⟨2, ![m, n]⟩ ![o, 0] ⟨2, ![w, n]⟩ :=
  ⟨rfl, fun a => by match a with | 0 => exact h | 1 => exact (Nat.zero_add _).le⟩

/-- The two halves of the scores of group `g`. -/
def Cg (g : ℕ) (hg : g < 4) : FVec Ideal S128x128 .bf16 :=
  truncf .bf16 (extractStridedSlice S128x128 ![0, 512 + 128 * g] L.bc (slc (by omega))) bitsLt_bf16_f32
def Bg (g : ℕ) (hg : g < 4) : FVec Ideal S128x128 .bf16 :=
  truncf .bf16 (extractStridedSlice S128x128 ![0, 128 * g] L.bc (slc (by omega))) bitsLt_bf16_f32
/-- The scores of group `g`. -/
def cb (g : ℕ) (hg : g < 4) : FVec Ideal S128x128 .f32 :=
  matmul dot_S128x128_S128x128_S128x128_1_1_0_0_n_n none (L.Cg g hg) (L.Bg g hg) (constant S128x128 .f32 0x00000000#32)
/-- What the state of group `g` contributes. -/
def yo (g : ℕ) (hg : g < 4) : FVec Ideal S128x512 .f32 :=
  matmul dot_S128x128_S128x512_S128x512_1_0_0_1_n_n none (L.Cg g hg)
    (truncf .bf16 (shapeCast S128x512 (L.s g) shapeCasts_S1x128x512_S128x512) bitsLt_bf16_f32) (constant S128x512 .f32 0x00000000#32)
/-- The state group `g` leaves. -/
def st (g : ℕ) (hg : g < 4) : FVec Ideal S1x128x512 .f32 :=
  shapeCast S1x128x512 (addf
    (mulf (shapeCast S128x512 (L.s g) shapeCasts_S1x128x512_S128x512)
      (broadcastTo S128x512 (extractStridedSlice S1x512 ![0, 512 * g] L.cdx (slc (by omega))) broadcasts_S1x512_S128x512))
    (matmul dot_S128x128_S128x512_S128x512_0_0_1_1_n_n none (L.Bg g hg)
      (extractStridedSlice S128x512 ![0, 512 * g] L.xe (slc (by omega))) (constant S128x512 .f32 0x00000000#32)))
    shapeCasts_S128x512_S1x128x512
/-- The scores of group `g` with the decay of head `h`. -/
def dec (g h : ℕ) (hg : g < 4) (hh : h < 32) : FVec Ideal S128x128 .bf16 :=
  truncf .bf16 (mulf (L.cb g hg) (exp (select k0_pay20
    (subf (broadcastTo S128x128 (extractStridedSlice S128x1 ![0, h] L.A (slc (by omega))) broadcasts_S128x1_S128x128)
      (broadcastTo S128x128 (extractStridedSlice S1x128 ![h, 0] L.At (slr (by omega))) broadcasts_S1x128_S128x128))
    (broadcast S128x128 (FloatOps.ofBits (F := Ideal) .f32 0xFF800000#32))))) bitsLt_bf16_f32
/-- The scores of heads `2p` and `2p + 1` side by side. -/
def sc (g p : ℕ) (hg : g < 4) (hp : p < 16) : FVec Ideal S128x256 .bf16 :=
  concatenate S128x256 1 [⟨S128x128, L.dec g (2 * p) hg (by omega)⟩, ⟨S128x128, L.dec g (2 * p + 1) hg (by omega)⟩]
    concatenates_S128x128_S128x128_S128x256_d1
def lp (p : ℕ) (hp : p < 16) : FVec Ideal S128x128 .bf16 := extractStridedSlice S128x128 ![0, 128 * p] L.xl (slc (by omega))
def rp (p : ℕ) (hp : p < 16) : FVec Ideal S128x128 .bf16 := extractStridedSlice S128x128 ![0, 128 * p] L.xr (slc (by omega))
/-- What the block itself contributes to the two heads. -/
def pr (g p : ℕ) (hg : g < 4) (hp : p < 16) : FVec Ideal S128x128 .f32 :=
  matmul dot_S128x256_S256x128_S128x128_1_0_0_1_n_n none (L.sc g p hg hp)
    (concatenate S256x128 0 [⟨S128x128, L.lp p hp⟩, ⟨S128x128, L.rp p hp⟩] concatenates_S128x128_S128x128_S256x128_d0)
    (constant S128x128 .f32 0x00000000#32)

end Sc

theorem sum_pick {n b : ℕ} (hb : b < n) (g : ℕ → ℝ) :
    ∑ k ∈ Finset.range n, g k * (if b = k then (1 : ℝ) else 0) = g b := by
  simp [hb]

theorem sum_pick' {n b : ℕ} (hb : b < n) (g : ℕ → ℝ) :
    ∑ k ∈ Finset.range n, (if b = k then (1 : ℝ) else 0) * g k = g b := by
  simp [hb]

/-- Sums of products with three stacked copies, of which the second and third factors vanish. -/
theorem sum_rep {b : ℕ} (hb : b < 32) (g : ℕ → ℝ) :
    ∑ k ∈ Finset.range 96, (if k < 32 then g k else if k - 32 < 32 then 0 else 0) *
      (if k < 32 then (if b = k then (1 : ℝ) else 0) else if k - 32 < 32 then (if b = k - 32 then 1 else 0) else (if b = k - 32 - 32 then 1 else 0))
      = g b := by
  rw [show 96 = 32 + 64 from rfl, Finset.sum_range_add, ← sum_pick hb g]
  have h2 : ∀ k ∈ Finset.range 64, (if 32 + k < 32 then g (32 + k) else if 32 + k - 32 < 32 then 0 else 0) *
      (if 32 + k < 32 then (if b = 32 + k then (1 : ℝ) else 0) else if 32 + k - 32 < 32 then (if b = 32 + k - 32 then 1 else 0) else (if b = 32 + k - 32 - 32 then 1 else 0)) = 0 :=
    fun k _ => by rw [if_neg (show ¬ 32 + k < 32 by omega), ite_self, zero_mul]
  rw [Finset.sum_eq_zero h2, add_zero]
  exact Finset.sum_congr rfl fun k hk => by rw [if_pos (Finset.mem_range.1 hk), if_pos (Finset.mem_range.1 hk)]

section
variable (L : Sc) (ρ : Sv) [hL : L.Is ρ]

instance ssd_xs : R2 L.xs ρ.xs := by
  unfold Sc.xs Sc.cv
  refine R2.congr (f := ?f) ?h ?e
  case h => unfold k0_pay12 k0_pay9 k0_pay6; dsimp only; infer_instance
  case e => exact fun a b ha hb => rfl
instance ssd_bc : R2 L.bc ρ.bc := by
  unfold Sc.bc Sc.cvb
  refine R2.congr (f := ?f) ?h ?e
  case h => unfold k0_pay17 k0_pay14 k0_pay7; dsimp only; infer_instance
  case e => exact fun a b ha hb => rfl
instance ssd_dt : R2 L.dt ρ.dt := by
  unfold Sc.dt
  refine R2.congr (f := ?f) ?h ?e
  case h => unfold k0_pay18; infer_instance
  case e => exact fun a b ha hb => rfl

/-- The log decay of one token. -/
instance ssd_dA : R2 (k0_pay19 L.dtr L.dtb L.al) ρ.dA := by
  unfold k0_pay19
  have h : k0_pay18 L.dtr L.dtb = L.dt := rfl
  rw [h]
  refine R2.congr (f := ?f) ?h ?e
  case h => infer_instance
  case e => exact fun a b ha hb => rfl

instance mask_lower : R2 (k0_pay21 (F := Ideal)) (fun a b => if b ≤ a then 1 else 0) := by
  unfold k0_pay21
  refine R2.congr (f := ?f) ?h ?e
  case h => infer_instance
  case e => intro a b _ _; simp only [decide_eq_true_eq]

instance ssd_hi : R2 L.hi ρ.A := by
  unfold Sc.hi k0_pay26 k0_pay22
  refine R2.congr (f := ?f) ?h ?e
  case h => dsimp only; infer_instance
  case e =>
    intro a b ha hb
    simp only [ite_mul, one_mul, zero_mul]
    exact sum_le_mask ha _
instance ssd_md : R2 L.md (fun _ _ => 0) := by
  unfold Sc.md k0_pay24 k0_pay23 k0_pay22
  refine R2.congr (f := ?f) ?h ?e
  case h => dsimp only; infer_instance
  case e => intro a b _ _; simp only [sub_self]
instance ssd_lo : R2 L.lo (fun _ _ => 0) := by
  unfold Sc.lo k0_pay25 k0_pay24 k0_pay23 k0_pay22
  refine R2.congr (f := ?f) ?h ?e
  case h => dsimp only; infer_instance
  case e => intro a b _ _; simp only [sub_self]
instance ssd_A : R2 L.A ρ.A := by
  unfold Sc.A k0_pay27
  refine R2.congr (f := ?f) ?h ?e
  case h => infer_instance
  case e => intro a b _ _; simp
instance ssd_At : R2 L.At (fun a b => ρ.A b a) := by
  unfold Sc.At k0_pay28
  have h : k0_pay27 k0_pay21 L.md L.lo L.hi (constant S128x32 .f32 0x00000000#32) = L.A := rfl
  rw [h]
  refine R2.congr (f := ?f) ?h ?e
  case h => infer_instance
  case e =>
    intro a b ha hb
    simp only [sub_self, mul_zero, Finset.sum_const_zero, add_zero, decide_eq_true_eq]
    exact sum_pick' ha _
instance ssd_eA : R2 L.eA (fun a b => Real.exp (ρ.A a b)) := by
  have h : L.eA = exp L.A := rfl
  rw [h]; infer_instance
instance ssd_de : R2 L.de (fun a b => ρ.dt a b * Real.exp (ρ.A 127 b - ρ.A a b)) := by
  unfold Sc.de k0_pay32
  have h : k0_pay27 k0_pay21 L.md L.lo L.hi (constant S128x32 .f32 0x00000000#32) = L.A := rfl
  rw [h]
  refine R2.congr (f := ?f) ?h ?e
  case h => infer_instance
  case e => intro a b _ _; rfl

instance ssd_rep : R2 (k0_pay30 (F := Ideal)) (fun a b => if a < 32 then (if b / 64 = a then 1 else 0)
    else if a - 32 < 32 then (if b / 64 = a - 32 then 1 else 0) else (if b / 64 = a - 32 - 32 then 1 else 0)) := by
  unfold k0_pay30
  refine R2.congr (f := ?f) ?h ?e
  case h => infer_instance
  case e => intro a b _ _; simp only [decide_eq_true_eq]

/-- A value of each head spread over the head's 64 columns. -/
instance ssd_spread {v : FVec Ideal S128x32 .f32} {f : ℕ → ℕ → ℝ} [R2 v f] :
    R2 (k0_pay33 v k0_pay30) (fun a b => f a (b / 64)) := by
  unfold k0_pay33
  refine R2.congr (f := ?f) ?h ?e
  case h => infer_instance
  case e =>
    intro a b ha hb
    simp only [sub_self]
    exact sum_rep (by omega) (fun k => f a k)

instance ssd_dtx : R2 L.dtx (fun a b => ρ.dt a (b / 64)) := by
  have h : L.dtx = k0_pay33 L.dt k0_pay30 := rfl
  rw [h]; infer_instance
instance ssd_eax : R2 L.eax (fun a b => Real.exp (ρ.A a (b / 64))) := by
  unfold Sc.eax; infer_instance
instance ssd_cdx : R2 L.cdx (fun _ b => Real.exp (ρ.A 127 (b / 64))) := by
  unfold Sc.cdx
  refine R2.congr (f := ?f) ?h ?e
  case h => infer_instance
  case e =>
    intro a b ha hb
    obtain rfl : a = 0 := by omega
    rfl
instance ssd_xl : R2 L.xl (fun a b => if b / 64 % 2 = 0 then ρ.xs a b * ρ.dt a (b / 64) else 0) := by
  unfold Sc.xl k0_pay37 k0_pay35
  refine R2.congr (f := ?f) ?h ?e
  case h => dsimp only; infer_instance
  case e => intro a b _ _; simp only [decide_eq_true_eq]
instance ssd_xr : R2 L.xr (fun a b => if b / 64 % 2 = 0 then 0 else ρ.xs a b * ρ.dt a (b / 64)) := by
  unfold Sc.xr k0_pay38 k0_pay35
  refine R2.congr (f := ?f) ?h ?e
  case h => dsimp only; infer_instance
  case e => intro a b _ _; simp only [decide_eq_true_eq]
instance ssd_xe : R2 L.xe (fun a b => ρ.xs a b * (ρ.dt a (b / 64) * Real.exp (ρ.A 127 (b / 64) - ρ.A a (b / 64)))) := by
  have h : L.xe = truncf .bf16 (mulf L.xs (k0_pay33 L.de k0_pay30)) bitsLt_bf16_f32 := rfl
  rw [h]; infer_instance

instance ssd_Cg (g : ℕ) (hg : g < 4) : R2 (L.Cg g hg) (fun a n => ρ.bc a (512 + 128 * g + n)) := by
  unfold Sc.Cg; infer_instance
instance ssd_Bg (g : ℕ) (hg : g < 4) : R2 (L.Bg g hg) (fun a n => ρ.bc a (128 * g + n)) := by
  unfold Sc.Bg; infer_instance
instance ssd_cb (g : ℕ) (hg : g < 4) : R2 (L.cb g hg) (ρ.cb g) := by
  unfold Sc.cb
  refine R2.congr (f := ?f) ?h ?e
  case h => infer_instance
  case e => intro a b _ _; rfl
instance ssd_yo (g : ℕ) (hg : g < 4) : R2 (L.yo g hg) (ρ.yo g) := by
  have hs := hL.s g hg
  unfold Sc.yo
  refine R2.congr (f := ?f) ?h ?e
  case h => infer_instance
  case e => intro a b _ _; rfl
instance ssd_st (g : ℕ) (hg : g < 4) : R3 (L.st g hg) (fun _ => ρ.st g) := by
  have hs := hL.s g hg
  unfold Sc.st
  refine R3.congr (f := ?f) ?h ?e
  case h => infer_instance
  case e => intro a b c _ _ _; rfl
instance ssd_dec (g h : ℕ) (hg : g < 4) (hh : h < 32) : R2 (L.dec g h hg hh)
    (fun a k => ρ.cb g a k * (if k ≤ a then Real.exp (ρ.A a h - ρ.A k h) else 0)) := by
  unfold Sc.dec
  refine R2.congr (f := ?f) ?h ?e
  case h => infer_instance
  case e => intro a b _ _; simp only [decide_eq_true_eq, add_zero]

/-- The product with the two heads' lanes packed side by side takes each head's own scores. -/
theorem sum_pair {b p : ℕ} (hb : b < 128) (F F' X : ℕ → ℝ) :
    ∑ k ∈ Finset.range 256, (if k < 128 then F k else F' (k - 128)) *
      (if k < 128 then (if (128 * p + b) / 64 % 2 = 0 then X k else 0) else (if (128 * p + b) / 64 % 2 = 0 then 0 else X (k - 128)))
      = ∑ k ∈ Finset.range 128, (if b < 64 then F k else F' k) * X k := by
  rw [show 256 = 128 + 128 from rfl, Finset.sum_range_add, ← Finset.sum_add_distrib]
  refine Finset.sum_congr rfl fun k hk => ?_
  have hk := Finset.mem_range.1 hk
  rw [if_pos hk, if_pos hk, if_neg (show ¬ 128 + k < 128 by omega), if_neg (show ¬ 128 + k < 128 by omega), Nat.add_sub_cancel_left]
  by_cases h : b < 64
  · rw [if_pos (show (128 * p + b) / 64 % 2 = 0 by omega), if_pos (show (128 * p + b) / 64 % 2 = 0 by omega), if_pos h]; ring
  · rw [if_neg (show ¬ (128 * p + b) / 64 % 2 = 0 by omega), if_neg (show ¬ (128 * p + b) / 64 % 2 = 0 by omega), if_neg h]; ring

theorem ssd_pr (g p : ℕ) (hg : g < 4) (hp : p < 16) (e : g = p / 4) :
    R2 (L.pr g p hg hp) (fun a b => ρ.yd a (128 * p + b)) := by
  unfold Sc.pr Sc.sc Sc.lp Sc.rp
  refine R2.congr (f := ?f) ?h ?e
  case h => infer_instance
  case e =>
    intro a b ha hb
    refine (sum_pair (p := p) hb (fun k => ρ.cb g a k * (if k ≤ a then Real.exp (ρ.A a (2 * p) - ρ.A k (2 * p)) else 0))
      (fun k => ρ.cb g a k * (if k ≤ a then Real.exp (ρ.A a (2 * p + 1) - ρ.A k (2 * p + 1)) else 0)) (fun k => ρ.xs k (128 * p + b) * ρ.dt k ((128 * p + b) / 64))).trans ?_
    unfold Sv.yd
    refine Finset.sum_congr rfl fun k _ => ?_
    congr 1
    rw [show (128 * p + b) / 512 = g by omega]
    by_cases h : b < 64
    · rw [if_pos h, show (128 * p + b) / 64 = 2 * p by omega]
    · rw [if_neg h, show (128 * p + b) / 64 = 2 * p + 1 by omega]

/-- The sixteen pairs of heads side by side. -/
theorem ssd_yd {hc} : R2 (concatenate S128x2048 1 [⟨S128x128, L.pr 0 0 (by decide) (by decide)⟩, ⟨S128x128, L.pr 0 1 (by decide) (by decide)⟩, ⟨S128x128, L.pr 0 2 (by decide) (by decide)⟩, ⟨S128x128, L.pr 0 3 (by decide) (by decide)⟩, ⟨S128x128, L.pr 1 4 (by decide) (by decide)⟩, ⟨S128x128, L.pr 1 5 (by decide) (by decide)⟩, ⟨S128x128, L.pr 1 6 (by decide) (by decide)⟩, ⟨S128x128, L.pr 1 7 (by decide) (by decide)⟩, ⟨S128x128, L.pr 2 8 (by decide) (by decide)⟩, ⟨S128x128, L.pr 2 9 (by decide) (by decide)⟩, ⟨S128x128, L.pr 2 10 (by decide) (by decide)⟩, ⟨S128x128, L.pr 2 11 (by decide) (by decide)⟩, ⟨S128x128, L.pr 3 12 (by decide) (by decide)⟩, ⟨S128x128, L.pr 3 13 (by decide) (by decide)⟩, ⟨S128x128, L.pr 3 14 (by decide) (by decide)⟩, ⟨S128x128, L.pr 3 15 (by decide) (by decide)⟩] hc : FVec Ideal S128x2048 .f32) ρ.yd := by
  have h := fun (g p : ℕ) (hg : g < 4) (hp : p < 16) (e : g = p / 4) => ssd_pr L ρ g p hg hp e
  refine R2.congr (cat_16x128 (G := fun p a b => ρ.yd a (128 * p + b))
    (h0 := h 0 0 _ _ rfl) (h1 := h 0 1 _ _ rfl) (h2 := h 0 2 _ _ rfl) (h3 := h 0 3 _ _ rfl)
    (h4 := h 1 4 _ _ rfl) (h5 := h 1 5 _ _ rfl) (h6 := h 1 6 _ _ rfl) (h7 := h 1 7 _ _ rfl)
    (h8 := h 2 8 _ _ rfl) (h9 := h 2 9 _ _ rfl) (h10 := h 2 10 _ _ rfl) (h11 := h 2 11 _ _ rfl)
    (h12 := h 3 12 _ _ rfl) (h13 := h 3 13 _ _ rfl) (h14 := h 3 14 _ _ rfl) (h15 := h 3 15 _ _ rfl)) fun a b _ _ => ?_
  simp only [Nat.div_add_mod]

/-- The branch before its norm. -/
def Sc.yg : FVec Ideal S128x2048 .f32 :=
  k0_pay97 L.xs L.eax (L.yo 0 (by decide)) (L.pr 0 0 (by decide) (by decide)) (L.pr 0 1 (by decide) (by decide)) (L.pr 0 2 (by decide) (by decide)) (L.pr 0 3 (by decide) (by decide)) (L.yo 1 (by decide)) (L.pr 1 4 (by decide) (by decide)) (L.pr 1 5 (by decide) (by decide)) (L.pr 1 6 (by decide) (by decide)) (L.pr 1 7 (by decide) (by decide)) (L.yo 2 (by decide)) (L.pr 2 8 (by decide) (by decide)) (L.pr 2 9 (by decide) (by decide)) (L.pr 2 10 (by decide) (by decide)) (L.pr 2 11 (by decide) (by decide)) (L.yo 3 (by decide)) (L.pr 3 12 (by decide) (by decide)) (L.pr 3 13 (by decide) (by decide)) (L.pr 3 14 (by decide) (by decide))
    (L.sc 3 15 (by decide) (by decide)) (L.lp 15 (by decide)) (L.rp 15 (by decide)) L.dx L.z

instance ssd_yg : R2 L.yg ρ.yg := by
  have hcat := fun hc => ssd_yd L ρ (hc := hc)
  unfold Sc.yg k0_pay97
  have h : matmul dot_S128x256_S256x128_S128x128_1_0_0_1_n_n none (L.sc 3 15 (by decide) (by decide))
    (concatenate S256x128 0 [⟨S128x128, L.lp 15 (by decide)⟩, ⟨S128x128, L.rp 15 (by decide)⟩] concatenates_S128x128_S128x128_S256x128_d0)
    (constant S128x128 .f32 0x00000000#32) = L.pr 3 15 (by decide) (by decide) := rfl
  dsimp only
  rw [h]
  refine R2.congr (f := ?f) ?h ?e
  case h => infer_instance
  case e =>
    intro a b ha hb
    have e := four_blocks (fun g c => ρ.yo g a c) hb
    unfold Sv.yg
    rw [← e]
    rfl

/-- A 512-column group of the branch. -/
def Sc.grp (g : ℕ) (hg : g < 4) : FVec Ideal S128x512 .f32 := extractStridedSlice S128x512 ![0, 512 * g] L.yg (Sc.slc (by omega))
/-- The sum of squares of a group. -/
def Sc.sq (g : ℕ) (hg : g < 4) : FVec Ideal S128x1 .f32 :=
  shapeCast S128x1 (multiReduction .add [1] S128 (mulf (L.grp g hg) (L.grp g hg)) 0x00000000#32 reduces_S128x512_S128 (.inl rfl) rfl) shapeCasts_S128_S128x1
/-- A group after its norm. -/
def Sc.nrm (g : ℕ) (hg : g < 4) : FVec Ideal S128x512 .f32 :=
  mulf (L.grp g hg) (broadcastTo S128x512 (rsqrt (addf (divf (L.sq g hg) (broadcast S128x1 (FloatOps.ofBits (F := Ideal) .f32 0x44000000#32)))
    (broadcast S128x1 (FloatOps.ofBits (F := Ideal) .f32 0x358637BD#32)))) broadcasts_S128x1_S128x512)

/-- The branch's share of the result. -/
def Sc.out : FVec Ideal S128x2048 .f32 :=
  k0_pay103 L.yg (L.nrm 0 (by decide)) (L.nrm 1 (by decide)) (L.grp 2 (by decide)) (L.sq 2 (by decide)) k0_pay102 L.ng L.ma

instance ssd_grp (g : ℕ) (hg : g < 4) : R2 (L.grp g hg) (fun a c => ρ.yg a (512 * g + c)) := by
  unfold Sc.grp; infer_instance
instance ssd_nrm (g : ℕ) (hg : g < 4) : R2 (L.nrm g hg) (fun a c => ρ.yn a (512 * g + c)) := by
  unfold Sc.nrm Sc.sq
  refine R2.congr (f := ?f) ?h ?e
  case h => infer_instance
  case e =>
    intro a b ha hb
    unfold Sv.yn
    rw [show (512 * g + b) / 512 = g by omega]

instance ssd_out : R2 L.out ρ.out := by
  have h : L.out = mulf (addf (mulf (broadcast S128x2048 (FloatOps.ofBits (F := Ideal) .f32 0x3F000000#32))
      (tanh (mulf (broadcast S128x2048 (FloatOps.ofBits (F := Ideal) .f32 0x3F000000#32)) (extf .f32 L.ma bitsLt_bf16_f32))))
      (broadcast S128x2048 (FloatOps.ofBits (F := Ideal) .f32 0x3F000000#32)))
    (mulf (concatenate S128x2048 1 [⟨S128x512, L.nrm 0 (by decide)⟩, ⟨S128x512, L.nrm 1 (by decide)⟩, ⟨S128x512, L.nrm 2 (by decide)⟩,
      ⟨S128x512, L.nrm 3 (by decide)⟩] concatenates_S128x512_S128x512_S128x512_S128x512_S128x2048_d1)
      (broadcastTo S128x2048 (shapeCast S1x2048 L.ng shapeCasts_S1x2048_S1x2048) broadcasts_S1x2048_S128x2048)) := rfl
  rw [h]
  refine R2.congr (f := ?f) ?h ?e
  case h => infer_instance
  case e =>
    intro a b ha hb
    have e := four_blocks (fun g c => ρ.yn a (512 * g + c)) hb
    simp only [Nat.div_add_mod] at e
    unfold Sv.out
    rw [← e]
    rfl

end

end Mixer
-- ==== Proof.Mixer.Leaf.lean ====
module

public import proofs.«01_k».proof.Proof.Mixer.Ssd
public import Idealize.ShloMosaic.Lib.WritesUnit

@[expose] public section

set_option maxRecDepth 16384

noncomputable section

/-! Buffers that hold real numbers: what a load reads, and what a buffer holds after blocks are written over it. -/

namespace Mixer

open Idealize.ShloMosaic

/-- On the rows where `P` holds, a matrix holds the real numbers `F`. -/
def On2 {m n : ℕ} {φ : FTy} (P : ℕ → Prop) (X : FVec Ideal ⟨2, ![m, n]⟩ φ) (F : ℕ → ℕ → ℝ) : Prop :=
  ∀ i : (⟨2, ![m, n]⟩ : Shape).Idx, P (i 0).val → X i = ((F (i 0).val (i 1).val : ℝ) : EReal)

/-- On the planes where `P` holds, a three-axis array holds the real numbers `F`. -/
def On3 {l m n : ℕ} {φ : FTy} (P : ℕ → Prop) (X : FVec Ideal ⟨3, ![l, m, n]⟩ φ) (F : ℕ → ℕ → ℕ → ℝ) : Prop :=
  ∀ i : (⟨3, ![l, m, n]⟩ : Shape).Idx, P (i 0).val → X i = ((F (i 0).val (i 1).val (i 2).val : ℝ) : EReal)

theorem on2_of {m n : ℕ} {φ : FTy} {P : ℕ → Prop} {X : FVec Ideal ⟨2, ![m, n]⟩ φ} {F : ℕ → ℕ → ℝ} (h : R2 X F) : On2 P X F :=
  fun i _ => h.eq i
theorem on3_of {l m n : ℕ} {φ : FTy} {P : ℕ → Prop} {X : FVec Ideal ⟨3, ![l, m, n]⟩ φ} {F : ℕ → ℕ → ℕ → ℝ} (h : R3 X F) : On3 P X F :=
  fun i _ => h.eq i
theorem r2_of {m n : ℕ} {φ : FTy} {P : ℕ → Prop} {X : FVec Ideal ⟨2, ![m, n]⟩ φ} {F : ℕ → ℕ → ℝ} (h : On2 P X F)
    (hP : ∀ a, a < m → P a) : R2 X F := ⟨fun i => h i (hP _ (i 0).isLt)⟩
theorem r3_of {l m n : ℕ} {φ : FTy} {P : ℕ → Prop} {X : FVec Ideal ⟨3, ![l, m, n]⟩ φ} {F : ℕ → ℕ → ℕ → ℝ} (h : On3 P X F)
    (hP : ∀ a, a < l → P a) : R3 X F := ⟨fun i => h i (hP _ (i 0).isLt)⟩

section
variable {sig : RefSig} {κ : Kind} {sp : Space} {m n l : ℕ}

theorem load2_f32 {m' n' o₀ o₁ : ℕ} {v : View sig κ sp ⟨2, ![m, n]⟩ .f32} {f : v.ty.Contents (Elt Ideal)} {F : ℕ → ℕ → ℝ}
    {inb : ∀ a, (![o₀, o₁] : Fin 2 → ℕ) a + (![m', n'] : Fin 2 → ℕ) a ≤ (⟨2, ![m, n]⟩ : Shape).size a} {P : ℕ → Prop}
    (h : On2 (φ := .f32) P (v.read (Elt Ideal) f) F) (hP : ∀ a, a < m' → P (o₀ + a)) :
    R2 (φ := .f32) (m := m') (n := n') (View.readAt (Elt Ideal) v (Rect.unit (s := ⟨2, ![m, n]⟩) ![o₀, o₁] ![m', n'] inb).toLoadRect f)
      (fun a b => F (o₀ + a) (o₁ + b)) := ⟨fun i => by
  have e0 : o₀ + 1 * (i 0).val = o₀ + (i 0).val := by rw [one_mul]
  have e1 : o₁ + 1 * (i 1).val = o₁ + (i 1).val := by rw [one_mul]
  refine (h _ (show P (o₀ + 1 * (i 0).val) by rw [e0]; exact hP _ (i 0).isLt)).trans ?_
  show ((F (o₀ + 1 * (i 0).val) (o₁ + 1 * (i 1).val) : ℝ) : EReal) = _
  rw [e0, e1]⟩

theorem load3_f32 {m' n' l' o₀ o₁ o₂ : ℕ} {v : View sig κ sp ⟨3, ![l, m, n]⟩ .f32} {f : v.ty.Contents (Elt Ideal)} {F : ℕ → ℕ → ℕ → ℝ}
    {inb : ∀ a, (![o₀, o₁, o₂] : Fin 3 → ℕ) a + (![l', m', n'] : Fin 3 → ℕ) a ≤ (⟨3, ![l, m, n]⟩ : Shape).size a} {P : ℕ → Prop}
    (h : On3 (φ := .f32) P (v.read (Elt Ideal) f) F) (hP : ∀ a, a < l' → P (o₀ + a)) :
    R3 (φ := .f32) (l := l') (m := m') (n := n') (View.readAt (Elt Ideal) v (Rect.unit (s := ⟨3, ![l, m, n]⟩) ![o₀, o₁, o₂] ![l', m', n'] inb).toLoadRect f)
      (fun a b c => F (o₀ + a) (o₁ + b) (o₂ + c)) := ⟨fun i => by
  have e0 : o₀ + 1 * (i 0).val = o₀ + (i 0).val := by rw [one_mul]
  have e1 : o₁ + 1 * (i 1).val = o₁ + (i 1).val := by rw [one_mul]
  have e2 : o₂ + 1 * (i 2).val = o₂ + (i 2).val := by rw [one_mul]
  refine (h _ (show P (o₀ + 1 * (i 0).val) by rw [e0]; exact hP _ (i 0).isLt)).trans ?_
  show ((F (o₀ + 1 * (i 0).val) (o₁ + 1 * (i 1).val) (o₂ + 1 * (i 2).val) : ℝ) : EReal) = _
  rw [e0, e1, e2]⟩

/-- A load from a buffer that holds `X`. -/
theorem leaf2_f32 {m' n' o₀ o₁ : ℕ} {M : Memref sig κ sp ⟨2, ![m, n]⟩ .f32} {h : M.IsWhole} {X : FVec Ideal ⟨2, ![m, n]⟩ .f32} {F : ℕ → ℕ → ℝ}
    {inb : ∀ a, (![o₀, o₁] : Fin 2 → ℕ) a + (![m', n'] : Fin 2 → ℕ) a ≤ (⟨2, ![m, n]⟩ : Shape).size a}
    (hX : R2 X F) :
    R2 (φ := .f32) (m := m') (n := n') (View.readAt (Elt Ideal) M.view (Rect.unit (s := ⟨2, ![m, n]⟩) ![o₀, o₁] ![m', n'] inb).toLoadRect (h.unread (Val := Elt Ideal) X))
      (fun a b => F (o₀ + a) (o₁ + b)) :=
  load2_f32 (P := fun _ => True) (by rw [h.read_unread]; exact on2_of hX) fun _ _ => trivial

theorem on2_unread_f32 {M : Memref sig κ sp ⟨2, ![m, n]⟩ .f32} {h : M.IsWhole} {X : FVec Ideal ⟨2, ![m, n]⟩ .f32} {F : ℕ → ℕ → ℝ} {P : ℕ → Prop}
    (hX : R2 X F) : On2 (φ := .f32) P (M.view.read (Elt Ideal) (h.unread (Val := Elt Ideal) X)) F := by
  rw [h.read_unread]; exact on2_of hX
theorem on3_unread_f32 {M : Memref sig κ sp ⟨3, ![l, m, n]⟩ .f32} {h : M.IsWhole} {X : FVec Ideal ⟨3, ![l, m, n]⟩ .f32} {F : ℕ → ℕ → ℕ → ℝ} {P : ℕ → Prop}
    (hX : R3 X F) : On3 (φ := .f32) P (M.view.read (Elt Ideal) (h.unread (Val := Elt Ideal) X)) F := by
  rw [h.read_unread]; exact on3_of hX

/-- After rows `o … o + W - 1` are written over a matrix. -/
theorem on2_write_f32 {o W : ℕ} {v : View sig κ sp ⟨2, ![m, n]⟩ .f32} {f : v.ty.Contents (Elt Ideal)} {F : ℕ → ℕ → ℝ} {P : ℕ → Prop}
    {L : List (View.Piece (Elt Ideal) ⟨2, ![m, n]⟩ .f32)}
    {inb : ∀ a, (![o, 0] : Fin 2 → ℕ) a + (![W, n] : Fin 2 → ℕ) a ≤ (⟨2, ![m, n]⟩ : Shape).size a}
    {w : (Rect.unit (s := ⟨2, ![m, n]⟩) ![o, 0] ![W, n] inb).shape.Idx → Elt Ideal .f32}
    (hw : R2 (φ := .f32) (m := W) (n := n) w (fun a b => F (o + a) b))
    (h : On2 (φ := .f32) (fun a => P a ∧ ¬ (o ≤ a ∧ a < o + W)) (v.read (Elt Ideal) (v.writes (Elt Ideal) f L)) F) :
    On2 (φ := .f32) P (v.read (Elt Ideal) (v.writes (Elt Ideal) f ((⟨Rect.unit (s := ⟨2, ![m, n]⟩) ![o, 0] ![W, n] inb, w⟩ : View.Piece (Elt Ideal) _ _) :: L))) F := fun i hP => by
  by_cases hi : o ≤ (i 0).val ∧ (i 0).val < o + W
  · have hb : (i 1).val < n := (i 1).isLt
    refine (View.read_writes_cons_unit_of_mem v f inb w L i (fun a => match a with
      | ⟨0, _⟩ => ⟨(i 0).val - o, by show _ < W; omega⟩
      | ⟨1, _⟩ => ⟨(i 1).val, hb⟩) rfl (fun a => ?_)).trans ((hw.eq _).trans ?_)
    · match a with
      | ⟨0, _⟩ => show (i 0).val = o + ((i 0).val - o); omega
      | ⟨1, _⟩ => show (i 1).val = 0 + (i 1).val; omega
    · show ((F (o + ((i 0).val - o)) (i 1).val : ℝ) : EReal) = _
      rw [Nat.add_sub_cancel' hi.1]
  · refine (View.read_writes_cons_unit_of_not_mem v f inb w L i rfl 0 ?_).trans (h i ⟨hP, hi⟩)
    show (i 0).val < o ∨ o + W ≤ (i 0).val
    omega

/-- After plane `g` is written over a three-axis array. -/
theorem on3_write_f32 {g : ℕ} {v : View sig κ sp ⟨3, ![l, m, n]⟩ .f32} {f : v.ty.Contents (Elt Ideal)} {F : ℕ → ℕ → ℕ → ℝ} {P : ℕ → Prop}
    {L : List (View.Piece (Elt Ideal) ⟨3, ![l, m, n]⟩ .f32)}
    {inb : ∀ a, (![g, 0, 0] : Fin 3 → ℕ) a + (![1, m, n] : Fin 3 → ℕ) a ≤ (⟨3, ![l, m, n]⟩ : Shape).size a}
    {w : (Rect.unit (s := ⟨3, ![l, m, n]⟩) ![g, 0, 0] ![1, m, n] inb).shape.Idx → Elt Ideal .f32}
    (hw : R3 (φ := .f32) (l := 1) (m := m) (n := n) w (fun _ => F g))
    (h : On3 (φ := .f32) (fun a => P a ∧ a ≠ g) (v.read (Elt Ideal) (v.writes (Elt Ideal) f L)) F) :
    On3 (φ := .f32) P (v.read (Elt Ideal) (v.writes (Elt Ideal) f ((⟨Rect.unit (s := ⟨3, ![l, m, n]⟩) ![g, 0, 0] ![1, m, n] inb, w⟩ : View.Piece (Elt Ideal) _ _) :: L))) F := fun i hP => by
  by_cases hi : (i 0).val = g
  · refine (View.read_writes_cons_unit_of_mem v f inb w L i (fun a => match a with
      | ⟨0, _⟩ => ⟨0, Nat.one_pos⟩
      | ⟨1, _⟩ => ⟨(i 1).val, (i 1).isLt⟩
      | ⟨2, _⟩ => ⟨(i 2).val, (i 2).isLt⟩) rfl (fun a => ?_)).trans ((hw.eq _).trans ?_)
    · match a with
      | ⟨0, _⟩ => show (i 0).val = g + 0; omega
      | ⟨1, _⟩ => show (i 1).val = 0 + (i 1).val; omega
      | ⟨2, _⟩ => show (i 2).val = 0 + (i 2).val; omega
    · rw [hi]; rfl
  · refine (View.read_writes_cons_unit_of_not_mem v f inb w L i rfl 0 ?_).trans (h i ⟨hP, hi⟩)
    show (i 0).val < g ∨ g + 1 ≤ (i 0).val
    omega

/-- A plane written leaves the other planes. -/
theorem on3_skip_f32 {g : ℕ} {v : View sig κ sp ⟨3, ![l, m, n]⟩ .f32} {f : v.ty.Contents (Elt Ideal)} {F : ℕ → ℕ → ℕ → ℝ} {P : ℕ → Prop}
    {L : List (View.Piece (Elt Ideal) ⟨3, ![l, m, n]⟩ .f32)}
    {inb : ∀ a, (![g, 0, 0] : Fin 3 → ℕ) a + (![1, m, n] : Fin 3 → ℕ) a ≤ (⟨3, ![l, m, n]⟩ : Shape).size a}
    {w : (Rect.unit (s := ⟨3, ![l, m, n]⟩) ![g, 0, 0] ![1, m, n] inb).shape.Idx → Elt Ideal .f32}
    (hg : ∀ a, P a → a ≠ g)
    (h : On3 (φ := .f32) P (v.read (Elt Ideal) (v.writes (Elt Ideal) f L)) F) :
    On3 (φ := .f32) P (v.read (Elt Ideal) (v.writes (Elt Ideal) f ((⟨Rect.unit (s := ⟨3, ![l, m, n]⟩) ![g, 0, 0] ![1, m, n] inb, w⟩ : View.Piece (Elt Ideal) _ _) :: L))) F := fun i hP => by
  refine (View.read_writes_cons_unit_of_not_mem v f inb w L i rfl 0 ?_).trans (h i hP)
  have := hg _ hP
  show (i 0).val < g ∨ g + 1 ≤ (i 0).val
  omega

/-- A whole array written. -/
theorem on3_full_f32 {v : View sig κ sp ⟨3, ![l, m, n]⟩ .f32} {f : v.ty.Contents (Elt Ideal)} {F : ℕ → ℕ → ℕ → ℝ} {P : ℕ → Prop}
    {L : List (View.Piece (Elt Ideal) ⟨3, ![l, m, n]⟩ .f32)}
    {inb : ∀ a, (![0, 0, 0] : Fin 3 → ℕ) a + (![l, m, n] : Fin 3 → ℕ) a ≤ (⟨3, ![l, m, n]⟩ : Shape).size a}
    {w : (Rect.unit (s := ⟨3, ![l, m, n]⟩) ![0, 0, 0] ![l, m, n] inb).shape.Idx → Elt Ideal .f32}
    (hw : R3 (φ := .f32) (l := l) (m := m) (n := n) w F) :
    On3 (φ := .f32) P (v.read (Elt Ideal) (v.writes (Elt Ideal) f ((⟨Rect.unit (s := ⟨3, ![l, m, n]⟩) ![0, 0, 0] ![l, m, n] inb, w⟩ : View.Piece (Elt Ideal) _ _) :: L))) F := fun i hP => by
  refine (View.read_writes_cons_unit_of_mem v f inb w L i i rfl (fun a => ?_)).trans (hw.eq _)
  match a with
  | ⟨0, _⟩ => show (i 0).val = 0 + (i 0).val; omega
  | ⟨1, _⟩ => show (i 1).val = 0 + (i 1).val; omega
  | ⟨2, _⟩ => show (i 2).val = 0 + (i 2).val; omega
end

section
variable {sig : RefSig} {κ : Kind} {sp : Space} {m n l : ℕ}

theorem load2_bf16 {m' n' o₀ o₁ : ℕ} {v : View sig κ sp ⟨2, ![m, n]⟩ .bf16} {f : v.ty.Contents (Elt Ideal)} {F : ℕ → ℕ → ℝ}
    {inb : ∀ a, (![o₀, o₁] : Fin 2 → ℕ) a + (![m', n'] : Fin 2 → ℕ) a ≤ (⟨2, ![m, n]⟩ : Shape).size a} {P : ℕ → Prop}
    (h : On2 (φ := .bf16) P (v.read (Elt Ideal) f) F) (hP : ∀ a, a < m' → P (o₀ + a)) :
    R2 (φ := .bf16) (m := m') (n := n') (View.readAt (Elt Ideal) v (Rect.unit (s := ⟨2, ![m, n]⟩) ![o₀, o₁] ![m', n'] inb).toLoadRect f)
      (fun a b => F (o₀ + a) (o₁ + b)) := ⟨fun i => by
  have e0 : o₀ + 1 * (i 0).val = o₀ + (i 0).val := by rw [one_mul]
  have e1 : o₁ + 1 * (i 1).val = o₁ + (i 1).val := by rw [one_mul]
  refine (h _ (show P (o₀ + 1 * (i 0).val) by rw [e0]; exact hP _ (i 0).isLt)).trans ?_
  show ((F (o₀ + 1 * (i 0).val) (o₁ + 1 * (i 1).val) : ℝ) : EReal) = _
  rw [e0, e1]⟩

/-- A load from a buffer that holds `X`. -/
theorem leaf2_bf16 {m' n' o₀ o₁ : ℕ} {M : Memref sig κ sp ⟨2, ![m, n]⟩ .bf16} {h : M.IsWhole} {X : FVec Ideal ⟨2, ![m, n]⟩ .bf16} {F : ℕ → ℕ → ℝ}
    {inb : ∀ a, (![o₀, o₁] : Fin 2 → ℕ) a + (![m', n'] : Fin 2 → ℕ) a ≤ (⟨2, ![m, n]⟩ : Shape).size a}
    (hX : R2 X F) :
    R2 (φ := .bf16) (m := m') (n := n') (View.readAt (Elt Ideal) M.view (Rect.unit (s := ⟨2, ![m, n]⟩) ![o₀, o₁] ![m', n'] inb).toLoadRect (h.unread (Val := Elt Ideal) X))
      (fun a b => F (o₀ + a) (o₁ + b)) :=
  load2_bf16 (P := fun _ => True) (by rw [h.read_unread]; exact on2_of hX) fun _ _ => trivial

/-- After rows `o … o + W - 1` are written over a matrix. -/
theorem on2_write_bf16 {o W : ℕ} {v : View sig κ sp ⟨2, ![m, n]⟩ .bf16} {f : v.ty.Contents (Elt Ideal)} {F : ℕ → ℕ → ℝ} {P : ℕ → Prop}
    {L : List (View.Piece (Elt Ideal) ⟨2, ![m, n]⟩ .bf16)}
    {inb : ∀ a, (![o, 0] : Fin 2 → ℕ) a + (![W, n] : Fin 2 → ℕ) a ≤ (⟨2, ![m, n]⟩ : Shape).size a}
    {w : (Rect.unit (s := ⟨2, ![m, n]⟩) ![o, 0] ![W, n] inb).shape.Idx → Elt Ideal .bf16}
    (hw : R2 (φ := .bf16) (m := W) (n := n) w (fun a b => F (o + a) b))
    (h : On2 (φ := .bf16) (fun a => P a ∧ ¬ (o ≤ a ∧ a < o + W)) (v.read (Elt Ideal) (v.writes (Elt Ideal) f L)) F) :
    On2 (φ := .bf16) P (v.read (Elt Ideal) (v.writes (Elt Ideal) f ((⟨Rect.unit (s := ⟨2, ![m, n]⟩) ![o, 0] ![W, n] inb, w⟩ : View.Piece (Elt Ideal) _ _) :: L))) F := fun i hP => by
  by_cases hi : o ≤ (i 0).val ∧ (i 0).val < o + W
  · have hb : (i 1).val < n := (i 1).isLt
    refine (View.read_writes_cons_unit_of_mem v f inb w L i (fun a => match a with
      | ⟨0, _⟩ => ⟨(i 0).val - o, by show _ < W; omega⟩
      | ⟨1, _⟩ => ⟨(i 1).val, hb⟩) rfl (fun a => ?_)).trans ((hw.eq _).trans ?_)
    · match a with
      | ⟨0, _⟩ => show (i 0).val = o + ((i 0).val - o); omega
      | ⟨1, _⟩ => show (i 1).val = 0 + (i 1).val; omega
    · show ((F (o + ((i 0).val - o)) (i 1).val : ℝ) : EReal) = _
      rw [Nat.add_sub_cancel' hi.1]
  · refine (View.read_writes_cons_unit_of_not_mem v f inb w L i rfl 0 ?_).trans (h i ⟨hP, hi⟩)
    show (i 0).val < o ∨ o + W ≤ (i 0).val
    omega
end

end Mixer
-- ==== Proof.Mixer.Block.lean ====
module

public import proofs.«01_k».proof.Proof.Mixer.Leaf
public import proofs.«01_k».proof.Proof.Mixer.Gla

@[expose] public section

set_option maxRecDepth 100000

noncomputable section

/-! The real numbers one grid point of the mixer reads, and the results it leaves, as real functions. -/

namespace Mixer
open Cert.KernelIdeal Cert.KernelIdeal.Gen
open Idealize.ShloMosaic Idealize.ShloMosaic.TcCoe Idealize.SL.Sem

/-- The real numbers one grid point reads: its blocks, the weights, and what the point before left. -/
structure Bv where
  x0 : ℕ → ℕ → ℝ
  x1 : ℕ → ℕ → ℝ
  z : ℕ → ℕ → ℝ
  ma : ℕ → ℕ → ℝ
  sm : ℕ → ℕ → ℝ
  w : ℕ → ℕ → ℝ
  u : ℕ → ℕ → ℝ
  cx : ℕ → ℝ
  cu : ℕ → ℝ
  dtb : ℕ → ℝ
  al : ℕ → ℝ
  dx : ℕ → ℝ
  ng : ℕ → ℝ
  q : ℕ → ℕ → ℝ
  k : ℕ → ℕ → ℝ
  v : ℕ → ℕ → ℝ
  r : ℕ → ℕ → ℝ
  mb : ℕ → ℕ → ℝ
  sg : ℕ → ℕ → ℝ
  gw : ℕ → ℕ → ℝ
  gb : ℕ → ℝ
  gn : ℕ → ℝ
  hx : ℕ → ℕ → ℝ
  hb : ℕ → ℕ → ℝ
  ss : ℕ → ℕ → ℕ → ℝ
  gs : ℕ → ℕ → ℕ → ℝ

/-- The blocks hold these real numbers. -/
structure Bv.Is (β : Bv) (x0 : Vec Ideal S128x2048 .bf16) (x1 : Vec Ideal S128x1024 .bf16) (x2 : Vec Ideal S128x2048 .bf16) (x3 : Vec Ideal S128x2048 .bf16) (x4 : Vec Ideal S128x128 .f32) (x5 : Vec Ideal S4x2048 .f32) (x6 : Vec Ideal S4x1024 .f32) (x7 : Vec Ideal S1x2048 .f32) (x8 : Vec Ideal S1x1024 .f32) (x9 : Vec Ideal S1x32 .f32) (x10 : Vec Ideal S1x32 .f32) (x11 : Vec Ideal S1x2048 .f32) (x12 : Vec Ideal S1x2048 .f32) (x13 : Vec Ideal S128x1024 .bf16) (x14 : Vec Ideal S128x1024 .bf16) (x15 : Vec Ideal S128x2048 .bf16) (x16 : Vec Ideal S128x2048 .bf16) (x17 : Vec Ideal S128x2048 .bf16) (x18 : Vec Ideal S128x128 .f32) (x19 : Vec Ideal S16x1024 .f32) (x20 : Vec Ideal S1x1024 .f32) (x21 : Vec Ideal S1x512 .f32) : Prop where
  x0 : R2 (φ := .bf16) x0 β.x0
  x1 : R2 (φ := .bf16) x1 β.x1
  z : R2 (φ := .bf16) x2 β.z
  ma : R2 (φ := .bf16) x3 β.ma
  sm : R2 (φ := .f32) x4 β.sm
  w : R2 (φ := .f32) x5 β.w
  u : R2 (φ := .f32) x6 β.u
  cx : R2 (φ := .f32) x7 (fun _ b => β.cx b)
  cu : R2 (φ := .f32) x8 (fun _ b => β.cu b)
  dtb : R2 (φ := .f32) x9 (fun _ b => β.dtb b)
  al : R2 (φ := .f32) x10 (fun _ b => β.al b)
  dx : R2 (φ := .f32) x11 (fun _ b => β.dx b)
  ng : R2 (φ := .f32) x12 (fun _ b => β.ng b)
  q : R2 (φ := .bf16) x13 β.q
  k : R2 (φ := .bf16) x14 β.k
  v : R2 (φ := .bf16) x15 β.v
  r : R2 (φ := .bf16) x16 β.r
  mb : R2 (φ := .bf16) x17 β.mb
  sg : R2 (φ := .f32) x18 β.sg
  gw : R2 (φ := .f32) x19 β.gw
  gb : R2 (φ := .f32) x20 (fun _ b => β.gb b)
  gn : R2 (φ := .f32) x21 (fun _ b => β.gn b)

namespace Bv
variable (β : Bv)
/-- The state-space branch's numbers. -/
def sv : Sv where
  px a b := if 8 ≤ a then β.x0 (a - 8) b else β.hx a b
  pb a b := if 8 ≤ a then β.x1 (a - 8) b else β.hb a b
  w := β.w
  u := β.u
  cx := β.cx
  cu := β.cu
  dtr := β.sm
  dtb := β.dtb
  al := β.al
  dx := β.dx
  z := β.z
  ng := β.ng
  ma := β.ma
  s := β.ss
/-- The gated linear attention's numbers at the chunk of rows from `o`, from the state `s`. -/
def gv (o : ℕ) (s : ℕ → ℕ → ℕ → ℝ) : Gv where
  gl a j := β.sg (o + a) (32 + j)
  gw := β.gw
  gb := β.gb
  q a b := β.q (o + a) b
  k a b := β.k (o + a) b
  v a b := β.v (o + a) b
  r a b := β.r (o + a) b
  mb a b := β.mb (o + a) b
  gn := β.gn
  s := s
def g0 : Gv := β.gv 0 β.gs
def g1 : Gv := β.gv 64 β.g0.st
/-- The block of the result. -/
def out (a b : ℕ) : ℝ := β.sv.out a b + if a < 64 then β.g0.out a b else β.g1.out (a - 64) b
/-- The rows left for the next point. -/
def hx' (a b : ℕ) : ℝ := if 8 ≤ a then β.x0 (a - 8) b else β.x0 (120 + a) b
def hb' (a b : ℕ) : ℝ := if 8 ≤ a then β.x1 (a - 8) b else β.x1 (120 + a) b
end Bv

end Mixer
-- ==== Proof.Mixer.Tower.lean ====
module

public import proofs.«01_k».proof.Proof.Mixer.Value
public import proofs.«01_k».proof.Proof.Mixer.Block

@[expose] public section

set_option maxRecDepth 100000
set_option maxHeartbeats 4000000

noncomputable section

/-! The stages of a grid point's program, put together. -/

namespace Cert.KernelIdeal.Mixer
open Cert.KernelIdeal Cert.KernelIdeal.Gen
open Idealize.ShloMosaic Idealize.ShloMosaic.TcCoe Idealize.SL.Sem
open _root_.Mixer

/-- Reading a program stage by stage: its pieces, each by its own equation, make up the branch. -/
theorem ssd_tower {L : Sc} {ρ : Sv}
    {r_1 r_3 r_16 r_14 r_64 r_69 : FVec Ideal S128x2048 .f32}
    {r_8 r_9 : FVec Ideal S128x32 .bf16}
    {r_10 r_13 r_11 r_7 : FVec Ideal S128x32 .f32}
    {r_4 r_6 : FVec Ideal S128x1024 .f32}
    {r_23 r_35 r_43 r_54 r_65 r_66 r_67 : FVec Ideal S128x512 .f32}
    {r_12 : FVec Ideal S32x128 .f32}
    {r_18 r_19 : FVec Ideal S128x2048 .bf16}
    {r_22 r_25 r_27 r_28 r_29 r_33 r_36 r_34 r_38 r_39 r_40 r_41 r_42 r_44 r_45 r_46 r_50 r_51 r_53 r_56 r_58 r_59 r_60 : FVec Ideal S128x128 .f32}
    {r_26 r_31 r_32 r_47 r_57 r_62 r_63 : FVec Ideal S128x128 .bf16}
    {r_30 r_61 : FVec Ideal S128x256 .bf16}
    {r_37 r_48 r_68 : FVec Ideal S128x1 .f32}
    {r_49 : FVec Ideal S1x128 .f32} (i : L.Is ρ)
    (e_69 : r_69 = k0_pay103 r_64 r_65 r_66 r_67 r_68 k0_pay102 L.ng L.ma)
    (e_68 : r_68 = k0_pay101 r_3 r_16 r_23 r_25 r_28 r_29 r_33 r_35 r_36 r_38 r_39 r_41 r_43 r_45 r_46 r_50 r_51 r_54 r_56 r_59 r_60 r_61 r_62 r_63 L.dx L.z)
    (e_67 : r_67 = k0_pay100 r_3 r_16 r_23 r_25 r_28 r_29 r_33 r_35 r_36 r_38 r_39 r_41 r_43 r_45 r_46 r_50 r_51 r_54 r_56 r_59 r_60 r_61 r_62 r_63 L.dx L.z)
    (e_66 : r_66 = k0_pay99 r_3 r_16 r_23 r_25 r_28 r_29 r_33 r_35 r_36 r_38 r_39 r_41 r_43 r_45 r_46 r_50 r_51 r_54 r_56 r_59 r_60 r_61 r_62 r_63 L.dx L.z)
    (e_65 : r_65 = k0_pay98 r_3 r_16 r_23 r_25 r_28 r_29 r_33 r_35 r_36 r_38 r_39 r_41 r_43 r_45 r_46 r_50 r_51 r_54 r_56 r_59 r_60 r_61 r_62 r_63 L.dx L.z)
    (e_64 : r_64 = k0_pay97 r_3 r_16 r_23 r_25 r_28 r_29 r_33 r_35 r_36 r_38 r_39 r_41 r_43 r_45 r_46 r_50 r_51 r_54 r_56 r_59 r_60 r_61 r_62 r_63 L.dx L.z)
    (e_63 : r_63 = k0_pay96 r_19)
    (e_62 : r_62 = k0_pay95 r_18)
    (e_61 : r_61 = k0_pay94 k0_pay20 r_11 r_12 r_53)
    (e_60 : r_60 = k0_pay93 k0_pay20 r_11 r_12 r_18 r_19 r_53)
    (e_59 : r_59 = k0_pay92 r_18 r_19 r_57 r_58)
    (e_58 : r_58 = k0_pay91 k0_pay20 r_11 r_12 r_53)
    (e_57 : r_57 = k0_pay90 k0_pay20 r_11 r_12 r_53)
    (e_56 : r_56 = k0_pay89 k0_pay20 r_11 r_12 r_18 r_19 r_53)
    (e_53 : r_53 = k0_pay84 r_6)
    (e_54 : r_54 = k0_pay86 r_6 (L.s 3))
    (e_51 : r_51 = k0_pay81 k0_pay20 r_11 r_12 r_18 r_19 r_42)
    (e_50 : r_50 = k0_pay80 k0_pay20 r_18 r_19 r_42 r_47 r_48 r_49)
    (e_49 : r_49 = k0_pay79 r_12)
    (e_48 : r_48 = k0_pay78 r_11)
    (e_47 : r_47 = k0_pay77 k0_pay20 r_11 r_12 r_42)
    (e_46 : r_46 = k0_pay76 k0_pay20 r_11 r_12 r_18 r_19 r_42)
    (e_45 : r_45 = k0_pay75 k0_pay20 r_11 r_12 r_18 r_19 r_42 r_44)
    (e_44 : r_44 = k0_pay74 k0_pay20 r_11 r_12)
    (e_42 : r_42 = k0_pay70 r_6)
    (e_43 : r_43 = k0_pay72 r_6 (L.s 2))
    (e_41 : r_41 = k0_pay67 k0_pay20 r_11 r_12 r_18 r_19 r_34 r_40)
    (e_40 : r_40 = k0_pay66 r_11 r_12)
    (e_39 : r_39 = k0_pay65 k0_pay20 r_11 r_12 r_18 r_19 r_34)
    (e_38 : r_38 = k0_pay64 k0_pay20 r_11 r_12 r_18 r_19 r_34 r_37)
    (e_37 : r_37 = k0_pay63 r_11)
    (e_34 : r_34 = k0_pay58 r_6)
    (e_36 : r_36 = k0_pay62 r_6 k0_pay20 r_11 r_12 r_18 r_19)
    (e_35 : r_35 = k0_pay60 r_6 (L.s 1))
    (e_33 : r_33 = k0_pay55 r_30 r_31 r_32)
    (e_32 : r_32 = k0_pay54 r_19)
    (e_31 : r_31 = k0_pay53 r_18)
    (e_30 : r_30 = k0_pay52 k0_pay20 r_11 r_12 r_22)
    (e_29 : r_29 = k0_pay51 k0_pay20 r_11 r_12 r_18 r_19 r_22)
    (e_28 : r_28 = k0_pay50 r_18 r_19 r_26 r_27)
    (e_27 : r_27 = k0_pay49 k0_pay20 r_11 r_12 r_22)
    (e_26 : r_26 = k0_pay48 k0_pay20 r_11 r_12 r_22)
    (e_25 : r_25 = k0_pay47 k0_pay20 r_11 r_12 r_18 r_19 r_22)
    (e_22 : r_22 = k0_pay42 r_6)
    (e_19 : r_19 = k0_pay38 r_3 r_14)
    (e_18 : r_18 = k0_pay37 r_3 r_14)
    (e_14 : r_14 = k0_pay31 r_7)
    (e_7 : r_7 = k0_pay18 L.dtr L.dtb)
    (e_12 : r_12 = k0_pay28 k0_pay21 r_8 r_9 r_10 (constant S128x32 .f32 0x00000000#32))
    (e_11 : r_11 = k0_pay27 k0_pay21 r_8 r_9 r_10 (constant S128x32 .f32 0x00000000#32))
    (e_23 : r_23 = k0_pay44 r_6 (L.s 0))
    (e_6 : r_6 = k0_pay17 r_4)
    (e_4 : r_4 = L.cvb)
    (e_16 : r_16 = k0_pay33 r_13 k0_pay30)
    (e_13 : r_13 = k0_pay29 k0_pay21 r_8 r_9 r_10 (constant S128x32 .f32 0x00000000#32))
    (e_10 : r_10 = k0_pay26 L.dtr L.dtb L.al)
    (e_9 : r_9 = k0_pay25 L.dtr L.dtb L.al)
    (e_8 : r_8 = k0_pay24 L.dtr L.dtb L.al)
    (e_3 : r_3 = k0_pay12 r_1)
    (e_1 : r_1 = L.cv) :
    R2 (φ := .f32) r_69 ρ.out := by
  replace e_1 : r_1 = L.cv := e_1
  subst e_1
  replace e_3 : r_3 = L.xs := e_3
  subst e_3
  replace e_8 : r_8 = L.md := e_8
  subst e_8
  replace e_9 : r_9 = L.lo := e_9
  subst e_9
  replace e_10 : r_10 = L.hi := e_10
  subst e_10
  replace e_13 : r_13 = L.eA := e_13
  subst e_13
  replace e_16 : r_16 = L.eax := e_16
  subst e_16
  replace e_4 : r_4 = L.cvb := e_4
  subst e_4
  replace e_6 : r_6 = L.bc := e_6
  subst e_6
  replace e_23 : r_23 = L.yo 0 (by decide) := e_23
  subst e_23
  replace e_11 : r_11 = L.A := e_11
  subst e_11
  replace e_12 : r_12 = L.At := e_12
  subst e_12
  replace e_7 : r_7 = L.dt := e_7
  subst e_7
  replace e_14 : r_14 = L.dtx := e_14
  subst e_14
  replace e_18 : r_18 = L.xl := e_18
  subst e_18
  replace e_19 : r_19 = L.xr := e_19
  subst e_19
  replace e_22 : r_22 = L.cb 0 (by decide) := e_22
  subst e_22
  replace e_25 : r_25 = L.pr 0 0 (by decide) (by decide) := e_25
  subst e_25
  replace e_26 : r_26 = L.dec 0 2 (by decide) (by decide) := e_26
  subst e_26
  subst e_27
  replace e_28 : r_28 = L.pr 0 1 (by decide) (by decide) := e_28
  subst e_28
  replace e_29 : r_29 = L.pr 0 2 (by decide) (by decide) := e_29
  subst e_29
  replace e_30 : r_30 = L.sc 0 3 (by decide) (by decide) := e_30
  subst e_30
  replace e_31 : r_31 = L.lp 3 (by decide) := e_31
  subst e_31
  replace e_32 : r_32 = L.rp 3 (by decide) := e_32
  subst e_32
  replace e_33 : r_33 = L.pr 0 3 (by decide) (by decide) := e_33
  subst e_33
  replace e_35 : r_35 = L.yo 1 (by decide) := e_35
  subst e_35
  replace e_36 : r_36 = L.pr 1 4 (by decide) (by decide) := e_36
  subst e_36
  replace e_34 : r_34 = L.cb 1 (by decide) := e_34
  subst e_34
  subst e_37
  replace e_38 : r_38 = L.pr 1 5 (by decide) (by decide) := e_38
  subst e_38
  replace e_39 : r_39 = L.pr 1 6 (by decide) (by decide) := e_39
  subst e_39
  subst e_40
  replace e_41 : r_41 = L.pr 1 7 (by decide) (by decide) := e_41
  subst e_41
  replace e_43 : r_43 = L.yo 2 (by decide) := e_43
  subst e_43
  replace e_42 : r_42 = L.cb 2 (by decide) := e_42
  subst e_42
  subst e_44
  replace e_45 : r_45 = L.pr 2 8 (by decide) (by decide) := e_45
  subst e_45
  replace e_46 : r_46 = L.pr 2 9 (by decide) (by decide) := e_46
  subst e_46
  replace e_47 : r_47 = L.dec 2 20 (by decide) (by decide) := e_47
  subst e_47
  subst e_48
  subst e_49
  replace e_50 : r_50 = L.pr 2 10 (by decide) (by decide) := e_50
  subst e_50
  replace e_51 : r_51 = L.pr 2 11 (by decide) (by decide) := e_51
  subst e_51
  replace e_54 : r_54 = L.yo 3 (by decide) := e_54
  subst e_54
  replace e_53 : r_53 = L.cb 3 (by decide) := e_53
  subst e_53
  replace e_56 : r_56 = L.pr 3 12 (by decide) (by decide) := e_56
  subst e_56
  subst e_57
  subst e_58
  replace e_59 : r_59 = L.pr 3 13 (by decide) (by decide) := e_59
  subst e_59
  replace e_60 : r_60 = L.pr 3 14 (by decide) (by decide) := e_60
  subst e_60
  replace e_61 : r_61 = L.sc 3 15 (by decide) (by decide) := e_61
  subst e_61
  replace e_62 : r_62 = L.lp 15 (by decide) := e_62
  subst e_62
  replace e_63 : r_63 = L.rp 15 (by decide) := e_63
  subst e_63
  replace e_64 : r_64 = L.yg := e_64
  subst e_64
  replace e_65 : r_65 = L.nrm 0 (by decide) := e_65
  subst e_65
  replace e_66 : r_66 = L.nrm 1 (by decide) := e_66
  subst e_66
  replace e_67 : r_67 = L.grp 2 (by decide) := e_67
  subst e_67
  replace e_68 : r_68 = L.sq 2 (by decide) := e_68
  subst e_68
  replace e_69 : r_69 = L.out := e_69
  subst e_69
  exact @ssd_out L ρ i

/-- The pieces of a half block, each by its own equation, make up what it writes. -/
theorem gla_tower0 {L : Gc} {ρ : Gv} {F : ℕ → ℕ → ℝ} {r_69 : FVec Ideal S128x2048 .f32}
    {r_70 : FVec Ideal S64x192 .bf16}
    {r_71 : FVec Ideal S64x1024 .f32}
    {r_74 r_72 r_73 : FVec Ideal S64x1024 .bf16}
    {r_78 : FVec Ideal S512x256 .f32}
    {r_79 : FVec Ideal S64x64 .bf16}
    {r_80 : FVec Ideal S64x512 .bf16}
    {r_81 r_83 r_86 r_87 r_89 r_90 : FVec Ideal S64x512 .f32}
    {r_84 : FVec Ideal S64x256 .bf16}
    {r_85 : FVec Ideal S512x256 .bf16} (i : L.Is ρ) (h : R2 r_69 F)
    (e_90 : r_90 = k0_pay138 k0_pay104 r_72 r_73 r_74 L.v (L.s 3))
    (e_89 : r_89 = k0_pay136 r_87 L.gn)
    (e_87 : r_87 = k0_pay133 k0_pay104 r_72 r_73 r_74 L.v (L.s 2))
    (e_86 : r_86 = k0_pay131 r_83 r_84 r_85 (constant S64x512 .f32 0x00000000#32) L.gn)
    (e_85 : r_85 = k0_pay129 (L.s 1))
    (e_84 : r_84 = k0_pay128 r_74)
    (e_83 : r_83 = k0_pay127 k0_pay104 r_72 r_73 L.v)
    (e_73 : r_73 = k0_pay117 r_70 r_71 k0_pay110 L.k)
    (e_72 : r_72 = k0_pay116 r_70 r_71 k0_pay110 L.q)
    (e_81 : r_81 = k0_pay125 r_74 r_78 r_79 r_80 L.gn)
    (e_80 : r_80 = k0_pay123 L.v)
    (e_79 : r_79 = k0_pay122 k0_pay104 r_70 r_71 k0_pay110 L.q L.k)
    (e_78 : r_78 = k0_pay121 (L.s 0))
    (e_74 : r_74 = k0_pay118 r_70 r_71 k0_pay110 L.q)
    (e_71 : r_71 = k0_pay109 L.gl L.gw L.gb)
    (e_70 : r_70 = k0_pay108 (iota .tc S64x192 32 [0] iota_S64x192_d0_w32) (64#32) k0_pay105 k0_pay106 k0_pay107) :
    R2 (φ := .bf16) (k0_pay141 r_69 r_81 r_86 r_89 r_90 L.gn L.r L.mb) (fun a b => F a b + ρ.out a b) := by
  replace e_70 : r_70 = T3 := e_70
  subst e_70
  replace e_71 : r_71 = L.gate := e_71
  subst e_71
  replace e_74 : r_74 = L.qe := e_74
  subst e_74
  subst e_78
  subst e_79
  subst e_80
  replace e_81 : r_81 = L.yn 0 (by decide) := e_81
  subst e_81
  replace e_72 : r_72 = L.qr := e_72
  subst e_72
  replace e_73 : r_73 = L.kr := e_73
  subst e_73
  subst e_83
  subst e_84
  subst e_85
  replace e_86 : r_86 = L.yn 1 (by decide) := e_86
  subst e_86
  replace e_87 : r_87 = L.y 2 (by decide) := e_87
  subst e_87
  replace e_89 : r_89 = L.yn 2 (by decide) := e_89
  subst e_89
  replace e_90 : r_90 = L.y 3 (by decide) := e_90
  subst e_90
  have e := @gla_out L ρ i
  show R2 (φ := .bf16) (truncf .bf16 (addf (extractStridedSlice S64x2048 ![0, 0] r_69 slices_S128x2048_o0_0_S64x2048) L.out) bitsLt_bf16_f32) _
  refine R2.congr (f := ?f) ?hh ?ee
  case hh => infer_instance
  case ee => intro a b _ _; simp

/-- The pieces of a half block, each by its own equation, make up what it writes. -/
theorem gla_tower1 {L : Gc} {ρ : Gv} {F : ℕ → ℕ → ℝ} {r_69 : FVec Ideal S128x2048 .f32}
    {r_70 : FVec Ideal S64x192 .bf16}
    {r_92 r_95 : FVec Ideal S64x1024 .f32}
    {r_93 : FVec Ideal S1x1024 .f32}
    {r_102 r_104 r_105 r_106 r_107 r_109 r_110 r_111 : FVec Ideal S64x512 .f32}
    {r_96 r_97 r_98 : FVec Ideal S64x1024 .bf16}
    {r_108 r_112 : FVec Ideal S1x512 .f32}
    {r_113 : FVec Ideal S64x1 .f32}
    {r_114 r_115 : FVec Ideal S64x2048 .f32} (i : L.Is ρ) (h : R2 r_69 F)
    (e_115 : r_115 = k0_pay175 L.mb)
    (e_114 : r_114 = k0_pay174 r_104 r_106 r_110 r_111 r_112 r_113 k0_pay173 L.r)
    (e_113 : r_113 = k0_pay172 k0_pay104 r_96 r_97 r_98 L.v (L.s 3))
    (e_112 : r_112 = k0_pay171 L.gn)
    (e_111 : r_111 = k0_pay169 k0_pay104 r_96 r_97 r_98 L.v (L.s 3))
    (e_110 : r_110 = k0_pay167 r_107 r_108 r_109)
    (e_109 : r_109 = k0_pay166 k0_pay104 r_96 r_97 r_98 L.v (L.s 2))
    (e_108 : r_108 = k0_pay165 L.gn)
    (e_107 : r_107 = k0_pay163 k0_pay104 r_96 r_97 r_98 L.v (L.s 2))
    (e_106 : r_106 = k0_pay161 r_105 L.gn)
    (e_105 : r_105 = k0_pay159 k0_pay104 r_96 r_97 r_98 L.v (L.s 1))
    (e_98 : r_98 = k0_pay150 r_92 r_95)
    (e_97 : r_97 = k0_pay149 r_92 r_93 L.k)
    (e_96 : r_96 = k0_pay148 r_92 r_93 r_95)
    (e_104 : r_104 = k0_pay157 r_102 L.gn)
    (e_102 : r_102 = k0_pay154 k0_pay104 r_92 r_93 r_95 L.k L.v (L.s 0))
    (e_95 : r_95 = k0_pay145 L.q)
    (e_93 : r_93 = k0_pay143 r_70 L.gl L.gw L.gb)
    (e_92 : r_92 = k0_pay142 r_70 L.gl L.gw L.gb)
    (e_70 : r_70 = k0_pay108 (iota .tc S64x192 32 [0] iota_S64x192_d0_w32) (64#32) k0_pay105 k0_pay106 k0_pay107) :
    R2 (φ := .bf16) (k0_pay1 r_69 r_114 r_115 (FloatOps.ofBits (F := Ideal) .f32 0x3F000000#32)) (fun a b => F (64 + a) b + ρ.out a b) := by
  replace e_70 : r_70 = T3 := e_70
  subst e_70
  replace e_92 : r_92 = L.G := e_92
  subst e_92
  replace e_93 : r_93 = L.mid := e_93
  subst e_93
  subst e_95
  replace e_102 : r_102 = L.y 0 (by decide) := e_102
  subst e_102
  replace e_104 : r_104 = L.yn 0 (by decide) := e_104
  subst e_104
  replace e_96 : r_96 = L.qr := e_96
  subst e_96
  replace e_97 : r_97 = L.kr := e_97
  subst e_97
  replace e_98 : r_98 = L.qe := e_98
  subst e_98
  replace e_105 : r_105 = L.y 1 (by decide) := e_105
  subst e_105
  replace e_106 : r_106 = L.yn 1 (by decide) := e_106
  subst e_106
  replace e_107 : r_107 = L.y 2 (by decide) := e_107
  subst e_107
  subst e_108
  subst e_109
  replace e_110 : r_110 = L.yn 2 (by decide) := e_110
  subst e_110
  replace e_111 : r_111 = L.y 3 (by decide) := e_111
  subst e_111
  subst e_112
  subst e_113
  subst e_114
  subst e_115
  have e := @gla_out L ρ i
  show R2 (φ := .bf16) (truncf .bf16 (addf (extractStridedSlice S64x2048 ![64, 0] r_69 slices_S128x2048_o64_0_S64x2048) L.out) bitsLt_bf16_f32) _
  refine R2.congr (f := ?f) ?hh ?ee
  case hh => infer_instance
  case ee => intro a b _ _; simp

theorem zero_4 {F : ℕ → ℕ → ℕ → ℝ} (h : ∀ a b d, F a b d = 0) : R3 (φ := .f32) (k0_pay4 (F := Ideal)) F :=
  ⟨fun i => by rw [h]; unfold k0_pay4 shapeCast; exact (Ideal.ofBits_zero_f32).trans EReal.coe_zero.symm⟩
theorem zero_5 {F : ℕ → ℕ → ℕ → ℝ} (h : ∀ a b d, F a b d = 0) : R3 (φ := .f32) (k0_pay5 (F := Ideal)) F :=
  ⟨fun i => by rw [h]; unfold k0_pay5 shapeCast; exact (Ideal.ofBits_zero_f32).trans EReal.coe_zero.symm⟩

end Cert.KernelIdeal.Mixer
-- ==== Proof.Mixer.CaseA.lean ====
module

public import proofs.«01_k».proof.Proof.Mixer.Value
public import proofs.«01_k».proof.Proof.Mixer.Block
public import proofs.«01_k».proof.Proof.Mixer.Tower

@[expose] public section

set_option maxRecDepth 100000

noncomputable section

/-! One grid point of the mixer (case A): what its buffers hold, as real numbers. -/

namespace Cert.KernelIdeal.Mixer
open Cert.KernelIdeal Cert.KernelIdeal.Gen
open Idealize.ShloMosaic Idealize.ShloMosaic.TcCoe Idealize.SL.Sem
open _root_.Mixer

set_option maxHeartbeats 4000000

section
variable  (c : Dev nD) (i : grid0.Coords) (a1 : Memref sig .tc .vmem S128x2048 .bf16) (k1 : a1.IsWhole) (a2 : Memref sig .tc .vmem S128x1024 .bf16) (k2 : a2.IsWhole) (a3 : Memref sig .tc .vmem S128x2048 .bf16) (k3 : a3.IsWhole) (a4 : Memref sig .tc .vmem S128x2048 .bf16) (k4 : a4.IsWhole) (a5 : Memref sig .tc .vmem S128x128 .f32) (k5 : a5.IsWhole) (a6 : Memref sig .tc .vmem S4x2048 .f32) (k6 : a6.IsWhole) (a7 : Memref sig .tc .vmem S4x1024 .f32) (k7 : a7.IsWhole) (a8 : Memref sig .tc .vmem S1x2048 .f32) (k8 : a8.IsWhole) (a9 : Memref sig .tc .vmem S1x1024 .f32) (k9 : a9.IsWhole) (a10 : Memref sig .tc .vmem S1x32 .f32) (k10 : a10.IsWhole) (a11 : Memref sig .tc .vmem S1x32 .f32) (k11 : a11.IsWhole) (a12 : Memref sig .tc .vmem S1x2048 .f32) (k12 : a12.IsWhole) (a13 : Memref sig .tc .vmem S1x2048 .f32) (k13 : a13.IsWhole) (a14 : Memref sig .tc .vmem S128x1024 .bf16) (k14 : a14.IsWhole) (a15 : Memref sig .tc .vmem S128x1024 .bf16) (k15 : a15.IsWhole) (a16 : Memref sig .tc .vmem S128x2048 .bf16) (k16 : a16.IsWhole) (a17 : Memref sig .tc .vmem S128x2048 .bf16) (k17 : a17.IsWhole) (a18 : Memref sig .tc .vmem S128x2048 .bf16) (k18 : a18.IsWhole) (a19 : Memref sig .tc .vmem S128x128 .f32) (k19 : a19.IsWhole) (a20 : Memref sig .tc .vmem S16x1024 .f32) (k20 : a20.IsWhole) (a21 : Memref sig .tc .vmem S1x1024 .f32) (k21 : a21.IsWhole) (a22 : Memref sig .tc .vmem S1x512 .f32) (k22 : a22.IsWhole) (a23 : Memref sig .tc .vmem S128x2048 .bf16) (k23 : a23.IsWhole) (a24 : Memref sig .tc .vmem S136x2048 .f32) (k24 : a24.IsWhole) (a25 : Memref sig .tc .vmem S136x1024 .f32) (k25 : a25.IsWhole) (a26 : Memref sig .tc .vmem S4x128x512 .f32) (k26 : a26.IsWhole) (a27 : Memref sig .tc .vmem S4x512x256 .f32) (k27 : a27.IsWhole) (hc0 : cond0_0 i)
    (x0 : Vec Ideal S128x2048 .bf16) (x1 : Vec Ideal S128x1024 .bf16) (x2 : Vec Ideal S128x2048 .bf16) (x3 : Vec Ideal S128x2048 .bf16) (x4 : Vec Ideal S128x128 .f32) (x5 : Vec Ideal S4x2048 .f32) (x6 : Vec Ideal S4x1024 .f32) (x7 : Vec Ideal S1x2048 .f32) (x8 : Vec Ideal S1x1024 .f32) (x9 : Vec Ideal S1x32 .f32) (x10 : Vec Ideal S1x32 .f32) (x11 : Vec Ideal S1x2048 .f32) (x12 : Vec Ideal S1x2048 .f32) (x13 : Vec Ideal S128x1024 .bf16) (x14 : Vec Ideal S128x1024 .bf16) (x15 : Vec Ideal S128x2048 .bf16) (x16 : Vec Ideal S128x2048 .bf16) (x17 : Vec Ideal S128x2048 .bf16) (x18 : Vec Ideal S128x128 .f32) (x19 : Vec Ideal S16x1024 .f32) (x20 : Vec Ideal S1x1024 .f32) (x21 : Vec Ideal S1x512 .f32) (β : Bv) (h : β.Is x0 x1 x2 x3 x4 x5 x6 x7 x8 x9 x10 x11 x12 x13 x14 x15 x16 x17 x18 x19 x20 x21) (h0 : ∀ a b, β.hx a b = 0) (h1 : ∀ a b, β.hb a b = 0) (h2 : ∀ a b d, β.ss a b d = 0) (h3 : ∀ a b d, β.gs a b d = 0)
include c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3

theorem A_h0 : On2 (φ := .f32) (fun _ => True) (a24.view.read (Elt Ideal) (a24.view.writes (Elt Ideal) (a24.view.junk) (kernelRun0_A.sl.HS0_2 c a1 k1 x0))) β.sv.px := by
  unfold kernelRun0_A.sl.HS0_2
  refine on2_write_f32 (o := 8) (by
    have e : R2 (φ := .bf16) (View.readAt (Elt Ideal) a1.view (Rect.unit (s := S128x2048) ![0, 0] S128x2048.size inb_S128x2048_S128x2048_0_0).toLoadRect (k1.unread x0)) β.x0 := (leaf2_bf16 h.x0).congr fun a b _ _ => by simp
    unfold k0_pay8 k0_pay6
    refine R2.congr (f := ?f1) ?hh1 ?ee1
    case hh1 => infer_instance
    case ee1 => intro a b _ _; simp [Bv.sv]) ?_
  intro i hi
  have hi8 : (i 0).val < 8 := by have := hi.2; have := (i 0).isLt; change (i 0).val < 136 at this; omega
  have e : On2 (φ := .f32) (fun _ => True) (a24.view.read (Elt Ideal) (a24.view.writes (Elt Ideal) a24.view.junk [⟨Rect.unit (s := S136x2048) ![0, 0] S136x2048.size inb_S136x2048_S136x2048_0_0, k0_pay2 (F := Ideal)⟩])) (fun _ _ => 0) :=
    on2_write_f32 (o := 0) (by
      unfold k0_pay2
      refine R2.congr (f := ?f2) ?hh2 ?ee2
      case hh2 => infer_instance
      case ee2 => intro a b _ _; simp) fun i hi => absurd hi.2 (by have := (i 0).isLt; change (i 0).val < 136 at this; omega)
  rw [show β.sv.px (i 0).val (i 1).val = 0 from (if_neg (by omega)).trans (h0 _ _)]
  exact e i trivial

theorem A_h1 : On2 (φ := .f32) (fun _ => True) (a25.view.read (Elt Ideal) (a25.view.writes (Elt Ideal) (a25.view.junk) (kernelRun0_A.sl.HS1_2 c a2 k2 x1))) β.sv.pb := by
  unfold kernelRun0_A.sl.HS1_2
  refine on2_write_f32 (o := 8) (by
    have e : R2 (φ := .bf16) (View.readAt (Elt Ideal) a2.view (Rect.unit (s := S128x1024) ![0, 0] S128x1024.size inb_S128x1024_S128x1024_0_0).toLoadRect (k2.unread x1)) β.x1 := (leaf2_bf16 h.x1).congr fun a b _ _ => by simp
    unfold kernelRun0_A.sl.r k0_pay13 k0_pay7
    refine R2.congr (f := ?f3) ?hh3 ?ee3
    case hh3 => infer_instance
    case ee3 => intro a b _ _; simp [Bv.sv]) ?_
  intro i hi
  have hi8 : (i 0).val < 8 := by have := hi.2; have := (i 0).isLt; change (i 0).val < 136 at this; omega
  have e : On2 (φ := .f32) (fun _ => True) (a25.view.read (Elt Ideal) (a25.view.writes (Elt Ideal) a25.view.junk [⟨Rect.unit (s := S136x1024) ![0, 0] S136x1024.size inb_S136x1024_S136x1024_0_0, k0_pay3 (F := Ideal)⟩])) (fun _ _ => 0) :=
    on2_write_f32 (o := 0) (by
      unfold k0_pay3
      refine R2.congr (f := ?f4) ?hh4 ?ee4
      case hh4 => infer_instance
      case ee4 => intro a b _ _; simp) fun i hi => absurd hi.2 (by have := (i 0).isLt; change (i 0).val < 136 at this; omega)
  rw [show β.sv.pb (i 0).val (i 1).val = 0 from (if_neg (by omega)).trans (h1 _ _)]
  exact e i trivial

theorem A_sc : Sc.Is { x0 := (View.readAt (Elt Ideal) a1.view (Rect.unit (s := S128x2048) ![0, 0] S128x2048.size inb_S128x2048_S128x2048_0_0).toLoadRect (k1.unread x0)), w3 := (View.readAt (Elt Ideal) a6.view (Rect.unit (s := S4x2048) ![3, 0] S1x2048.size inb_S4x2048_S1x2048_3_0).toLoadRect (k6.unread x5)), cx := (View.readAt (Elt Ideal) a8.view (Rect.unit (s := S1x2048) ![0, 0] S1x2048.size inb_S1x2048_S1x2048_0_0).toLoadRect (k8.unread x7)), p7 := (kernelRun0_A.sl.v17 c a1 k1 a24 x0), w2 := (View.readAt (Elt Ideal) a6.view (Rect.unit (s := S4x2048) ![2, 0] S1x2048.size inb_S4x2048_S1x2048_2_0).toLoadRect (k6.unread x5)), p6 := (kernelRun0_A.sl.v22 c a1 k1 a24 x0), w1 := (View.readAt (Elt Ideal) a6.view (Rect.unit (s := S4x2048) ![1, 0] S1x2048.size inb_S4x2048_S1x2048_1_0).toLoadRect (k6.unread x5)), p5 := (kernelRun0_A.sl.v27 c a1 k1 a24 x0), w0 := (View.readAt (Elt Ideal) a6.view (Rect.unit (s := S4x2048) ![0, 0] S1x2048.size inb_S4x2048_S1x2048_0_0).toLoadRect (k6.unread x5)), u3 := (View.readAt (Elt Ideal) a7.view (Rect.unit (s := S4x1024) ![3, 0] S1x1024.size inb_S4x1024_S1x1024_3_0).toLoadRect (k7.unread x6)), cu := (View.readAt (Elt Ideal) a9.view (Rect.unit (s := S1x1024) ![0, 0] S1x1024.size inb_S1x1024_S1x1024_0_0).toLoadRect (k9.unread x8)), b7 := (kernelRun0_A.sl.v51 c a2 k2 a25 x1), u2 := (View.readAt (Elt Ideal) a7.view (Rect.unit (s := S4x1024) ![2, 0] S1x1024.size inb_S4x1024_S1x1024_2_0).toLoadRect (k7.unread x6)), b6 := (kernelRun0_A.sl.v56 c a2 k2 a25 x1), u1 := (View.readAt (Elt Ideal) a7.view (Rect.unit (s := S4x1024) ![1, 0] S1x1024.size inb_S4x1024_S1x1024_1_0).toLoadRect (k7.unread x6)), b5 := (kernelRun0_A.sl.v61 c a2 k2 a25 x1), u0 := (View.readAt (Elt Ideal) a7.view (Rect.unit (s := S4x1024) ![0, 0] S1x1024.size inb_S4x1024_S1x1024_0_0).toLoadRect (k7.unread x6)), x1 := (View.readAt (Elt Ideal) a2.view (Rect.unit (s := S128x1024) ![0, 0] S128x1024.size inb_S128x1024_S128x1024_0_0).toLoadRect (k2.unread x1)), dtr := (View.readAt (Elt Ideal) a5.view (Rect.unit (s := S128x128) ![0, 0] S128x32.size inb_S128x128_S128x32_0_0).toLoadRect (k5.unread x4)), dtb := (View.readAt (Elt Ideal) a10.view (Rect.unit (s := S1x32) ![0, 0] S1x32.size inb_S1x32_S1x32_0_0).toLoadRect (k10.unread x9)), al := (View.readAt (Elt Ideal) a11.view (Rect.unit (s := S1x32) ![0, 0] S1x32.size inb_S1x32_S1x32_0_0).toLoadRect (k11.unread x10)), dx := (View.readAt (Elt Ideal) a12.view (Rect.unit (s := S1x2048) ![0, 0] S1x2048.size inb_S1x2048_S1x2048_0_0).toLoadRect (k12.unread x11)), z := (View.readAt (Elt Ideal) a3.view (Rect.unit (s := S128x2048) ![0, 0] S128x2048.size inb_S128x2048_S128x2048_0_0).toLoadRect (k3.unread x2)), ng := (View.readAt (Elt Ideal) a13.view (Rect.unit (s := S1x2048) ![0, 0] S1x2048.size inb_S1x2048_S1x2048_0_0).toLoadRect (k13.unread x12)), ma := (View.readAt (Elt Ideal) a4.view (Rect.unit (s := S128x2048) ![0, 0] S128x2048.size inb_S128x2048_S128x2048_0_0).toLoadRect (k4.unread x3)), s := fun g => match g with | 0 => (kernelRun0_A.sl.v204 (F := Ideal) c a26) | 1 => (kernelRun0_A.sl.v322 c a1 k1 a2 k2 a5 k5 a6 k6 a7 k7 a8 k8 a9 k9 a10 k10 a11 k11 a24 a25 a26 x0 x1 x4 x5 x6 x7 x8 x9 x10) | 2 => (kernelRun0_A.sl.v440 c a1 k1 a2 k2 a5 k5 a6 k6 a7 k7 a8 k8 a9 k9 a10 k10 a11 k11 a24 a25 a26 x0 x1 x4 x5 x6 x7 x8 x9 x10) | _ => (kernelRun0_A.sl.v558 c a1 k1 a2 k2 a5 k5 a6 k6 a7 k7 a8 k8 a9 k9 a10 k10 a11 k11 a24 a25 a26 x0 x1 x4 x5 x6 x7 x8 x9 x10) } β.sv where
  x0 := (leaf2_bf16 h.x0).congr fun a b ha _ => by simp [Bv.sv, Bv.gv, Bv.g0, Bv.g1]
  x1 := (leaf2_bf16 h.x1).congr fun a b ha _ => by simp [Bv.sv, Bv.gv, Bv.g0, Bv.g1]
  p7 := by unfold kernelRun0_A.sl.v17; exact (load2_f32 (A_h0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) fun _ _ => trivial).congr fun a b _ _ => by rw [Nat.zero_add]
  p6 := by unfold kernelRun0_A.sl.v22; exact (load2_f32 (A_h0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) fun _ _ => trivial).congr fun a b _ _ => by rw [Nat.zero_add]
  p5 := by unfold kernelRun0_A.sl.v27; exact (load2_f32 (A_h0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) fun _ _ => trivial).congr fun a b _ _ => by rw [Nat.zero_add]
  b7 := by unfold kernelRun0_A.sl.v51; exact (load2_f32 (A_h1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) fun _ _ => trivial).congr fun a b _ _ => by rw [Nat.zero_add]
  b6 := by unfold kernelRun0_A.sl.v56; exact (load2_f32 (A_h1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) fun _ _ => trivial).congr fun a b _ _ => by rw [Nat.zero_add]
  b5 := by unfold kernelRun0_A.sl.v61; exact (load2_f32 (A_h1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) fun _ _ => trivial).congr fun a b _ _ => by rw [Nat.zero_add]
  w3 := (leaf2_f32 h.w).congr fun a b ha _ => by (obtain rfl : a = 0 := by omega); simp [Bv.sv, Bv.gv, Bv.g0, Bv.g1]
  w2 := (leaf2_f32 h.w).congr fun a b ha _ => by (obtain rfl : a = 0 := by omega); simp [Bv.sv, Bv.gv, Bv.g0, Bv.g1]
  w1 := (leaf2_f32 h.w).congr fun a b ha _ => by (obtain rfl : a = 0 := by omega); simp [Bv.sv, Bv.gv, Bv.g0, Bv.g1]
  w0 := (leaf2_f32 h.w).congr fun a b ha _ => by (obtain rfl : a = 0 := by omega); simp [Bv.sv, Bv.gv, Bv.g0, Bv.g1]
  u3 := (leaf2_f32 h.u).congr fun a b ha _ => by (obtain rfl : a = 0 := by omega); simp [Bv.sv, Bv.gv, Bv.g0, Bv.g1]
  u2 := (leaf2_f32 h.u).congr fun a b ha _ => by (obtain rfl : a = 0 := by omega); simp [Bv.sv, Bv.gv, Bv.g0, Bv.g1]
  u1 := (leaf2_f32 h.u).congr fun a b ha _ => by (obtain rfl : a = 0 := by omega); simp [Bv.sv, Bv.gv, Bv.g0, Bv.g1]
  u0 := (leaf2_f32 h.u).congr fun a b ha _ => by (obtain rfl : a = 0 := by omega); simp [Bv.sv, Bv.gv, Bv.g0, Bv.g1]
  cx := (leaf2_f32 h.cx).congr fun a b ha _ => by simp [Bv.sv, Bv.gv, Bv.g0, Bv.g1]
  cu := (leaf2_f32 h.cu).congr fun a b ha _ => by simp [Bv.sv, Bv.gv, Bv.g0, Bv.g1]
  dtr := (leaf2_f32 h.sm).congr fun a b ha _ => by simp [Bv.sv, Bv.gv, Bv.g0, Bv.g1]
  dtb := (leaf2_f32 h.dtb).congr fun a b ha _ => by simp [Bv.sv, Bv.gv, Bv.g0, Bv.g1]
  al := (leaf2_f32 h.al).congr fun a b ha _ => by simp [Bv.sv, Bv.gv, Bv.g0, Bv.g1]
  dx := (leaf2_f32 h.dx).congr fun a b ha _ => by simp [Bv.sv, Bv.gv, Bv.g0, Bv.g1]
  z := (leaf2_bf16 h.z).congr fun a b ha _ => by simp [Bv.sv, Bv.gv, Bv.g0, Bv.g1]
  ng := (leaf2_f32 h.ng).congr fun a b ha _ => by simp [Bv.sv, Bv.gv, Bv.g0, Bv.g1]
  ma := (leaf2_bf16 h.ma).congr fun a b ha _ => by simp [Bv.sv, Bv.gv, Bv.g0, Bv.g1]
  s := fun g hg => match g, hg with
    | 0, _ => by unfold kernelRun0_A.sl.v204; exact (load3_f32 (P := fun a => a = 0) (F := β.ss) (by unfold kernelRun0_A.sl.HS2_1; exact on3_full_f32 (zero_4 h2)) fun a ha => by omega).congr fun a b d ha _ _ => by (obtain rfl : a = 0 := by omega); simp [Bv.sv, Bv.g0, Bv.gv]
    | 1, _ => by unfold kernelRun0_A.sl.v322; exact (load3_f32 (P := fun a => a = 1) (F := β.ss) (by unfold kernelRun0_A.sl.HS2_2; exact on3_skip_f32 (fun a e => by omega) (by unfold kernelRun0_A.sl.HS2_1; exact on3_full_f32 (zero_4 h2))) fun a ha => by omega).congr fun a b d ha _ _ => by (obtain rfl : a = 0 := by omega); simp [Bv.sv, Bv.g0, Bv.gv]
    | 2, _ => by unfold kernelRun0_A.sl.v440; exact (load3_f32 (P := fun a => a = 2) (F := β.ss) (by unfold kernelRun0_A.sl.HS2_3; exact on3_skip_f32 (fun a e => by omega) (by unfold kernelRun0_A.sl.HS2_2; exact on3_skip_f32 (fun a e => by omega) (by unfold kernelRun0_A.sl.HS2_1; exact on3_full_f32 (zero_4 h2)))) fun a ha => by omega).congr fun a b d ha _ _ => by (obtain rfl : a = 0 := by omega); simp [Bv.sv, Bv.g0, Bv.gv]
    | 3, _ => by unfold kernelRun0_A.sl.v558; exact (load3_f32 (P := fun a => a = 3) (F := β.ss) (by unfold kernelRun0_A.sl.HS2_4; exact on3_skip_f32 (fun a e => by omega) (by unfold kernelRun0_A.sl.HS2_3; exact on3_skip_f32 (fun a e => by omega) (by unfold kernelRun0_A.sl.HS2_2; exact on3_skip_f32 (fun a e => by omega) (by unfold kernelRun0_A.sl.HS2_1; exact on3_full_f32 (zero_4 h2))))) fun a ha => by omega).congr fun a b d ha _ _ => by (obtain rfl : a = 0 := by omega); simp [Bv.sv, Bv.g0, Bv.gv]
    | n + 4, hn => absurd hn (by omega)

theorem A_g0 : Gc.Is { gl := (View.readAt (Elt Ideal) a19.view (Rect.unit (s := S128x128) ![0, 32] S64x16.size inb_S128x128_S64x16_0_32).toLoadRect (k19.unread x18)), gw := (View.readAt (Elt Ideal) a20.view (Rect.unit (s := S16x1024) ![0, 0] S16x1024.size inb_S16x1024_S16x1024_0_0).toLoadRect (k20.unread x19)), gb := (View.readAt (Elt Ideal) a21.view (Rect.unit (s := S1x1024) ![0, 0] S1x1024.size inb_S1x1024_S1x1024_0_0).toLoadRect (k21.unread x20)), q := (View.readAt (Elt Ideal) a14.view (Rect.unit (s := S128x1024) ![0, 0] S64x1024.size inb_S128x1024_S64x1024_0_0).toLoadRect (k14.unread x13)), k := (View.readAt (Elt Ideal) a15.view (Rect.unit (s := S128x1024) ![0, 0] S64x1024.size inb_S128x1024_S64x1024_0_0).toLoadRect (k15.unread x14)), v := (kernelRun0_A.sl.r_77 c a16 k16 x15), r := (View.readAt (Elt Ideal) a17.view (Rect.unit (s := S128x2048) ![0, 0] S64x2048.size inb_S128x2048_S64x2048_0_0).toLoadRect (k17.unread x16)), mb := (View.readAt (Elt Ideal) a18.view (Rect.unit (s := S128x2048) ![0, 0] S64x2048.size inb_S128x2048_S64x2048_0_0).toLoadRect (k18.unread x17)), gn := (View.readAt (Elt Ideal) a22.view (Rect.unit (s := S1x512) ![0, 0] S1x512.size inb_S1x512_S1x512_0_0).toLoadRect (k22.unread x21)), s := fun g => match g with | 0 => (kernelRun0_A.sl.v846 (F := Ideal) c a27) | 1 => (kernelRun0_A.sl.v884 c a15 k15 a16 k16 a19 k19 a20 k20 a21 k21 a27 x14 x15 x18 x19 x20) | 2 => (kernelRun0_A.sl.v922 c a15 k15 a16 k16 a19 k19 a20 k20 a21 k21 a27 x14 x15 x18 x19 x20) | _ => (kernelRun0_A.sl.v960 c a15 k15 a16 k16 a19 k19 a20 k20 a21 k21 a27 x14 x15 x18 x19 x20) } β.g0 where
  gl := (leaf2_f32 h.sg).congr fun a b ha _ => by simp [Bv.sv, Bv.gv, Bv.g0, Bv.g1]
  gw := (leaf2_f32 h.gw).congr fun a b ha _ => by simp [Bv.sv, Bv.gv, Bv.g0, Bv.g1]
  gb := (leaf2_f32 h.gb).congr fun a b ha _ => by simp [Bv.sv, Bv.gv, Bv.g0, Bv.g1]
  q := (leaf2_bf16 h.q).congr fun a b ha _ => by simp [Bv.sv, Bv.gv, Bv.g0, Bv.g1]
  k := (leaf2_bf16 h.k).congr fun a b ha _ => by simp [Bv.sv, Bv.gv, Bv.g0, Bv.g1]
  v := by unfold kernelRun0_A.sl.r_77; exact (leaf2_bf16 h.v).congr fun a b ha _ => by simp [Bv.sv, Bv.gv, Bv.g0, Bv.g1]
  r := (leaf2_bf16 h.r).congr fun a b ha _ => by simp [Bv.sv, Bv.gv, Bv.g0, Bv.g1]
  mb := (leaf2_bf16 h.mb).congr fun a b ha _ => by simp [Bv.sv, Bv.gv, Bv.g0, Bv.g1]
  gn := (leaf2_f32 h.gn).congr fun a b ha _ => by simp [Bv.sv, Bv.gv, Bv.g0, Bv.g1]
  s := fun g hg => match g, hg with
    | 0, _ => by unfold kernelRun0_A.sl.v846; exact (load3_f32 (P := fun a => a = 0) (F := β.gs) (by unfold kernelRun0_A.sl.HS3_1; exact on3_full_f32 (zero_5 h3)) fun a ha => by omega).congr fun a b d ha _ _ => by (obtain rfl : a = 0 := by omega); simp [Bv.sv, Bv.g0, Bv.gv]
    | 1, _ => by unfold kernelRun0_A.sl.v884; exact (load3_f32 (P := fun a => a = 1) (F := β.gs) (by unfold kernelRun0_A.sl.HS3_2; exact on3_skip_f32 (fun a e => by omega) (by unfold kernelRun0_A.sl.HS3_1; exact on3_full_f32 (zero_5 h3))) fun a ha => by omega).congr fun a b d ha _ _ => by (obtain rfl : a = 0 := by omega); simp [Bv.sv, Bv.g0, Bv.gv]
    | 2, _ => by unfold kernelRun0_A.sl.v922; exact (load3_f32 (P := fun a => a = 2) (F := β.gs) (by unfold kernelRun0_A.sl.HS3_3; exact on3_skip_f32 (fun a e => by omega) (by unfold kernelRun0_A.sl.HS3_2; exact on3_skip_f32 (fun a e => by omega) (by unfold kernelRun0_A.sl.HS3_1; exact on3_full_f32 (zero_5 h3)))) fun a ha => by omega).congr fun a b d ha _ _ => by (obtain rfl : a = 0 := by omega); simp [Bv.sv, Bv.g0, Bv.gv]
    | 3, _ => by unfold kernelRun0_A.sl.v960; exact (load3_f32 (P := fun a => a = 3) (F := β.gs) (by unfold kernelRun0_A.sl.HS3_4; exact on3_skip_f32 (fun a e => by omega) (by unfold kernelRun0_A.sl.HS3_3; exact on3_skip_f32 (fun a e => by omega) (by unfold kernelRun0_A.sl.HS3_2; exact on3_skip_f32 (fun a e => by omega) (by unfold kernelRun0_A.sl.HS3_1; exact on3_full_f32 (zero_5 h3))))) fun a ha => by omega).congr fun a b d ha _ _ => by (obtain rfl : a = 0 := by omega); simp [Bv.sv, Bv.g0, Bv.gv]
    | n + 4, hn => absurd hn (by omega)

theorem A_s4 : On3 (φ := .f32) (fun _ => True) (a27.view.read (Elt Ideal) (a27.view.writes (Elt Ideal) a27.view.junk (kernelRun0_A.sl.HS3_5 c a15 k15 a16 k16 a19 k19 a20 k20 a21 k21 a27 x14 x15 x18 x19 x20))) β.g0.st := by
  unfold kernelRun0_A.sl.HS3_5
  refine on3_write_f32 (@gla_st _ _ (A_g0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) 3 (by decide)) ?_
  unfold kernelRun0_A.sl.HS3_4
  refine on3_write_f32 (@gla_st _ _ (A_g0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) 2 (by decide)) ?_
  unfold kernelRun0_A.sl.HS3_3
  refine on3_write_f32 (@gla_st _ _ (A_g0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) 1 (by decide)) ?_
  unfold kernelRun0_A.sl.HS3_2
  refine on3_write_f32 (@gla_st _ _ (A_g0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) 0 (by decide)) ?_
  exact fun i hi => absurd hi (by have := (i 0).isLt; change (i 0).val < 4 at this; omega)

theorem A_g1 : Gc.Is { gl := (View.readAt (Elt Ideal) a19.view (Rect.unit (s := S128x128) ![64, 32] S64x16.size inb_S128x128_S64x16_64_32).toLoadRect (k19.unread x18)), gw := (View.readAt (Elt Ideal) a20.view (Rect.unit (s := S16x1024) ![0, 0] S16x1024.size inb_S16x1024_S16x1024_0_0).toLoadRect (k20.unread x19)), gb := (View.readAt (Elt Ideal) a21.view (Rect.unit (s := S1x1024) ![0, 0] S1x1024.size inb_S1x1024_S1x1024_0_0).toLoadRect (k21.unread x20)), q := (View.readAt (Elt Ideal) a14.view (Rect.unit (s := S128x1024) ![64, 0] S64x1024.size inb_S128x1024_S64x1024_64_0).toLoadRect (k14.unread x13)), k := (View.readAt (Elt Ideal) a15.view (Rect.unit (s := S128x1024) ![64, 0] S64x1024.size inb_S128x1024_S64x1024_64_0).toLoadRect (k15.unread x14)), v := (kernelRun0_A.sl.r_101 c a16 k16 x15), r := (View.readAt (Elt Ideal) a17.view (Rect.unit (s := S128x2048) ![64, 0] S64x2048.size inb_S128x2048_S64x2048_64_0).toLoadRect (k17.unread x16)), mb := (View.readAt (Elt Ideal) a18.view (Rect.unit (s := S128x2048) ![64, 0] S64x2048.size inb_S128x2048_S64x2048_64_0).toLoadRect (k18.unread x17)), gn := (View.readAt (Elt Ideal) a22.view (Rect.unit (s := S1x512) ![0, 0] S1x512.size inb_S1x512_S1x512_0_0).toLoadRect (k22.unread x21)), s := fun g => match g with | 0 => (kernelRun0_A.sl.v1089 c a15 k15 a16 k16 a19 k19 a20 k20 a21 k21 a27 x14 x15 x18 x19 x20) | 1 => (kernelRun0_A.sl.v1127 c a15 k15 a16 k16 a19 k19 a20 k20 a21 k21 a27 x14 x15 x18 x19 x20) | 2 => (kernelRun0_A.sl.v1165 c a15 k15 a16 k16 a19 k19 a20 k20 a21 k21 a27 x14 x15 x18 x19 x20) | _ => (kernelRun0_A.sl.v1203 c a15 k15 a16 k16 a19 k19 a20 k20 a21 k21 a27 x14 x15 x18 x19 x20) } β.g1 where
  gl := (leaf2_f32 h.sg).congr fun a b ha _ => by simp [Bv.sv, Bv.gv, Bv.g0, Bv.g1]
  gw := (leaf2_f32 h.gw).congr fun a b ha _ => by simp [Bv.sv, Bv.gv, Bv.g0, Bv.g1]
  gb := (leaf2_f32 h.gb).congr fun a b ha _ => by simp [Bv.sv, Bv.gv, Bv.g0, Bv.g1]
  q := (leaf2_bf16 h.q).congr fun a b ha _ => by simp [Bv.sv, Bv.gv, Bv.g0, Bv.g1]
  k := (leaf2_bf16 h.k).congr fun a b ha _ => by simp [Bv.sv, Bv.gv, Bv.g0, Bv.g1]
  v := by unfold kernelRun0_A.sl.r_101; exact (leaf2_bf16 h.v).congr fun a b ha _ => by simp [Bv.sv, Bv.gv, Bv.g0, Bv.g1]
  r := (leaf2_bf16 h.r).congr fun a b ha _ => by simp [Bv.sv, Bv.gv, Bv.g0, Bv.g1]
  mb := (leaf2_bf16 h.mb).congr fun a b ha _ => by simp [Bv.sv, Bv.gv, Bv.g0, Bv.g1]
  gn := (leaf2_f32 h.gn).congr fun a b ha _ => by simp [Bv.sv, Bv.gv, Bv.g0, Bv.g1]
  s := fun g hg => match g, hg with
    | 0, _ => by unfold kernelRun0_A.sl.v1089; exact (load3_f32 (P := fun a => a = 0) (F := β.g0.st) (fun j _ => (A_s4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) j trivial) fun a ha => by omega).congr fun a b d ha _ _ => by (obtain rfl : a = 0 := by omega); simp [Bv.g1, Bv.gv]
    | 1, _ => by unfold kernelRun0_A.sl.v1127; exact (load3_f32 (P := fun a => a = 1) (F := β.g0.st) (by unfold kernelRun0_A.sl.HS3_6; exact on3_skip_f32 (fun a e => by omega) (fun j _ => (A_s4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) j trivial)) fun a ha => by omega).congr fun a b d ha _ _ => by (obtain rfl : a = 0 := by omega); simp [Bv.g1, Bv.gv]
    | 2, _ => by unfold kernelRun0_A.sl.v1165; exact (load3_f32 (P := fun a => a = 2) (F := β.g0.st) (by unfold kernelRun0_A.sl.HS3_7; exact on3_skip_f32 (fun a e => by omega) (by unfold kernelRun0_A.sl.HS3_6; exact on3_skip_f32 (fun a e => by omega) (fun j _ => (A_s4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) j trivial))) fun a ha => by omega).congr fun a b d ha _ _ => by (obtain rfl : a = 0 := by omega); simp [Bv.g1, Bv.gv]
    | 3, _ => by unfold kernelRun0_A.sl.v1203; exact (load3_f32 (P := fun a => a = 3) (F := β.g0.st) (by unfold kernelRun0_A.sl.HS3_8; exact on3_skip_f32 (fun a e => by omega) (by unfold kernelRun0_A.sl.HS3_7; exact on3_skip_f32 (fun a e => by omega) (by unfold kernelRun0_A.sl.HS3_6; exact on3_skip_f32 (fun a e => by omega) (fun j _ => (A_s4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) j trivial)))) fun a ha => by omega).congr fun a b d ha _ _ => by (obtain rfl : a = 0 := by omega); simp [Bv.g1, Bv.gv]
    | n + 4, hn => absurd hn (by omega)

theorem A_r69 : R2 (φ := .f32) (kernelRun0_A.sl.r_69 c a1 k1 a2 k2 a3 k3 a4 k4 a5 k5 a6 k6 a7 k7 a8 k8 a9 k9 a10 k10 a11 k11 a12 k12 a13 k13 a24 a25 a26 x0 x1 x2 x3 x4 x5 x6 x7 x8 x9 x10 x11 x12) β.sv.out := ssd_tower (A_sc c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl

theorem A_out : R2 (φ := .bf16) (out0_A_22 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21) β.out := by
  refine r2_of (P := fun _ => True) ?_ fun _ _ => trivial
  unfold out0_A_22 kernelRun0_A
  dsimp only
  refine on2_write_bf16 (o := 64) ((gla_tower1 (A_g1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) (A_r69 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) rfl rfl rfl rfl rfl rfl rfl rfl rfl rfl rfl rfl rfl rfl rfl rfl rfl rfl rfl rfl).congr fun a b ha hb => by simp [Bv.out]) (on2_write_bf16 (o := 0) ((gla_tower0 (A_g0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) (A_r69 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) rfl rfl rfl rfl rfl rfl rfl rfl rfl rfl rfl rfl rfl rfl rfl rfl).congr fun a b ha hb => by simp [Bv.out, ha]) (fun i hi => absurd hi (by have := (i 0).isLt; change (i 0).val < 128 at this; omega)))

theorem A_sh0 : R2 (φ := .f32) (sout0_A_0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21) β.hx' := by
  refine r2_of (P := fun _ => True) ?_ fun _ _ => trivial
  unfold sout0_A_0 kernelRun0_A
  dsimp only
  unfold kernelRun0_A.sl.HS0_2
  have e : R2 (φ := .bf16) (View.readAt (Elt Ideal) a1.view (Rect.unit (s := S128x2048) ![0, 0] S128x2048.size inb_S128x2048_S128x2048_0_0).toLoadRect (k1.unread x0)) β.x0 := (leaf2_bf16 h.x0).congr fun a b _ _ => by simp
  refine on2_write_f32 (o := 0) (W := 8) ?_ (on2_write_f32 (o := 8) (W := 128) ?_ (fun i hi => absurd hi (by have := (i 0).isLt; change (i 0).val < 136 at this; omega)))
  · unfold k0_pay11 kernelRun0_A.sl.r_2 k0_pay10 k0_pay6
    refine R2.congr (f := ?f15) ?hh15 ?ee15
    case hh15 => infer_instance
    case ee15 => intro a b ha hb; simp [Bv.hx', ha]
  · unfold k0_pay8 k0_pay6
    refine R2.congr (f := ?f16) ?hh16 ?ee16
    case hh16 => infer_instance
    case ee16 => intro a b ha hb; simp [Bv.hx']

theorem A_sh1 : R2 (φ := .f32) (sout0_A_1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21) β.hb' := by
  refine r2_of (P := fun _ => True) ?_ fun _ _ => trivial
  unfold sout0_A_1 kernelRun0_A
  dsimp only
  unfold kernelRun0_A.sl.HS1_2
  have e : R2 (φ := .bf16) (View.readAt (Elt Ideal) a2.view (Rect.unit (s := S128x1024) ![0, 0] S128x1024.size inb_S128x1024_S128x1024_0_0).toLoadRect (k2.unread x1)) β.x1 := (leaf2_bf16 h.x1).congr fun a b _ _ => by simp
  refine on2_write_f32 (o := 0) (W := 8) ?_ (on2_write_f32 (o := 8) (W := 128) ?_ (fun i hi => absurd hi (by have := (i 0).isLt; change (i 0).val < 136 at this; omega)))
  · unfold k0_pay16 kernelRun0_A.sl.r_5 k0_pay15 kernelRun0_A.sl.r k0_pay7
    refine R2.congr (f := ?f17) ?hh17 ?ee17
    case hh17 => infer_instance
    case ee17 => intro a b ha hb; simp [Bv.hb', ha]
  · unfold k0_pay13 kernelRun0_A.sl.r k0_pay7
    refine R2.congr (f := ?f18) ?hh18 ?ee18
    case hh18 => infer_instance
    case ee18 => intro a b ha hb; simp [Bv.hb']

theorem A_ss : R3 (φ := .f32) (sout0_A_2 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21) β.sv.st := by
  refine r3_of (P := fun _ => True) ?_ fun _ _ => trivial
  unfold sout0_A_2 kernelRun0_A
  dsimp only
  refine on3_write_f32 (@ssd_st _ _ (A_sc c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) 3 (by decide)) ?_
  unfold kernelRun0_A.sl.HS2_4
  refine on3_write_f32 (@ssd_st _ _ (A_sc c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) 2 (by decide)) ?_
  unfold kernelRun0_A.sl.HS2_3
  refine on3_write_f32 (@ssd_st _ _ (A_sc c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) 1 (by decide)) ?_
  unfold kernelRun0_A.sl.HS2_2
  refine on3_write_f32 (@ssd_st _ _ (A_sc c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) 0 (by decide)) ?_
  exact fun i hi => absurd hi (by have := (i 0).isLt; change (i 0).val < 4 at this; omega)

theorem A_gs : R3 (φ := .f32) (sout0_A_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21) β.g1.st := by
  refine r3_of (P := fun _ => True) ?_ fun _ _ => trivial
  unfold sout0_A_3 kernelRun0_A
  dsimp only
  refine on3_write_f32 (@gla_st _ _ (A_g1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) 3 (by decide)) ?_
  unfold kernelRun0_A.sl.HS3_8
  refine on3_write_f32 (@gla_st _ _ (A_g1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) 2 (by decide)) ?_
  unfold kernelRun0_A.sl.HS3_7
  refine on3_write_f32 (@gla_st _ _ (A_g1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) 1 (by decide)) ?_
  unfold kernelRun0_A.sl.HS3_6
  refine on3_write_f32 (@gla_st _ _ (A_g1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 β h h0 h1 h2 h3) 0 (by decide)) ?_
  exact fun i hi => absurd hi (by have := (i 0).isLt; change (i 0).val < 4 at this; omega)

end

end Cert.KernelIdeal.Mixer
-- ==== Proof.Mixer.CaseB.lean ====
module

public import proofs.«01_k».proof.Proof.Mixer.Value
public import proofs.«01_k».proof.Proof.Mixer.Block
public import proofs.«01_k».proof.Proof.Mixer.Tower

@[expose] public section

set_option maxRecDepth 100000

noncomputable section

/-! One grid point of the mixer (case B): what its buffers hold, as real numbers. -/

namespace Cert.KernelIdeal.Mixer
open Cert.KernelIdeal Cert.KernelIdeal.Gen
open Idealize.ShloMosaic Idealize.ShloMosaic.TcCoe Idealize.SL.Sem
open _root_.Mixer

set_option maxHeartbeats 4000000

section
variable  (c : Dev nD) (i : grid0.Coords) (a1 : Memref sig .tc .vmem S128x2048 .bf16) (k1 : a1.IsWhole) (a2 : Memref sig .tc .vmem S128x1024 .bf16) (k2 : a2.IsWhole) (a3 : Memref sig .tc .vmem S128x2048 .bf16) (k3 : a3.IsWhole) (a4 : Memref sig .tc .vmem S128x2048 .bf16) (k4 : a4.IsWhole) (a5 : Memref sig .tc .vmem S128x128 .f32) (k5 : a5.IsWhole) (a6 : Memref sig .tc .vmem S4x2048 .f32) (k6 : a6.IsWhole) (a7 : Memref sig .tc .vmem S4x1024 .f32) (k7 : a7.IsWhole) (a8 : Memref sig .tc .vmem S1x2048 .f32) (k8 : a8.IsWhole) (a9 : Memref sig .tc .vmem S1x1024 .f32) (k9 : a9.IsWhole) (a10 : Memref sig .tc .vmem S1x32 .f32) (k10 : a10.IsWhole) (a11 : Memref sig .tc .vmem S1x32 .f32) (k11 : a11.IsWhole) (a12 : Memref sig .tc .vmem S1x2048 .f32) (k12 : a12.IsWhole) (a13 : Memref sig .tc .vmem S1x2048 .f32) (k13 : a13.IsWhole) (a14 : Memref sig .tc .vmem S128x1024 .bf16) (k14 : a14.IsWhole) (a15 : Memref sig .tc .vmem S128x1024 .bf16) (k15 : a15.IsWhole) (a16 : Memref sig .tc .vmem S128x2048 .bf16) (k16 : a16.IsWhole) (a17 : Memref sig .tc .vmem S128x2048 .bf16) (k17 : a17.IsWhole) (a18 : Memref sig .tc .vmem S128x2048 .bf16) (k18 : a18.IsWhole) (a19 : Memref sig .tc .vmem S128x128 .f32) (k19 : a19.IsWhole) (a20 : Memref sig .tc .vmem S16x1024 .f32) (k20 : a20.IsWhole) (a21 : Memref sig .tc .vmem S1x1024 .f32) (k21 : a21.IsWhole) (a22 : Memref sig .tc .vmem S1x512 .f32) (k22 : a22.IsWhole) (a23 : Memref sig .tc .vmem S128x2048 .bf16) (k23 : a23.IsWhole) (a24 : Memref sig .tc .vmem S136x2048 .f32) (k24 : a24.IsWhole) (a25 : Memref sig .tc .vmem S136x1024 .f32) (k25 : a25.IsWhole) (a26 : Memref sig .tc .vmem S4x128x512 .f32) (k26 : a26.IsWhole) (a27 : Memref sig .tc .vmem S4x512x256 .f32) (k27 : a27.IsWhole) (hc0 : ¬cond0_0 i)
    (x0 : Vec Ideal S128x2048 .bf16) (x1 : Vec Ideal S128x1024 .bf16) (x2 : Vec Ideal S128x2048 .bf16) (x3 : Vec Ideal S128x2048 .bf16) (x4 : Vec Ideal S128x128 .f32) (x5 : Vec Ideal S4x2048 .f32) (x6 : Vec Ideal S4x1024 .f32) (x7 : Vec Ideal S1x2048 .f32) (x8 : Vec Ideal S1x1024 .f32) (x9 : Vec Ideal S1x32 .f32) (x10 : Vec Ideal S1x32 .f32) (x11 : Vec Ideal S1x2048 .f32) (x12 : Vec Ideal S1x2048 .f32) (x13 : Vec Ideal S128x1024 .bf16) (x14 : Vec Ideal S128x1024 .bf16) (x15 : Vec Ideal S128x2048 .bf16) (x16 : Vec Ideal S128x2048 .bf16) (x17 : Vec Ideal S128x2048 .bf16) (x18 : Vec Ideal S128x128 .f32) (x19 : Vec Ideal S16x1024 .f32) (x20 : Vec Ideal S1x1024 .f32) (x21 : Vec Ideal S1x512 .f32) (xs0 : Vec Ideal S136x2048 .f32) (xs1 : Vec Ideal S136x1024 .f32) (xs2 : Vec Ideal S4x128x512 .f32) (xs3 : Vec Ideal S4x512x256 .f32) (β : Bv) (h : β.Is x0 x1 x2 x3 x4 x5 x6 x7 x8 x9 x10 x11 x12 x13 x14 x15 x16 x17 x18 x19 x20 x21) (h0 : R2 (φ := .f32) xs0 β.hx) (h1 : R2 (φ := .f32) xs1 β.hb) (h2 : R3 (φ := .f32) xs2 β.ss) (h3 : R3 (φ := .f32) xs3 β.gs)
include c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3

theorem B_h0 : On2 (φ := .f32) (fun _ => True) (a24.view.read (Elt Ideal) (a24.view.writes (Elt Ideal) (k24.unread xs0) (kernelRun0_B.sl.HS0_1 c a1 k1 x0))) β.sv.px := by
  unfold kernelRun0_B.sl.HS0_1
  refine on2_write_f32 (o := 8) (by
    have e : R2 (φ := .bf16) (View.readAt (Elt Ideal) a1.view (Rect.unit (s := S128x2048) ![0, 0] S128x2048.size inb_S128x2048_S128x2048_0_0).toLoadRect (k1.unread x0)) β.x0 := (leaf2_bf16 h.x0).congr fun a b _ _ => by simp
    unfold k0_pay8 k0_pay6
    refine R2.congr (f := ?f1) ?hh1 ?ee1
    case hh1 => infer_instance
    case ee1 => intro a b _ _; simp [Bv.sv]) ?_
  exact fun i hi => (on2_unread_f32 (P := fun _ => True) h0 i trivial).trans (by rw [show β.sv.px (i 0).val (i 1).val = β.hx (i 0).val (i 1).val from if_neg (by have := hi.2; have := (i 0).isLt; change (i 0).val < 136 at this; omega)])

theorem B_h1 : On2 (φ := .f32) (fun _ => True) (a25.view.read (Elt Ideal) (a25.view.writes (Elt Ideal) (k25.unread xs1) (kernelRun0_B.sl.HS1_1 c a2 k2 x1))) β.sv.pb := by
  unfold kernelRun0_B.sl.HS1_1
  refine on2_write_f32 (o := 8) (by
    have e : R2 (φ := .bf16) (View.readAt (Elt Ideal) a2.view (Rect.unit (s := S128x1024) ![0, 0] S128x1024.size inb_S128x1024_S128x1024_0_0).toLoadRect (k2.unread x1)) β.x1 := (leaf2_bf16 h.x1).congr fun a b _ _ => by simp
    unfold kernelRun0_B.sl.r k0_pay13 k0_pay7
    refine R2.congr (f := ?f2) ?hh2 ?ee2
    case hh2 => infer_instance
    case ee2 => intro a b _ _; simp [Bv.sv]) ?_
  exact fun i hi => (on2_unread_f32 (P := fun _ => True) h1 i trivial).trans (by rw [show β.sv.pb (i 0).val (i 1).val = β.hb (i 0).val (i 1).val from if_neg (by have := hi.2; have := (i 0).isLt; change (i 0).val < 136 at this; omega)])

theorem B_sc : Sc.Is { x0 := (View.readAt (Elt Ideal) a1.view (Rect.unit (s := S128x2048) ![0, 0] S128x2048.size inb_S128x2048_S128x2048_0_0).toLoadRect (k1.unread x0)), w3 := (View.readAt (Elt Ideal) a6.view (Rect.unit (s := S4x2048) ![3, 0] S1x2048.size inb_S4x2048_S1x2048_3_0).toLoadRect (k6.unread x5)), cx := (View.readAt (Elt Ideal) a8.view (Rect.unit (s := S1x2048) ![0, 0] S1x2048.size inb_S1x2048_S1x2048_0_0).toLoadRect (k8.unread x7)), p7 := (View.readAt (Elt Ideal) a24.view (Rect.unit (s := S136x2048) ![7, 0] S128x2048.size inb_S136x2048_S128x2048_7_0).toLoadRect (a24.view.writes (Elt Ideal) (k24.unread xs0) (kernelRun0_B.sl.HS0_1 c a1 k1 x0))), w2 := (View.readAt (Elt Ideal) a6.view (Rect.unit (s := S4x2048) ![2, 0] S1x2048.size inb_S4x2048_S1x2048_2_0).toLoadRect (k6.unread x5)), p6 := (View.readAt (Elt Ideal) a24.view (Rect.unit (s := S136x2048) ![6, 0] S128x2048.size inb_S136x2048_S128x2048_6_0).toLoadRect (a24.view.writes (Elt Ideal) (k24.unread xs0) (kernelRun0_B.sl.HS0_1 c a1 k1 x0))), w1 := (View.readAt (Elt Ideal) a6.view (Rect.unit (s := S4x2048) ![1, 0] S1x2048.size inb_S4x2048_S1x2048_1_0).toLoadRect (k6.unread x5)), p5 := (View.readAt (Elt Ideal) a24.view (Rect.unit (s := S136x2048) ![5, 0] S128x2048.size inb_S136x2048_S128x2048_5_0).toLoadRect (a24.view.writes (Elt Ideal) (k24.unread xs0) (kernelRun0_B.sl.HS0_1 c a1 k1 x0))), w0 := (View.readAt (Elt Ideal) a6.view (Rect.unit (s := S4x2048) ![0, 0] S1x2048.size inb_S4x2048_S1x2048_0_0).toLoadRect (k6.unread x5)), u3 := (View.readAt (Elt Ideal) a7.view (Rect.unit (s := S4x1024) ![3, 0] S1x1024.size inb_S4x1024_S1x1024_3_0).toLoadRect (k7.unread x6)), cu := (View.readAt (Elt Ideal) a9.view (Rect.unit (s := S1x1024) ![0, 0] S1x1024.size inb_S1x1024_S1x1024_0_0).toLoadRect (k9.unread x8)), b7 := (View.readAt (Elt Ideal) a25.view (Rect.unit (s := S136x1024) ![7, 0] S128x1024.size inb_S136x1024_S128x1024_7_0).toLoadRect (a25.view.writes (Elt Ideal) (k25.unread xs1) (kernelRun0_B.sl.HS1_1 c a2 k2 x1))), u2 := (View.readAt (Elt Ideal) a7.view (Rect.unit (s := S4x1024) ![2, 0] S1x1024.size inb_S4x1024_S1x1024_2_0).toLoadRect (k7.unread x6)), b6 := (View.readAt (Elt Ideal) a25.view (Rect.unit (s := S136x1024) ![6, 0] S128x1024.size inb_S136x1024_S128x1024_6_0).toLoadRect (a25.view.writes (Elt Ideal) (k25.unread xs1) (kernelRun0_B.sl.HS1_1 c a2 k2 x1))), u1 := (View.readAt (Elt Ideal) a7.view (Rect.unit (s := S4x1024) ![1, 0] S1x1024.size inb_S4x1024_S1x1024_1_0).toLoadRect (k7.unread x6)), b5 := (View.readAt (Elt Ideal) a25.view (Rect.unit (s := S136x1024) ![5, 0] S128x1024.size inb_S136x1024_S128x1024_5_0).toLoadRect (a25.view.writes (Elt Ideal) (k25.unread xs1) (kernelRun0_B.sl.HS1_1 c a2 k2 x1))), u0 := (View.readAt (Elt Ideal) a7.view (Rect.unit (s := S4x1024) ![0, 0] S1x1024.size inb_S4x1024_S1x1024_0_0).toLoadRect (k7.unread x6)), x1 := (View.readAt (Elt Ideal) a2.view (Rect.unit (s := S128x1024) ![0, 0] S128x1024.size inb_S128x1024_S128x1024_0_0).toLoadRect (k2.unread x1)), dtr := (View.readAt (Elt Ideal) a5.view (Rect.unit (s := S128x128) ![0, 0] S128x32.size inb_S128x128_S128x32_0_0).toLoadRect (k5.unread x4)), dtb := (View.readAt (Elt Ideal) a10.view (Rect.unit (s := S1x32) ![0, 0] S1x32.size inb_S1x32_S1x32_0_0).toLoadRect (k10.unread x9)), al := (View.readAt (Elt Ideal) a11.view (Rect.unit (s := S1x32) ![0, 0] S1x32.size inb_S1x32_S1x32_0_0).toLoadRect (k11.unread x10)), dx := (View.readAt (Elt Ideal) a12.view (Rect.unit (s := S1x2048) ![0, 0] S1x2048.size inb_S1x2048_S1x2048_0_0).toLoadRect (k12.unread x11)), z := (View.readAt (Elt Ideal) a3.view (Rect.unit (s := S128x2048) ![0, 0] S128x2048.size inb_S128x2048_S128x2048_0_0).toLoadRect (k3.unread x2)), ng := (View.readAt (Elt Ideal) a13.view (Rect.unit (s := S1x2048) ![0, 0] S1x2048.size inb_S1x2048_S1x2048_0_0).toLoadRect (k13.unread x12)), ma := (View.readAt (Elt Ideal) a4.view (Rect.unit (s := S128x2048) ![0, 0] S128x2048.size inb_S128x2048_S128x2048_0_0).toLoadRect (k4.unread x3)), s := fun g => match g with | 0 => (View.readAt (Elt Ideal) a26.view (Rect.unit (s := S4x128x512) ![0, 0, 0] S1x128x512.size inb_S4x128x512_S1x128x512_0_0_0).toLoadRect (k26.unread xs2)) | 1 => (kernelRun0_B.sl.v322 c a26 k26 xs2) | 2 => (kernelRun0_B.sl.v440 c a26 k26 xs2) | _ => (kernelRun0_B.sl.v558 c a26 k26 xs2) } β.sv where
  x0 := (leaf2_bf16 h.x0).congr fun a b ha _ => by simp [Bv.sv, Bv.gv, Bv.g0, Bv.g1]
  x1 := (leaf2_bf16 h.x1).congr fun a b ha _ => by simp [Bv.sv, Bv.gv, Bv.g0, Bv.g1]
  p7 := (load2_f32 (B_h0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) fun _ _ => trivial).congr fun a b _ _ => by rw [Nat.zero_add]
  p6 := (load2_f32 (B_h0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) fun _ _ => trivial).congr fun a b _ _ => by rw [Nat.zero_add]
  p5 := (load2_f32 (B_h0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) fun _ _ => trivial).congr fun a b _ _ => by rw [Nat.zero_add]
  b7 := (load2_f32 (B_h1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) fun _ _ => trivial).congr fun a b _ _ => by rw [Nat.zero_add]
  b6 := (load2_f32 (B_h1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) fun _ _ => trivial).congr fun a b _ _ => by rw [Nat.zero_add]
  b5 := (load2_f32 (B_h1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) fun _ _ => trivial).congr fun a b _ _ => by rw [Nat.zero_add]
  w3 := (leaf2_f32 h.w).congr fun a b ha _ => by (obtain rfl : a = 0 := by omega); simp [Bv.sv, Bv.gv, Bv.g0, Bv.g1]
  w2 := (leaf2_f32 h.w).congr fun a b ha _ => by (obtain rfl : a = 0 := by omega); simp [Bv.sv, Bv.gv, Bv.g0, Bv.g1]
  w1 := (leaf2_f32 h.w).congr fun a b ha _ => by (obtain rfl : a = 0 := by omega); simp [Bv.sv, Bv.gv, Bv.g0, Bv.g1]
  w0 := (leaf2_f32 h.w).congr fun a b ha _ => by (obtain rfl : a = 0 := by omega); simp [Bv.sv, Bv.gv, Bv.g0, Bv.g1]
  u3 := (leaf2_f32 h.u).congr fun a b ha _ => by (obtain rfl : a = 0 := by omega); simp [Bv.sv, Bv.gv, Bv.g0, Bv.g1]
  u2 := (leaf2_f32 h.u).congr fun a b ha _ => by (obtain rfl : a = 0 := by omega); simp [Bv.sv, Bv.gv, Bv.g0, Bv.g1]
  u1 := (leaf2_f32 h.u).congr fun a b ha _ => by (obtain rfl : a = 0 := by omega); simp [Bv.sv, Bv.gv, Bv.g0, Bv.g1]
  u0 := (leaf2_f32 h.u).congr fun a b ha _ => by (obtain rfl : a = 0 := by omega); simp [Bv.sv, Bv.gv, Bv.g0, Bv.g1]
  cx := (leaf2_f32 h.cx).congr fun a b ha _ => by simp [Bv.sv, Bv.gv, Bv.g0, Bv.g1]
  cu := (leaf2_f32 h.cu).congr fun a b ha _ => by simp [Bv.sv, Bv.gv, Bv.g0, Bv.g1]
  dtr := (leaf2_f32 h.sm).congr fun a b ha _ => by simp [Bv.sv, Bv.gv, Bv.g0, Bv.g1]
  dtb := (leaf2_f32 h.dtb).congr fun a b ha _ => by simp [Bv.sv, Bv.gv, Bv.g0, Bv.g1]
  al := (leaf2_f32 h.al).congr fun a b ha _ => by simp [Bv.sv, Bv.gv, Bv.g0, Bv.g1]
  dx := (leaf2_f32 h.dx).congr fun a b ha _ => by simp [Bv.sv, Bv.gv, Bv.g0, Bv.g1]
  z := (leaf2_bf16 h.z).congr fun a b ha _ => by simp [Bv.sv, Bv.gv, Bv.g0, Bv.g1]
  ng := (leaf2_f32 h.ng).congr fun a b ha _ => by simp [Bv.sv, Bv.gv, Bv.g0, Bv.g1]
  ma := (leaf2_bf16 h.ma).congr fun a b ha _ => by simp [Bv.sv, Bv.gv, Bv.g0, Bv.g1]
  s := fun g hg => match g, hg with
    | 0, _ => by exact (load3_f32 (P := fun _ => True) (on3_unread_f32 h2) fun _ _ => trivial).congr fun a b d ha _ _ => by (obtain rfl : a = 0 := by omega); simp [Bv.sv, Bv.g0, Bv.gv]
    | 1, _ => by unfold kernelRun0_B.sl.v322; exact (load3_f32 (P := fun _ => True) (on3_unread_f32 h2) fun _ _ => trivial).congr fun a b d ha _ _ => by (obtain rfl : a = 0 := by omega); simp [Bv.sv, Bv.g0, Bv.gv]
    | 2, _ => by unfold kernelRun0_B.sl.v440; exact (load3_f32 (P := fun _ => True) (on3_unread_f32 h2) fun _ _ => trivial).congr fun a b d ha _ _ => by (obtain rfl : a = 0 := by omega); simp [Bv.sv, Bv.g0, Bv.gv]
    | 3, _ => by unfold kernelRun0_B.sl.v558; exact (load3_f32 (P := fun _ => True) (on3_unread_f32 h2) fun _ _ => trivial).congr fun a b d ha _ _ => by (obtain rfl : a = 0 := by omega); simp [Bv.sv, Bv.g0, Bv.gv]
    | n + 4, hn => absurd hn (by omega)

theorem B_g0 : Gc.Is { gl := (View.readAt (Elt Ideal) a19.view (Rect.unit (s := S128x128) ![0, 32] S64x16.size inb_S128x128_S64x16_0_32).toLoadRect (k19.unread x18)), gw := (View.readAt (Elt Ideal) a20.view (Rect.unit (s := S16x1024) ![0, 0] S16x1024.size inb_S16x1024_S16x1024_0_0).toLoadRect (k20.unread x19)), gb := (View.readAt (Elt Ideal) a21.view (Rect.unit (s := S1x1024) ![0, 0] S1x1024.size inb_S1x1024_S1x1024_0_0).toLoadRect (k21.unread x20)), q := (View.readAt (Elt Ideal) a14.view (Rect.unit (s := S128x1024) ![0, 0] S64x1024.size inb_S128x1024_S64x1024_0_0).toLoadRect (k14.unread x13)), k := (View.readAt (Elt Ideal) a15.view (Rect.unit (s := S128x1024) ![0, 0] S64x1024.size inb_S128x1024_S64x1024_0_0).toLoadRect (k15.unread x14)), v := (kernelRun0_B.sl.r_77 c a16 k16 x15), r := (View.readAt (Elt Ideal) a17.view (Rect.unit (s := S128x2048) ![0, 0] S64x2048.size inb_S128x2048_S64x2048_0_0).toLoadRect (k17.unread x16)), mb := (View.readAt (Elt Ideal) a18.view (Rect.unit (s := S128x2048) ![0, 0] S64x2048.size inb_S128x2048_S64x2048_0_0).toLoadRect (k18.unread x17)), gn := (View.readAt (Elt Ideal) a22.view (Rect.unit (s := S1x512) ![0, 0] S1x512.size inb_S1x512_S1x512_0_0).toLoadRect (k22.unread x21)), s := fun g => match g with | 0 => (View.readAt (Elt Ideal) a27.view (Rect.unit (s := S4x512x256) ![0, 0, 0] S1x512x256.size inb_S4x512x256_S1x512x256_0_0_0).toLoadRect (k27.unread xs3)) | 1 => (kernelRun0_B.sl.v884 c a27 k27 xs3) | 2 => (kernelRun0_B.sl.v922 c a27 k27 xs3) | _ => (kernelRun0_B.sl.v960 c a27 k27 xs3) } β.g0 where
  gl := (leaf2_f32 h.sg).congr fun a b ha _ => by simp [Bv.sv, Bv.gv, Bv.g0, Bv.g1]
  gw := (leaf2_f32 h.gw).congr fun a b ha _ => by simp [Bv.sv, Bv.gv, Bv.g0, Bv.g1]
  gb := (leaf2_f32 h.gb).congr fun a b ha _ => by simp [Bv.sv, Bv.gv, Bv.g0, Bv.g1]
  q := (leaf2_bf16 h.q).congr fun a b ha _ => by simp [Bv.sv, Bv.gv, Bv.g0, Bv.g1]
  k := (leaf2_bf16 h.k).congr fun a b ha _ => by simp [Bv.sv, Bv.gv, Bv.g0, Bv.g1]
  v := by unfold kernelRun0_B.sl.r_77; exact (leaf2_bf16 h.v).congr fun a b ha _ => by simp [Bv.sv, Bv.gv, Bv.g0, Bv.g1]
  r := (leaf2_bf16 h.r).congr fun a b ha _ => by simp [Bv.sv, Bv.gv, Bv.g0, Bv.g1]
  mb := (leaf2_bf16 h.mb).congr fun a b ha _ => by simp [Bv.sv, Bv.gv, Bv.g0, Bv.g1]
  gn := (leaf2_f32 h.gn).congr fun a b ha _ => by simp [Bv.sv, Bv.gv, Bv.g0, Bv.g1]
  s := fun g hg => match g, hg with
    | 0, _ => by exact (load3_f32 (P := fun _ => True) (on3_unread_f32 h3) fun _ _ => trivial).congr fun a b d ha _ _ => by (obtain rfl : a = 0 := by omega); simp [Bv.sv, Bv.g0, Bv.gv]
    | 1, _ => by unfold kernelRun0_B.sl.v884; exact (load3_f32 (P := fun _ => True) (on3_unread_f32 h3) fun _ _ => trivial).congr fun a b d ha _ _ => by (obtain rfl : a = 0 := by omega); simp [Bv.sv, Bv.g0, Bv.gv]
    | 2, _ => by unfold kernelRun0_B.sl.v922; exact (load3_f32 (P := fun _ => True) (on3_unread_f32 h3) fun _ _ => trivial).congr fun a b d ha _ _ => by (obtain rfl : a = 0 := by omega); simp [Bv.sv, Bv.g0, Bv.gv]
    | 3, _ => by unfold kernelRun0_B.sl.v960; exact (load3_f32 (P := fun _ => True) (on3_unread_f32 h3) fun _ _ => trivial).congr fun a b d ha _ _ => by (obtain rfl : a = 0 := by omega); simp [Bv.sv, Bv.g0, Bv.gv]
    | n + 4, hn => absurd hn (by omega)

theorem B_s4 : On3 (φ := .f32) (fun _ => True) (a27.view.read (Elt Ideal) (a27.view.writes (Elt Ideal) a27.view.junk (kernelRun0_B.sl.HS3_4 c a15 k15 a16 k16 a19 k19 a20 k20 a21 k21 a27 k27 x14 x15 x18 x19 x20 xs3))) β.g0.st := by
  unfold kernelRun0_B.sl.HS3_4
  exact on3_write_f32 (@gla_st _ _ (B_g0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) 3 (by decide)) (on3_write_f32 (@gla_st _ _ (B_g0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) 2 (by decide)) (on3_write_f32 (@gla_st _ _ (B_g0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) 1 (by decide)) (on3_write_f32 (@gla_st _ _ (B_g0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) 0 (by decide)) (fun i hi => absurd hi (by have := (i 0).isLt; change (i 0).val < 4 at this; omega)))))

theorem B_g1 : Gc.Is { gl := (View.readAt (Elt Ideal) a19.view (Rect.unit (s := S128x128) ![64, 32] S64x16.size inb_S128x128_S64x16_64_32).toLoadRect (k19.unread x18)), gw := (View.readAt (Elt Ideal) a20.view (Rect.unit (s := S16x1024) ![0, 0] S16x1024.size inb_S16x1024_S16x1024_0_0).toLoadRect (k20.unread x19)), gb := (View.readAt (Elt Ideal) a21.view (Rect.unit (s := S1x1024) ![0, 0] S1x1024.size inb_S1x1024_S1x1024_0_0).toLoadRect (k21.unread x20)), q := (View.readAt (Elt Ideal) a14.view (Rect.unit (s := S128x1024) ![64, 0] S64x1024.size inb_S128x1024_S64x1024_64_0).toLoadRect (k14.unread x13)), k := (View.readAt (Elt Ideal) a15.view (Rect.unit (s := S128x1024) ![64, 0] S64x1024.size inb_S128x1024_S64x1024_64_0).toLoadRect (k15.unread x14)), v := (kernelRun0_B.sl.r_101 c a16 k16 x15), r := (View.readAt (Elt Ideal) a17.view (Rect.unit (s := S128x2048) ![64, 0] S64x2048.size inb_S128x2048_S64x2048_64_0).toLoadRect (k17.unread x16)), mb := (View.readAt (Elt Ideal) a18.view (Rect.unit (s := S128x2048) ![64, 0] S64x2048.size inb_S128x2048_S64x2048_64_0).toLoadRect (k18.unread x17)), gn := (View.readAt (Elt Ideal) a22.view (Rect.unit (s := S1x512) ![0, 0] S1x512.size inb_S1x512_S1x512_0_0).toLoadRect (k22.unread x21)), s := fun g => match g with | 0 => (kernelRun0_B.sl.v1089 c a15 k15 a16 k16 a19 k19 a20 k20 a21 k21 a27 k27 x14 x15 x18 x19 x20 xs3) | 1 => (kernelRun0_B.sl.v1127 c a15 k15 a16 k16 a19 k19 a20 k20 a21 k21 a27 k27 x14 x15 x18 x19 x20 xs3) | 2 => (kernelRun0_B.sl.v1165 c a15 k15 a16 k16 a19 k19 a20 k20 a21 k21 a27 k27 x14 x15 x18 x19 x20 xs3) | _ => (kernelRun0_B.sl.v1203 c a15 k15 a16 k16 a19 k19 a20 k20 a21 k21 a27 k27 x14 x15 x18 x19 x20 xs3) } β.g1 where
  gl := (leaf2_f32 h.sg).congr fun a b ha _ => by simp [Bv.sv, Bv.gv, Bv.g0, Bv.g1]
  gw := (leaf2_f32 h.gw).congr fun a b ha _ => by simp [Bv.sv, Bv.gv, Bv.g0, Bv.g1]
  gb := (leaf2_f32 h.gb).congr fun a b ha _ => by simp [Bv.sv, Bv.gv, Bv.g0, Bv.g1]
  q := (leaf2_bf16 h.q).congr fun a b ha _ => by simp [Bv.sv, Bv.gv, Bv.g0, Bv.g1]
  k := (leaf2_bf16 h.k).congr fun a b ha _ => by simp [Bv.sv, Bv.gv, Bv.g0, Bv.g1]
  v := by unfold kernelRun0_B.sl.r_101; exact (leaf2_bf16 h.v).congr fun a b ha _ => by simp [Bv.sv, Bv.gv, Bv.g0, Bv.g1]
  r := (leaf2_bf16 h.r).congr fun a b ha _ => by simp [Bv.sv, Bv.gv, Bv.g0, Bv.g1]
  mb := (leaf2_bf16 h.mb).congr fun a b ha _ => by simp [Bv.sv, Bv.gv, Bv.g0, Bv.g1]
  gn := (leaf2_f32 h.gn).congr fun a b ha _ => by simp [Bv.sv, Bv.gv, Bv.g0, Bv.g1]
  s := fun g hg => match g, hg with
    | 0, _ => by unfold kernelRun0_B.sl.v1089; exact (load3_f32 (P := fun a => a = 0) (F := β.g0.st) (fun j _ => (B_s4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) j trivial) fun a ha => by omega).congr fun a b d ha _ _ => by (obtain rfl : a = 0 := by omega); simp [Bv.g1, Bv.gv]
    | 1, _ => by unfold kernelRun0_B.sl.v1127; exact (load3_f32 (P := fun a => a = 1) (F := β.g0.st) (by unfold kernelRun0_B.sl.HS3_5; exact on3_skip_f32 (fun a e => by omega) (fun j _ => (B_s4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) j trivial)) fun a ha => by omega).congr fun a b d ha _ _ => by (obtain rfl : a = 0 := by omega); simp [Bv.g1, Bv.gv]
    | 2, _ => by unfold kernelRun0_B.sl.v1165; exact (load3_f32 (P := fun a => a = 2) (F := β.g0.st) (by unfold kernelRun0_B.sl.HS3_6; exact on3_skip_f32 (fun a e => by omega) (by unfold kernelRun0_B.sl.HS3_5; exact on3_skip_f32 (fun a e => by omega) (fun j _ => (B_s4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) j trivial))) fun a ha => by omega).congr fun a b d ha _ _ => by (obtain rfl : a = 0 := by omega); simp [Bv.g1, Bv.gv]
    | 3, _ => by unfold kernelRun0_B.sl.v1203; exact (load3_f32 (P := fun a => a = 3) (F := β.g0.st) (by unfold kernelRun0_B.sl.HS3_7; exact on3_skip_f32 (fun a e => by omega) (by unfold kernelRun0_B.sl.HS3_6; exact on3_skip_f32 (fun a e => by omega) (by unfold kernelRun0_B.sl.HS3_5; exact on3_skip_f32 (fun a e => by omega) (fun j _ => (B_s4 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) j trivial)))) fun a ha => by omega).congr fun a b d ha _ _ => by (obtain rfl : a = 0 := by omega); simp [Bv.g1, Bv.gv]
    | n + 4, hn => absurd hn (by omega)

theorem B_r69 : R2 (φ := .f32) (kernelRun0_B.sl.r_69 c a1 k1 a2 k2 a3 k3 a4 k4 a5 k5 a6 k6 a7 k7 a8 k8 a9 k9 a10 k10 a11 k11 a12 k12 a13 k13 a24 k24 a25 k25 a26 k26 x0 x1 x2 x3 x4 x5 x6 x7 x8 x9 x10 x11 x12 xs0 xs1 xs2) β.sv.out := ssd_tower (B_sc c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl

theorem B_out : R2 (φ := .bf16) (out0_B_22 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3) β.out := by
  refine r2_of (P := fun _ => True) ?_ fun _ _ => trivial
  unfold out0_B_22 kernelRun0_B
  dsimp only
  refine on2_write_bf16 (o := 64) ((gla_tower1 (B_g1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) (B_r69 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) rfl rfl rfl rfl rfl rfl rfl rfl rfl rfl rfl rfl rfl rfl rfl rfl rfl rfl rfl rfl).congr fun a b ha hb => by simp [Bv.out]) (on2_write_bf16 (o := 0) ((gla_tower0 (B_g0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) (B_r69 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) rfl rfl rfl rfl rfl rfl rfl rfl rfl rfl rfl rfl rfl rfl rfl rfl).congr fun a b ha hb => by simp [Bv.out, ha]) (fun i hi => absurd hi (by have := (i 0).isLt; change (i 0).val < 128 at this; omega)))

theorem B_sh0 : R2 (φ := .f32) (sout0_B_0 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3) β.hx' := by
  refine r2_of (P := fun _ => True) ?_ fun _ _ => trivial
  unfold sout0_B_0 kernelRun0_B
  dsimp only
  unfold kernelRun0_B.sl.HS0_1
  have e : R2 (φ := .bf16) (View.readAt (Elt Ideal) a1.view (Rect.unit (s := S128x2048) ![0, 0] S128x2048.size inb_S128x2048_S128x2048_0_0).toLoadRect (k1.unread x0)) β.x0 := (leaf2_bf16 h.x0).congr fun a b _ _ => by simp
  refine on2_write_f32 (o := 0) (W := 8) ?_ (on2_write_f32 (o := 8) (W := 128) ?_ (fun i hi => absurd hi (by have := (i 0).isLt; change (i 0).val < 136 at this; omega)))
  · unfold k0_pay11 kernelRun0_B.sl.r_2 k0_pay10 k0_pay6
    refine R2.congr (f := ?f5) ?hh5 ?ee5
    case hh5 => infer_instance
    case ee5 => intro a b ha hb; simp [Bv.hx', ha]
  · unfold k0_pay8 k0_pay6
    refine R2.congr (f := ?f6) ?hh6 ?ee6
    case hh6 => infer_instance
    case ee6 => intro a b ha hb; simp [Bv.hx']

theorem B_sh1 : R2 (φ := .f32) (sout0_B_1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3) β.hb' := by
  refine r2_of (P := fun _ => True) ?_ fun _ _ => trivial
  unfold sout0_B_1 kernelRun0_B
  dsimp only
  unfold kernelRun0_B.sl.HS1_1
  have e : R2 (φ := .bf16) (View.readAt (Elt Ideal) a2.view (Rect.unit (s := S128x1024) ![0, 0] S128x1024.size inb_S128x1024_S128x1024_0_0).toLoadRect (k2.unread x1)) β.x1 := (leaf2_bf16 h.x1).congr fun a b _ _ => by simp
  refine on2_write_f32 (o := 0) (W := 8) ?_ (on2_write_f32 (o := 8) (W := 128) ?_ (fun i hi => absurd hi (by have := (i 0).isLt; change (i 0).val < 136 at this; omega)))
  · unfold k0_pay16 kernelRun0_B.sl.r_5 k0_pay15 kernelRun0_B.sl.r k0_pay7
    refine R2.congr (f := ?f7) ?hh7 ?ee7
    case hh7 => infer_instance
    case ee7 => intro a b ha hb; simp [Bv.hb', ha]
  · unfold k0_pay13 kernelRun0_B.sl.r k0_pay7
    refine R2.congr (f := ?f8) ?hh8 ?ee8
    case hh8 => infer_instance
    case ee8 => intro a b ha hb; simp [Bv.hb']

theorem B_ss : R3 (φ := .f32) (sout0_B_2 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3) β.sv.st := by
  refine r3_of (P := fun _ => True) ?_ fun _ _ => trivial
  unfold sout0_B_2 kernelRun0_B
  dsimp only
  exact on3_write_f32 (@ssd_st _ _ (B_sc c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) 3 (by decide)) (on3_write_f32 (@ssd_st _ _ (B_sc c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) 2 (by decide)) (on3_write_f32 (@ssd_st _ _ (B_sc c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) 1 (by decide)) (on3_write_f32 (@ssd_st _ _ (B_sc c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) 0 (by decide)) (fun i hi => absurd hi (by have := (i 0).isLt; change (i 0).val < 4 at this; omega)))))

theorem B_gs : R3 (φ := .f32) (sout0_B_3 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3) β.g1.st := by
  refine r3_of (P := fun _ => True) ?_ fun _ _ => trivial
  unfold sout0_B_3 kernelRun0_B
  dsimp only
  refine on3_write_f32 (@gla_st _ _ (B_g1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) 3 (by decide)) ?_
  unfold kernelRun0_B.sl.HS3_7
  refine on3_write_f32 (@gla_st _ _ (B_g1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) 2 (by decide)) ?_
  unfold kernelRun0_B.sl.HS3_6
  refine on3_write_f32 (@gla_st _ _ (B_g1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) 1 (by decide)) ?_
  unfold kernelRun0_B.sl.HS3_5
  refine on3_write_f32 (@gla_st _ _ (B_g1 c i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 hc0 x0 x1 x2 x3 x4 x5 x6 x7 x8 x9 x10 x11 x12 x13 x14 x15 x16 x17 x18 x19 x20 x21 xs0 xs1 xs2 xs3 β h h0 h1 h2 h3) 0 (by decide)) ?_
  exact fun i hi => absurd hi (by have := (i 0).isLt; change (i 0).val < 4 at this; omega)

end

end Cert.KernelIdeal.Mixer
-- ==== Proof.Mixer.Global.lean ====
module

public import proofs.«01_k».proof.Proof.Mixer.Block

@[expose] public section

noncomputable section

/-! The mixer as one formula over the whole sequence, in the real numbers, and the proof that the sweep over blocks of rows with its carried states computes it. -/

namespace Mixer

/-- The real numbers the mixer's eleven arguments hold. -/
structure Args where
  P : ℕ → ℕ → ℝ
  sm : ℕ → ℕ → ℝ
  cw : ℕ → ℕ → ℝ
  cb : ℕ → ℝ
  dtb : ℕ → ℝ
  al : ℕ → ℝ
  ds : ℕ → ℝ
  ng : ℕ → ℝ
  gw : ℕ → ℕ → ℝ
  gb : ℕ → ℝ
  gn : ℕ → ℝ

/-- The logistic. -/
def lgs (x : ℝ) : ℝ := 1 / (1 + Real.exp (-x))

theorem sigm_eq (x : ℝ) : sigm x = lgs x := by
  unfold sigm lgs
  have h1 := Real.exp_pos (1 / 2 * x)
  have e : Real.exp (-x) = Real.exp (-(1 / 2 * x)) * Real.exp (-(1 / 2 * x)) := by rw [← Real.exp_add]; congr 1; ring
  rw [Real.tanh_eq_sinh_div_cosh, Real.sinh_eq, Real.cosh_eq, e, Real.exp_neg]
  field_simp
  ring

theorem silu_eq (x : ℝ) : silu x = x * lgs x := by rw [← sigm_eq]; unfold silu sigm; ring

namespace Args
variable (α : Args)
/-- The convolution's input with three rows of zeros ahead. -/
def pd (t b : ℕ) : ℝ := if 3 ≤ t then α.P (t - 3) (2048 + b) else 0
/-- The convolution. -/
def cv (t b : ℕ) : ℝ := α.pd t b * α.cw 0 b + α.pd (t + 1) b * α.cw 1 b + α.pd (t + 2) b * α.cw 2 b + α.pd (t + 3) b * α.cw 3 b + α.cb b
/-- The convolution, activated. -/
def xc (t b : ℕ) : ℝ := α.cv t b * lgs (α.cv t b)
/-- The time step. -/
def dt (t h : ℕ) : ℝ := max (α.sm t h + α.dtb h) 0 + Real.log (1 + Real.exp (-|α.sm t h + α.dtb h|))
/-- The log decay of the rows before `t`. -/
def S (t h : ℕ) : ℝ := ∑ i ∈ Finset.range t, α.dt i h * -Real.exp (α.al h)
/-- The scores of a group. -/
def cbg (g t s : ℕ) : ℝ := ∑ n ∈ Finset.range 128, α.xc s (2048 + 128 * g + n) * α.xc t (2560 + 128 * g + n)
/-- The state-space branch's sum over the sequence. -/
def yd (t b : ℕ) : ℝ := ∑ s ∈ Finset.range 8192, α.xc s b * α.dt s (b / 64)
  * (α.cbg (b / 512) t s * (if s ≤ t then Real.exp (α.S (t + 1) (b / 64) - α.S (s + 1) (b / 64)) else 0))
/-- The state-space branch before its norm. -/
def yg (t b : ℕ) : ℝ := (α.yd t b + α.ds (b / 64) * α.xc t b) * (α.P t b * lgs (α.P t b))
/-- The state-space branch's share of the result. -/
def so (t b : ℕ) : ℝ := lgs (α.P t (10240 + b)) * (α.yg t b
  * (Real.sqrt ((∑ c ∈ Finset.range 512, α.yg t (512 * (b / 512) + c) * α.yg t (512 * (b / 512) + c)) / 512 + eps))⁻¹ * α.ng b)
/-- The gate before its logistic. -/
def gx (t b : ℕ) : ℝ := ∑ j ∈ Finset.range 16, α.sm t (32 + j) * α.gw j b + α.gb b
/-- The gate's log. -/
def gk (t b : ℕ) : ℝ := -(max (-α.gx t b) 0 + Real.log (1 + Real.exp (-|-α.gx t b|))) / 16
/-- The gates' log of the rows before `t`. -/
def W (t b : ℕ) : ℝ := ∑ i ∈ Finset.range t, α.gk i b
/-- The attention's scores. -/
def gs (h t s : ℕ) : ℝ := ∑ c ∈ Finset.range 256, α.P t (5120 + (256 * h + c)) * (1 / 16) * Real.exp (α.W (t + 1) (256 * h + c))
  * (α.P s (14336 + (256 * h + c)) * Real.exp (-α.W (s + 1) (256 * h + c)))
/-- The attention. -/
def yh (h t b : ℕ) : ℝ := ∑ s ∈ Finset.range 8192, α.P s (6144 + (512 * h + b)) * (if s ≤ t then α.gs h t s else 0)
/-- The attention's share of the result. -/
def go (t b : ℕ) : ℝ := lgs (α.P t (12288 + b)) * (α.yh (b / 512) t (b % 512)
  * (Real.sqrt ((∑ c ∈ Finset.range 512, α.yh (b / 512) t c * α.yh (b / 512) t c) / 512 + eps))⁻¹ * α.gn (b % 512)
  * (α.P t (8192 + b) * lgs (α.P t (8192 + b))))
/-- The mixer's result. -/
def out (t b : ℕ) : ℝ := α.so t b + α.go t b

/-- What grid point `T` reads, with the states it finds. -/
def blk0 (T : ℕ) (ss gs : ℕ → ℕ → ℕ → ℝ) : Bv where
  x0 a b := α.P (128 * T + a) (2048 + b)
  x1 a b := α.P (128 * T + a) (4096 + b)
  z a b := α.P (128 * T + a) b
  ma a b := α.P (128 * T + a) (10240 + b)
  sm a b := α.sm (128 * T + a) b
  w := α.cw
  u i b := α.cw i (2048 + b)
  cx := α.cb
  cu b := α.cb (2048 + b)
  dtb := α.dtb
  al := α.al
  dx b := α.ds (b / 64)
  ng := α.ng
  q a b := α.P (128 * T + a) (5120 + b)
  k a b := α.P (128 * T + a) (14336 + b)
  v a b := α.P (128 * T + a) (6144 + b)
  r a b := α.P (128 * T + a) (8192 + b)
  mb a b := α.P (128 * T + a) (12288 + b)
  sg a b := α.sm (128 * T + a) b
  gw := α.gw
  gb := α.gb
  gn := α.gn
  hx a b := match T with
    | 0 => 0
    | t + 1 => if 8 ≤ a then α.P (128 * t + (a - 8)) (2048 + b) else α.P (128 * t + (120 + a)) (2048 + b)
  hb a b := match T with
    | 0 => 0
    | t + 1 => if 8 ≤ a then α.P (128 * t + (a - 8)) (4096 + b) else α.P (128 * t + (120 + a)) (4096 + b)
  ss := ss
  gs := gs

/-- The state-space state before grid point `T`. -/
def ssT : ℕ → ℕ → ℕ → ℕ → ℝ
  | 0 => fun _ _ _ => 0
  | T + 1 => (α.blk0 T (ssT T) fun _ _ _ => 0).sv.st
/-- The attention's state before grid point `T`. -/
def gsT : ℕ → ℕ → ℕ → ℕ → ℝ
  | 0 => fun _ _ _ => 0
  | T + 1 => (α.blk0 T (fun _ _ _ => 0) (gsT T)).g1.st
/-- Everything grid point `T` reads. -/
def blk (T : ℕ) : Bv := α.blk0 T (α.ssT T) (α.gsT T)

theorem blk_hx (T : ℕ) : (α.blk T).hx' = (α.blk (T + 1)).hx := rfl
theorem blk_hb (T : ℕ) : (α.blk T).hb' = (α.blk (T + 1)).hb := rfl
theorem blk_ss (T : ℕ) : (α.blk T).sv.st = (α.blk (T + 1)).ss := rfl
theorem blk_gs (T : ℕ) : (α.blk T).g1.st = (α.blk (T + 1)).gs := rfl

theorem px_eq (T a b i : ℕ) (hi : i < 4) : (α.blk T).sv.px (5 + i + a) b = α.pd (128 * T + a + i) b := by
  show (if 8 ≤ 5 + i + a then α.P (128 * T + (5 + i + a - 8)) (2048 + b) else (α.blk T).hx (5 + i + a) b) = _
  unfold pd
  split
  · rw [if_pos (by omega)]; congr 1; omega
  · cases T with
    | zero => rw [if_neg (by omega)]; rfl
    | succ T =>
      show (if 8 ≤ 5 + i + a then _ else α.P (128 * T + (120 + (5 + i + a))) (2048 + b)) = _
      rw [if_neg (by omega), if_pos (by omega)]; congr 1; omega

theorem pb_eq (T a b i : ℕ) (hi : i < 4) : (α.blk T).sv.pb (5 + i + a) b = α.pd (128 * T + a + i) (2048 + b) := by
  show (if 8 ≤ 5 + i + a then α.P (128 * T + (5 + i + a - 8)) (4096 + b) else (α.blk T).hb (5 + i + a) b) = _
  unfold pd
  split
  · rw [if_pos (by omega)]; congr 1 <;> omega
  · cases T with
    | zero => rw [if_neg (by omega)]; rfl
    | succ T =>
      show (if 8 ≤ 5 + i + a then _ else α.P (128 * T + (120 + (5 + i + a))) (4096 + b)) = _
      rw [if_neg (by omega), if_pos (by omega)]; congr 1 <;> omega

theorem xs_eq (T a b : ℕ) : (α.blk T).sv.xs a b = α.xc (128 * T + a) b := by
  have h0 := α.px_eq T a b 0 (by decide)
  have h1 := α.px_eq T a b 1 (by decide)
  have h2 := α.px_eq T a b 2 (by decide)
  have h3 := α.px_eq T a b 3 (by decide)
  have e : (α.blk T).sv.xs a b = silu ((α.blk T).sv.px (5 + 3 + a) b * α.cw 3 b + α.cb b + (α.blk T).sv.px (5 + 2 + a) b * α.cw 2 b
    + (α.blk T).sv.px (5 + 1 + a) b * α.cw 1 b + (α.blk T).sv.px (5 + 0 + a) b * α.cw 0 b) := rfl
  rw [e, h0, h1, h2, h3, silu_eq, xc]
  have e2 : α.cv (128 * T + a) b = α.pd (128 * T + a + 3) b * α.cw 3 b + α.cb b + α.pd (128 * T + a + 2) b * α.cw 2 b
    + α.pd (128 * T + a + 1) b * α.cw 1 b + α.pd (128 * T + a + 0) b * α.cw 0 b := by unfold cv; rw [Nat.add_zero]; ring
  rw [e2]

theorem bc_eq (T a b : ℕ) : (α.blk T).sv.bc a b = α.xc (128 * T + a) (2048 + b) := by
  have h0 := α.pb_eq T a b 0 (by decide)
  have h1 := α.pb_eq T a b 1 (by decide)
  have h2 := α.pb_eq T a b 2 (by decide)
  have h3 := α.pb_eq T a b 3 (by decide)
  have e : (α.blk T).sv.bc a b = silu ((α.blk T).sv.pb (5 + 3 + a) b * α.cw 3 (2048 + b) + α.cb (2048 + b) + (α.blk T).sv.pb (5 + 2 + a) b * α.cw 2 (2048 + b)
    + (α.blk T).sv.pb (5 + 1 + a) b * α.cw 1 (2048 + b) + (α.blk T).sv.pb (5 + 0 + a) b * α.cw 0 (2048 + b)) := rfl
  rw [e, h0, h1, h2, h3, silu_eq, xc]
  have e2 : α.cv (128 * T + a) (2048 + b) = α.pd (128 * T + a + 3) (2048 + b) * α.cw 3 (2048 + b) + α.cb (2048 + b) + α.pd (128 * T + a + 2) (2048 + b) * α.cw 2 (2048 + b)
    + α.pd (128 * T + a + 1) (2048 + b) * α.cw 1 (2048 + b) + α.pd (128 * T + a + 0) (2048 + b) * α.cw 0 (2048 + b) := by unfold cv; rw [Nat.add_zero]; ring
  rw [e2]

theorem dt_eq (T a h : ℕ) : (α.blk T).sv.dt a h = α.dt (128 * T + a) h := by
  unfold dt Sv.dt; rw [zero_sub]; rfl

theorem A_eq (T a h : ℕ) : (α.blk T).sv.A a h = α.S (128 * T + (a + 1)) h - α.S (128 * T) h := by
  unfold S Sv.A
  rw [Finset.sum_range_add _ (128 * T) (a + 1), add_sub_cancel_left]
  refine Finset.sum_congr rfl fun k _ => ?_
  unfold Sv.dA; rw [dt_eq, zero_sub]; rfl

theorem ss_eq (T g n c : ℕ) : α.ssT T g n c = ∑ s ∈ Finset.range (128 * T), α.xc s (2048 + 128 * g + n) * (α.xc s (512 * g + c)
    * α.dt s ((512 * g + c) / 64) * Real.exp (α.S (128 * T) ((512 * g + c) / 64) - α.S (s + 1) ((512 * g + c) / 64))) := by
  induction T with
  | zero => rfl
  | succ T ih =>
    have e : α.ssT (T + 1) g n c = (α.blk T).sv.st g n c := rfl
    have es : (α.blk T).sv.s g n c = α.ssT T g n c := rfl
    rw [e, Sv.st, es, ih, Nat.mul_succ, Finset.sum_range_add, Finset.sum_mul]
    congr 1
    · refine Finset.sum_congr rfl fun s _ => ?_
      rw [A_eq, mul_assoc, mul_assoc (_ * _), ← Real.exp_add]
      congr 3; ring
    · refine Finset.sum_congr rfl fun k _ => ?_
      rw [A_eq, A_eq, bc_eq, xs_eq, dt_eq, ← add_assoc 2048, add_assoc (128 * T) k 1, mul_assoc (α.xc _ _)]
      congr 4; ring

/-- A sum over the sequence masked to the rows up to `128 T + a` is the rows before the block and the block's rows up to `a`. -/
theorem sum_split {m L o a : ℕ} (ha : a < m) (hL : o + m ≤ L) (F : ℕ → ℝ) (hF : ∀ s, o + a < s → F s = 0) :
    ∑ s ∈ Finset.range L, F s = ∑ s ∈ Finset.range o, F s + ∑ k ∈ Finset.range m, F (o + k) := by
  obtain ⟨r, rfl⟩ := Nat.exists_eq_add_of_le hL
  rw [Finset.sum_range_add, Finset.sum_range_add, Finset.sum_eq_zero (s := Finset.range r) (fun s _ => hF _ (by omega)), add_zero]

theorem yd_eq (T a b : ℕ) (hT : T < 64) (ha : a < 128) :
    (α.blk T).sv.yd a b + (α.blk T).sv.yo (b / 512) a (b % 512) * Real.exp ((α.blk T).sv.A a (b / 64)) = α.yd (128 * T + a) b := by
  unfold yd
  rw [sum_split ha (o := 128 * T) (by omega) _ (fun s hs => by rw [if_neg (by omega), mul_zero, mul_zero]), add_comm]
  congr 1
  · unfold Sv.yo cbg
    simp only [Finset.sum_mul, Finset.mul_sum]
    have e : ∀ n, (α.blk T).sv.s (b / 512) n (b % 512) = _ := fun n => α.ss_eq T (b / 512) n (b % 512)
    simp only [e, Finset.mul_sum, Finset.sum_mul, Nat.div_add_mod]
    rw [Finset.sum_comm]
    refine Finset.sum_congr rfl fun s hs => Finset.sum_congr rfl fun n _ => ?_
    have hs := Finset.mem_range.1 hs
    rw [if_pos (by omega), bc_eq, A_eq, ← add_assoc (128 * T) a 1]
    have e : Real.exp (α.S (128 * T + a + 1) (b / 64) - α.S (s + 1) (b / 64)) = Real.exp (α.S (128 * T) (b / 64) - α.S (s + 1) (b / 64))
      * Real.exp (α.S (128 * T + a + 1) (b / 64) - α.S (128 * T) (b / 64)) := by rw [← Real.exp_add]; congr 1; ring
    rw [e, show 2048 + (512 + 128 * (b / 512) + n) = 2560 + 128 * (b / 512) + n by omega]
    ring
  · unfold Sv.yd
    refine Finset.sum_congr rfl fun k _ => ?_
    have e : (α.blk T).sv.cb (b / 512) a k = α.cbg (b / 512) (128 * T + a) (128 * T + k) := by
      unfold Sv.cb cbg
      refine Finset.sum_congr rfl fun n _ => ?_
      rw [bc_eq, bc_eq, mul_comm, show 2048 + (512 + 128 * (b / 512) + n) = 2560 + 128 * (b / 512) + n by omega, ← add_assoc 2048]
    rw [e, xs_eq, dt_eq, A_eq, A_eq, mul_comm]
    congr 2
    by_cases hk : k ≤ a
    · rw [if_pos hk, if_pos (by omega), ← add_assoc, ← add_assoc]; congr 1; ring
    · rw [if_neg hk, if_neg (by omega)]

theorem yg_eq (T a b : ℕ) (hT : T < 64) (ha : a < 128) : (α.blk T).sv.yg a b = α.yg (128 * T + a) b := by
  unfold Sv.yg yg
  rw [α.yd_eq T a b hT ha, xs_eq, silu_eq]; rfl

theorem so_eq (T a b : ℕ) (hT : T < 64) (ha : a < 128) : (α.blk T).sv.out a b = α.so (128 * T + a) b := by
  unfold Sv.out so Sv.yn
  simp only [α.yg_eq T a _ hT ha, sigm_eq]; rfl

/-- What chunk `u` of sixty-four rows reads, with the state it finds. -/
def chk (u : ℕ) (s : ℕ → ℕ → ℕ → ℝ) : Gv where
  gl a j := α.sm (64 * u + a) (32 + j)
  gw := α.gw
  gb := α.gb
  q a b := α.P (64 * u + a) (5120 + b)
  k a b := α.P (64 * u + a) (14336 + b)
  v a b := α.P (64 * u + a) (6144 + b)
  r a b := α.P (64 * u + a) (8192 + b)
  mb a b := α.P (64 * u + a) (12288 + b)
  gn := α.gn
  s := s

theorem gv0_eq (T : ℕ) (s : ℕ → ℕ → ℕ → ℝ) : (α.blk T).gv 0 s = α.chk (2 * T) s := by
  have e : ∀ a, 128 * T + (0 + a) = 64 * (2 * T) + a := fun a => by omega
  unfold Bv.gv chk
  simp only [blk, blk0, e]

theorem gv1_eq (T : ℕ) (s : ℕ → ℕ → ℕ → ℝ) : (α.blk T).gv 64 s = α.chk (2 * T + 1) s := by
  have e : ∀ a, 128 * T + (64 + a) = 64 * (2 * T + 1) + a := fun a => by omega
  unfold Bv.gv chk
  simp only [blk, blk0, e]

theorem gk_eq (u : ℕ) (s : ℕ → ℕ → ℕ → ℝ) (a b : ℕ) : (α.chk u s).gk a b = α.gk (64 * u + a) b := by
  have e : (α.chk u s).x a b = α.gx (64 * u + a) b := rfl
  unfold Gv.gk gk
  rw [e, abs_neg, zero_sub, show max (-α.gx (64 * u + a) b) 0 = -min (α.gx (64 * u + a) b) 0 by rw [← max_neg_neg, neg_zero]]
  ring

theorem G_eq (u : ℕ) (s : ℕ → ℕ → ℕ → ℝ) (a b : ℕ) : (α.chk u s).G a b = α.W (64 * u + a + 1) b - α.W (64 * u) b := by
  unfold W Gv.G
  rw [add_assoc, Finset.sum_range_add _ (64 * u) (a + 1), add_sub_cancel_left]
  exact Finset.sum_congr rfl fun k _ => α.gk_eq u s k b

/-- The attention's state before chunk `u`. -/
def gsU (u h b c : ℕ) : ℝ := ∑ s ∈ Finset.range (64 * u), α.P s (6144 + (512 * h + b)) * (α.P s (14336 + (256 * h + c))
  * Real.exp (α.W (64 * u) (256 * h + c) - α.W (s + 1) (256 * h + c)))

theorem gsU_succ (u : ℕ) : (α.chk u (α.gsU u)).st = α.gsU (u + 1) := by
  funext h b c
  have es : (α.chk u (α.gsU u)).s h b c = α.gsU u h b c := rfl
  rw [Gv.st, es, gsU, gsU, Nat.mul_succ, Finset.sum_range_add, Finset.sum_mul]
  congr 1
  · refine Finset.sum_congr rfl fun s _ => ?_
    rw [G_eq, mul_assoc, mul_assoc (α.P _ _), ← Real.exp_add]
    congr 3; ring
  · refine Finset.sum_congr rfl fun k _ => ?_
    rw [G_eq, G_eq]
    show α.P _ _ * (α.P _ _ * _) = _
    congr 3; ring

theorem gs_eq (T : ℕ) : α.gsT T = α.gsU (2 * T) := by
  induction T with
  | zero => rfl
  | succ T ih =>
    have e : α.gsT (T + 1) = ((α.blk T).gv 64 ((α.blk T).gv 0 (α.gsT T)).st).st := rfl
    rw [e, ih, gv0_eq, gsU_succ, gv1_eq, gsU_succ]; rfl

theorem yh_eq (u h a b : ℕ) (hu : u < 128) (ha : a < 64) : (α.chk u (α.gsU u)).y h a b = α.yh h (64 * u + a) b := by
  unfold yh
  rw [sum_split ha (o := 64 * u) (by omega) _ (fun s hs => by rw [if_neg (by omega), mul_zero]), Gv.y, add_comm (∑ j ∈ Finset.range 64, _)]
  congr 1
  · have es : ∀ c, (α.chk u (α.gsU u)).s h b c = α.gsU u h b c := fun _ => rfl
    simp only [es, gsU, Finset.mul_sum]
    rw [Finset.sum_comm]
    refine Finset.sum_congr rfl fun s hs => ?_
    have hs := Finset.mem_range.1 hs
    rw [if_pos (by omega), gs, Finset.mul_sum]
    refine Finset.sum_congr rfl fun c _ => ?_
    rw [G_eq, Real.exp_sub, Real.exp_sub, Real.exp_neg]
    show α.P _ _ * _ * _ * _ = _
    have h1 := Real.exp_pos (α.W (64 * u) (256 * h + c))
    have h2 := Real.exp_pos (α.W (s + 1) (256 * h + c))
    field_simp
  · refine Finset.sum_congr rfl fun k _ => ?_
    have e : (α.chk u (α.gsU u)).sc h a k = α.gs h (64 * u + a) (64 * u + k) := by
      unfold Gv.sc gs
      refine Finset.sum_congr rfl fun c _ => ?_
      rw [G_eq, G_eq, G_eq, mul_mul_mul_comm, ← Real.exp_add, mul_mul_mul_comm (_ * _), ← Real.exp_add]
      show α.P _ _ * _ * α.P _ _ * _ = _
      congr 2; ring
    rw [e, mul_comm]
    show α.P _ _ * _ = _
    congr 1
    by_cases hk : k ≤ a
    · rw [if_pos hk, if_pos (by omega)]
    · rw [if_neg hk, if_neg (by omega)]

theorem go_eq (u a b : ℕ) (hu : u < 128) (ha : a < 64) : (α.chk u (α.gsU u)).out a b = α.go (64 * u + a) b := by
  unfold Gv.out go Gv.yn
  simp only [α.yh_eq u _ a _ hu ha, sigm_eq, silu_eq]
  exact mul_comm _ _

/-- Every block of the sweep is the block of the one formula. -/
theorem out_eq (T a b : ℕ) (hT : T < 64) (ha : a < 128) : (α.blk T).out a b = α.out (128 * T + a) b := by
  have e0 : (α.blk T).g0 = α.chk (2 * T) (α.gsU (2 * T)) := by
    show (α.blk T).gv 0 (α.gsT T) = _
    rw [gs_eq, gv0_eq]
  have e1 : (α.blk T).g1 = α.chk (2 * T + 1) (α.gsU (2 * T + 1)) := by
    unfold Bv.g1
    rw [e0, gsU_succ, gv1_eq]
  unfold Bv.out out
  rw [α.so_eq T a b hT ha, e0, e1]
  congr 1
  split
  · rw [α.go_eq _ a b (by omega) (by omega)]; congr 1; omega
  · rw [α.go_eq _ _ b (by omega) (by omega)]; congr 1; omega

end Args
end Mixer
-- ==== Proof.Mixer.Sweep.lean ====
module

public import proofs.«01_k».proof.Proof.Mixer.CaseA
public import proofs.«01_k».proof.Proof.Mixer.CaseB
public import proofs.«01_k».proof.Proof.Mixer.Global

@[expose] public section

set_option maxRecDepth 65536

noncomputable section

/-! What every grid point leaves, from what the first one starts with. -/

namespace Cert.KernelIdeal.Mixer
open Cert.KernelIdeal Cert.KernelIdeal.Gen
open Idealize.ShloMosaic Idealize.ShloMosaic.TcCoe Idealize.SL.Sem
open _root_.Mixer

variable (m : (ℓ : Loc nD τ sig) → Buf (Elt Ideal) ℓ) (c : Dev nD) (α : Args)

/-- The result's block, the two histories and the two states after point `n`. -/
structure Left (n : ℕ) (v : Vec Ideal S128x2048 .bf16 × Vec Ideal S136x2048 .f32 × Vec Ideal S136x1024 .f32 × Vec Ideal S4x128x512 .f32 × Vec Ideal S4x512x256 .f32) : Prop where
  out : R2 (φ := .bf16) v.1 (α.blk n).out
  hx : R2 (φ := .f32) v.2.1 (α.blk (n + 1)).hx
  hb : R2 (φ := .f32) v.2.2.1 (α.blk (n + 1)).hb
  ss : R3 (φ := .f32) v.2.2.2.1 (α.blk (n + 1)).ss
  gs : R3 (φ := .f32) v.2.2.2.2 (α.blk (n + 1)).gs

/-- The blocks a point reads hold what the arguments say. -/
def Reads (t : Fin cfg0.N) : Prop :=
  (α.blk t.val).Is (X0_0 m c t) (iblk m c 1 t) (X0_2 m c t) (X0_3 m c t) (iblk m c 4 t) (X0_5 m c t) (iblk m c 6 t) (X0_7 m c t) (iblk m c 8 t) (iblk m c 9 t) (iblk m c 10 t) (iblk m c 11 t) (iblk m c 12 t) (iblk m c 13 t) (iblk m c 14 t) (X0_15 m c t) (X0_16 m c t) (X0_17 m c t) (iblk m c 18 t) (iblk m c 19 t) (iblk m c 20 t) (iblk m c 21 t)

theorem left_of (n : ℕ) (o : Vec Ideal S128x2048 .bf16) (p : Vec Ideal S136x2048 .f32) (q : Vec Ideal S136x1024 .f32) (u : Vec Ideal S4x128x512 .f32) (v : Vec Ideal S4x512x256 .f32)
    (ho : R2 (φ := .bf16) o (α.blk n).out) (hp : R2 (φ := .f32) p (α.blk n).hx') (hq : R2 (φ := .f32) q (α.blk n).hb') (hu : R3 (φ := .f32) u (α.blk n).sv.st) (hv : R3 (φ := .f32) v (α.blk n).g1.st) :
    Left α n (o, p, q, u, v) := ⟨ho, hp, hq, hu, hv⟩

theorem step_A (t : Fin cfg0.N) (h : Reads m c α t) (ht : t.val = 0) (acc) : Left α t.val (stAt0 m c t.val t.isLt acc) := by
  unfold Reads at h
  rw [stAt0_A m c t acc (by rw [ht])]
  have h0 : ∀ a b, (α.blk t.val).hx a b = 0 := by rw [ht]; exact fun _ _ => rfl
  have h1 : ∀ a b, (α.blk t.val).hb a b = 0 := by rw [ht]; exact fun _ _ => rfl
  have h2 : ∀ a b d, (α.blk t.val).ss a b d = 0 := by rw [ht]; exact fun _ _ _ => rfl
  have h3 : ∀ a b d, (α.blk t.val).gs a b d = 0 := by rw [ht]; exact fun _ _ _ => rfl
  apply left_of
  exacts [A_out (h := h) (h0 := h0) (h1 := h1) (h2 := h2) (h3 := h3) .., A_sh0 (h := h) (h0 := h0) (h1 := h1) (h2 := h2) (h3 := h3) ..,
    A_sh1 (h := h) (h0 := h0) (h1 := h1) (h2 := h2) (h3 := h3) .., A_ss (h := h) (h0 := h0) (h1 := h1) (h2 := h2) (h3 := h3) ..,
    A_gs (h := h) (h0 := h0) (h1 := h1) (h2 := h2) (h3 := h3) ..]

theorem step_B (t : Fin cfg0.N) (h : Reads m c α t) (ht : ¬ t.val % 64 = 0) (acc) (h0 : R2 (φ := .f32) acc.2.1 (α.blk t.val).hx) (h1 : R2 (φ := .f32) acc.2.2.1 (α.blk t.val).hb)
    (h2 : R3 (φ := .f32) acc.2.2.2.1 (α.blk t.val).ss) (h3 : R3 (φ := .f32) acc.2.2.2.2 (α.blk t.val).gs) : Left α t.val (stAt0 m c t.val t.isLt acc) := by
  unfold Reads at h
  rw [stAt0_B m c t acc ht]
  apply left_of
  exacts [B_out (h := h) (h0 := h0) (h1 := h1) (h2 := h2) (h3 := h3) .., B_sh0 (h := h) (h0 := h0) (h1 := h1) (h2 := h2) (h3 := h3) ..,
    B_sh1 (h := h) (h0 := h0) (h1 := h1) (h2 := h2) (h3 := h3) .., B_ss (h := h) (h0 := h0) (h1 := h1) (h2 := h2) (h3 := h3) ..,
    B_gs (h := h) (h0 := h0) (h1 := h1) (h2 := h2) (h3 := h3) ..]

theorem sweep (h : ∀ t, Reads m c α t) : ∀ (n : ℕ) (hn : n < cfg0.N), Left α n (outsAt0 m c n hn)
  | 0, hn => by rw [outsAt0_zero]; exact step_A m c α ⟨0, hn⟩ (h _) rfl _
  | n + 1, hn => by
    have i := sweep h n (Nat.lt_of_succ_lt hn)
    rw [outsAt0_succ]
    exact step_B m c α ⟨n + 1, hn⟩ (h _) (by have hN : n + 1 < 64 := hn; show ¬ (n + 1) % 64 = 0; omega) _ i.hx i.hb i.ss i.gs

/-- An entry of the kernel's result. -/
theorem result (h : ∀ t, Reads m c α t) (t : Fin 8192) (b : Fin 2048) : (G22 m c : Vec Ideal S8192x2048 .bf16) (ix2 t b) = ((α.out t.val b.val : ℝ) : EReal) := by
  have ht := t.isLt
  have hb := b.isLt
  have hp : pt22Of (ix2 t b : S8192x2048.Idx) = t.val / 128 := by
    show 1 * (t.val / 128 - 0) + 1 * (b.val / 2048 - 0) = _
    omega
  have hn : pt22Of (ix2 t b : S8192x2048.Idx) < cfg0.N := by rw [hp]; show t.val / 128 < 64; omega
  unfold G22
  rw [dif_pos hn, ← outsAt0_sweep m c _ hn, (sweep m c α h _ hn).out.eq]
  refine congrArg _ ?_
  show (α.blk (pt22Of (ix2 t b : S8192x2048.Idx))).out (t.val % 128) (b.val % 2048) = _
  rw [hp, α.out_eq _ _ _ (by omega) (by omega), Nat.mod_eq_of_lt hb, Nat.div_add_mod]

end Cert.KernelIdeal.Mixer
-- ==== Proof.Mixer.Ref.lean ====
module

public import proofs.«01_k».proof.Proof.Mixer.Global
public import proofs.«01_k».proof.Proof.Gen.ReferenceIdeal.Run
public import Idealize.ShloMosaic.Lib.Pointwise
public import Idealize.ShloMosaic.Lib.StableHlo.Predicate

@[expose] public section

set_option maxRecDepth 16384

noncomputable section

/-! The mixer's reference, read entry by entry on arguments that hold real numbers. -/

namespace Mixer
open Idealize.ShloMosaic

/-- The arguments hold these real numbers. -/
structure Args.Is (α : Args) (x0 : Vec Ideal ⟨2, ![8192, 15360]⟩ .bf16) (x1 : Vec Ideal ⟨2, ![8192, 128]⟩ .f32) (x2 : Vec Ideal ⟨2, ![4, 3072]⟩ .f32)
    (x3 : Vec Ideal ⟨1, ![3072]⟩ .f32) (x4 x5 x6 : Vec Ideal ⟨1, ![32]⟩ .f32) (x7 : Vec Ideal ⟨1, ![2048]⟩ .f32) (x8 : Vec Ideal ⟨2, ![16, 1024]⟩ .f32)
    (x9 : Vec Ideal ⟨1, ![1024]⟩ .f32) (x10 : Vec Ideal ⟨1, ![512]⟩ .f32) : Prop where
  P : ∀ (t : Fin 8192) (b : Fin 15360), x0 (ix2 t b) = ((α.P t.val b.val : ℝ) : EReal)
  sm : ∀ (t : Fin 8192) (b : Fin 128), x1 (ix2 t b) = ((α.sm t.val b.val : ℝ) : EReal)
  cw : ∀ (t : Fin 4) (b : Fin 3072), x2 (ix2 t b) = ((α.cw t.val b.val : ℝ) : EReal)
  cb : ∀ (b : Fin 3072), x3 (ix1 b) = ((α.cb b.val : ℝ) : EReal)
  dtb : ∀ (b : Fin 32), x4 (ix1 b) = ((α.dtb b.val : ℝ) : EReal)
  al : ∀ (b : Fin 32), x5 (ix1 b) = ((α.al b.val : ℝ) : EReal)
  ds : ∀ (b : Fin 32), x6 (ix1 b) = ((α.ds b.val : ℝ) : EReal)
  ng : ∀ (b : Fin 2048), x7 (ix1 b) = ((α.ng b.val : ℝ) : EReal)
  gw : ∀ (t : Fin 16) (b : Fin 1024), x8 (ix2 t b) = ((α.gw t.val b.val : ℝ) : EReal)
  gb : ∀ (b : Fin 1024), x9 (ix1 b) = ((α.gb b.val : ℝ) : EReal)
  gn : ∀ (b : Fin 512), x10 (ix1 b) = ((α.gn b.val : ℝ) : EReal)

theorem foldl_coe {ι : Type} (l : List ι) (g : ι → EReal) (f : ι → ℝ) (hg : ∀ a, g a = ((f a : ℝ) : EReal)) (z : ℝ) :
    l.foldl (fun r a => r + g a) (z : EReal) = ((z + (l.map f).sum : ℝ) : EReal) := by
  induction l generalizing z with
  | nil => simp
  | cons a l ih => rw [List.foldl_cons, hg a, ← EReal.coe_add, ih, List.map_cons, List.sum_cons, add_assoc]

theorem sum_finRange (M : ℕ) (F : ℕ → ℝ) : ((List.finRange M).map fun n => F n.val).sum = ∑ i ∈ Finset.range M, F i := by
  rw [← Fin.sum_univ_eq_sum_range, Fin.sum_univ_def]

theorem sum_window {R Rm1 j : ℕ} (hR : Rm1 + 1 = R) (hj : j < R) (F : ℕ → ℝ) :
    ∑ w ∈ Finset.range R, (if Rm1 ≤ j + w then F (j + w - Rm1) else 0) = ∑ i ∈ Finset.range (j + 1), F i := by
  obtain ⟨d, rfl⟩ : ∃ d, Rm1 = j + d := ⟨Rm1 - j, by omega⟩
  rw [← hR, show j + d + 1 = d + (j + 1) by omega, Finset.sum_range_add, Finset.sum_eq_zero fun w hw => if_neg (by have := Finset.mem_range.1 hw; omega), zero_add]
  exact Finset.sum_congr rfl fun w _ => by rw [if_pos (by omega)]; congr 1; omega

/-- A running sum down the rows of a matrix. -/
theorem cumsum2 {R Rm1 C : ℕ} (hR : Rm1 + 1 = R) (x : FVec Ideal ⟨2, ![R, C]⟩ .f32) (f : ℕ → ℕ → ℝ)
    (hx : ∀ (i : Fin R) (c : Fin C), x (ix2 i c) = ((f i.val c.val : ℝ) : EReal)) (init : FVec Ideal ⟨0, ![]⟩ .f32) (hi : ∀ i, init i = ((0 : ℝ) : EReal))
    (h : (⟨2, ![R, C]⟩ : Shape).ReduceWindows (![R, 1] : Fin 2 → ℕ) ![1, 1] ![Rm1, 0] ![0, 0] ⟨2, ![R, C]⟩) (hu : 0 < (⟨0, ![]⟩ : Shape).numel) (j : Fin R) (c : Fin C) :
    Host.reduceWindowAdd ![R, 1] ![1, 1] ![Rm1, 0] ![0, 0] x init h hu (ix2 j c) = ((∑ i ∈ Finset.range (j.val + 1), f i c.val : ℝ) : EReal) := by
  show Host.reduceWindow (fun a b : EReal => a + b) (s := ⟨2, ![R, C]⟩) ![R, 1] ![1, 1] ![Rm1, 0] ![0, 0] x (fun _ : (⟨0, ![]⟩ : Shape).Idx => init (Shape.Idx.first hu)) h hu (ix2 j c) = _
  have hj := j.isLt
  have hc := c.isLt
  unfold Host.reduceWindow
  rw [hi]
  refine (foldl_coe _ _ (fun n => (fun w => if Rm1 ≤ j.val + w then f (j.val + w - Rm1) c.val else 0) n.val) (fun n => ?_) 0).trans ?_
  · have hr : n.val = ((⟨2, ![R, 1]⟩ : Shape).rowMajor.symm n 0).val * 1 + ((⟨2, ![R, 1]⟩ : Shape).rowMajor.symm n 1).val := by
      have e := Shape.rowMajor_val_two ((⟨2, ![R, 1]⟩ : Shape).rowMajor.symm n)
      rw [Equiv.apply_symm_apply] at e
      exact e
    have hw1 : ((⟨2, ![R, 1]⟩ : Shape).rowMajor.symm n 1).val = 0 := Nat.lt_one_iff.1 ((⟨2, ![R, 1]⟩ : Shape).rowMajor.symm n 1).isLt
    have hw0 : ((⟨2, ![R, 1]⟩ : Shape).rowMajor.symm n 0).val = n.val := by omega
    have hn : n.val < R := hw0 ▸ ((⟨2, ![R, 1]⟩ : Shape).rowMajor.symm n 0).isLt
    dsimp only
    split
    · next hin =>
      have h0 := hin 0
      change Rm1 ≤ j.val * 1 + ((⟨2, ![R, 1]⟩ : Shape).rowMajor.symm n 0).val
        ∧ j.val * 1 + ((⟨2, ![R, 1]⟩ : Shape).rowMajor.symm n 0).val - Rm1 < R at h0
      rw [hw0] at h0
      rw [if_pos (by omega)]
      refine (congrArg x (funext fun a => Fin.ext ?_)).trans (hx ⟨j.val + n.val - Rm1, by omega⟩ c)
      match a with
      | ⟨0, _⟩ =>
        show j.val * 1 + ((⟨2, ![R, 1]⟩ : Shape).rowMajor.symm n 0).val - Rm1 = j.val + n.val - Rm1
        rw [hw0, Nat.mul_one]
      | ⟨1, _⟩ =>
        show c.val * 1 + ((⟨2, ![R, 1]⟩ : Shape).rowMajor.symm n 1).val - 0 = c.val
        rw [hw1]
        omega
    · next hin =>
      rw [if_neg fun hle => hin fun a => by
        match a with
        | ⟨0, _⟩ =>
          show Rm1 ≤ j.val * 1 + ((⟨2, ![R, 1]⟩ : Shape).rowMajor.symm n 0).val
            ∧ j.val * 1 + ((⟨2, ![R, 1]⟩ : Shape).rowMajor.symm n 0).val - Rm1 < R
          rw [hw0]
          omega
        | ⟨1, _⟩ =>
          show 0 ≤ c.val * 1 + ((⟨2, ![R, 1]⟩ : Shape).rowMajor.symm n 1).val ∧ c.val * 1 + ((⟨2, ![R, 1]⟩ : Shape).rowMajor.symm n 1).val - 0 < C
          rw [hw1]
          omega]
  · rw [zero_add, sum_finRange _ (fun w => if Rm1 ≤ j.val + w then f (j.val + w - Rm1) c.val else 0), ← sum_window hR hj (fun i => f i c.val)]
    congr 3
    simp [Shape.numel]

/-- A running sum down the rows of a table of three axes. -/
theorem cumsum3 {R Rm1 C D : ℕ} (hR : Rm1 + 1 = R) (x : FVec Ideal ⟨3, ![R, C, D]⟩ .f32) (f : ℕ → ℕ → ℕ → ℝ)
    (hx : ∀ (i : Fin R) (c : Fin C) (d : Fin D), x (ix3 i c d) = ((f i.val c.val d.val : ℝ) : EReal)) (init : FVec Ideal ⟨0, ![]⟩ .f32) (hi : ∀ i, init i = ((0 : ℝ) : EReal))
    (h : (⟨3, ![R, C, D]⟩ : Shape).ReduceWindows (![R, 1, 1] : Fin 3 → ℕ) ![1, 1, 1] ![Rm1, 0, 0] ![0, 0, 0] ⟨3, ![R, C, D]⟩) (hu : 0 < (⟨0, ![]⟩ : Shape).numel)
    (j : Fin R) (c : Fin C) (d : Fin D) :
    Host.reduceWindowAdd ![R, 1, 1] ![1, 1, 1] ![Rm1, 0, 0] ![0, 0, 0] x init h hu (ix3 j c d) = ((∑ i ∈ Finset.range (j.val + 1), f i c.val d.val : ℝ) : EReal) := by
  show Host.reduceWindow (fun a b : EReal => a + b) (s := ⟨3, ![R, C, D]⟩) ![R, 1, 1] ![1, 1, 1] ![Rm1, 0, 0] ![0, 0, 0] x (fun _ : (⟨0, ![]⟩ : Shape).Idx => init (Shape.Idx.first hu)) h hu (ix3 j c d) = _
  have hj := j.isLt
  have hc := c.isLt
  have hd := d.isLt
  unfold Host.reduceWindow
  rw [hi]
  refine (foldl_coe _ _ (fun n => (fun w => if Rm1 ≤ j.val + w then f (j.val + w - Rm1) c.val d.val else 0) n.val) (fun n => ?_) 0).trans ?_
  · have hr : n.val = (((⟨3, ![R, 1, 1]⟩ : Shape).rowMajor.symm n 0).val * 1 + ((⟨3, ![R, 1, 1]⟩ : Shape).rowMajor.symm n 1).val) * 1
        + ((⟨3, ![R, 1, 1]⟩ : Shape).rowMajor.symm n 2).val := by
      have e := Shape.rowMajor_val_three ((⟨3, ![R, 1, 1]⟩ : Shape).rowMajor.symm n)
      rw [Equiv.apply_symm_apply] at e
      exact e
    have hw1 : ((⟨3, ![R, 1, 1]⟩ : Shape).rowMajor.symm n 1).val = 0 := Nat.lt_one_iff.1 ((⟨3, ![R, 1, 1]⟩ : Shape).rowMajor.symm n 1).isLt
    have hw2 : ((⟨3, ![R, 1, 1]⟩ : Shape).rowMajor.symm n 2).val = 0 := Nat.lt_one_iff.1 ((⟨3, ![R, 1, 1]⟩ : Shape).rowMajor.symm n 2).isLt
    have hw0 : ((⟨3, ![R, 1, 1]⟩ : Shape).rowMajor.symm n 0).val = n.val := by omega
    have hn : n.val < R := hw0 ▸ ((⟨3, ![R, 1, 1]⟩ : Shape).rowMajor.symm n 0).isLt
    dsimp only
    split
    · next hin =>
      have h0 := hin 0
      change Rm1 ≤ j.val * 1 + ((⟨3, ![R, 1, 1]⟩ : Shape).rowMajor.symm n 0).val
        ∧ j.val * 1 + ((⟨3, ![R, 1, 1]⟩ : Shape).rowMajor.symm n 0).val - Rm1 < R at h0
      rw [hw0] at h0
      rw [if_pos (by omega)]
      refine (congrArg x (funext fun a => Fin.ext ?_)).trans (hx ⟨j.val + n.val - Rm1, by omega⟩ c d)
      match a with
      | ⟨0, _⟩ =>
        show j.val * 1 + ((⟨3, ![R, 1, 1]⟩ : Shape).rowMajor.symm n 0).val - Rm1 = j.val + n.val - Rm1
        rw [hw0, Nat.mul_one]
      | ⟨1, _⟩ =>
        show c.val * 1 + ((⟨3, ![R, 1, 1]⟩ : Shape).rowMajor.symm n 1).val - 0 = c.val
        rw [hw1]
        omega
      | ⟨2, _⟩ =>
        show d.val * 1 + ((⟨3, ![R, 1, 1]⟩ : Shape).rowMajor.symm n 2).val - 0 = d.val
        rw [hw2]
        omega
    · next hin =>
      rw [if_neg fun hle => hin fun a => by
        match a with
        | ⟨0, _⟩ =>
          show Rm1 ≤ j.val * 1 + ((⟨3, ![R, 1, 1]⟩ : Shape).rowMajor.symm n 0).val
            ∧ j.val * 1 + ((⟨3, ![R, 1, 1]⟩ : Shape).rowMajor.symm n 0).val - Rm1 < R
          rw [hw0]
          omega
        | ⟨1, _⟩ =>
          show 0 ≤ c.val * 1 + ((⟨3, ![R, 1, 1]⟩ : Shape).rowMajor.symm n 1).val ∧ c.val * 1 + ((⟨3, ![R, 1, 1]⟩ : Shape).rowMajor.symm n 1).val - 0 < C
          rw [hw1]
          omega
        | ⟨2, _⟩ =>
          show 0 ≤ d.val * 1 + ((⟨3, ![R, 1, 1]⟩ : Shape).rowMajor.symm n 2).val ∧ d.val * 1 + ((⟨3, ![R, 1, 1]⟩ : Shape).rowMajor.symm n 2).val - 0 < D
          rw [hw2]
          omega]
  · rw [zero_add, sum_finRange _ (fun w => if Rm1 ≤ j.val + w then f (j.val + w - Rm1) c.val d.val else 0), ← sum_window hR hj (fun i => f i c.val d.val)]
    congr 3
    simp [Shape.numel, Fin.prod_univ_three]

theorem coe_lgs (x : ℝ) : Ideal.div 1 (1 + Ideal.exp (-(x : EReal))) = ((lgs x : ℝ) : EReal) := by
  have h : (1 + Real.exp (-x)) ≠ 0 := by have := Real.exp_pos (-x); positivity
  rw [← EReal.coe_neg, Ideal.exp_coe, ← EReal.coe_one, ← EReal.coe_add, Ideal.div_coe h, ← EReal.coe_mul, one_mul]; rfl

theorem coe_max0 (x : ℝ) : max (x : EReal) 0 = ((max x 0 : ℝ) : EReal) := by
  rw [← EReal.coe_zero]; exact (EReal.coe_strictMono.monotone.map_max).symm

/-- The softplus, as it prints. -/
theorem coe_softplus (x : ℝ) : (if (x : EReal) ≠ (x : EReal) then (x : EReal) else max (x : EReal) 0 + Ideal.log1p (Ideal.exp (-FloatOps.absf (F := Ideal) (φ := .f32) (x : EReal))))
    = ((max x 0 + Real.log (1 + Real.exp (-|x|)) : ℝ) : EReal) := by
  have h : ¬ (1 + Real.exp (-|x|)) ≤ 0 := by have := Real.exp_pos (-|x|); linarith
  have ea : FloatOps.absf (F := Ideal) (φ := .f32) (x : EReal) = ((|x| : ℝ) : EReal) := by
    show max (x : EReal) (-(x : EReal)) = _
    rw [← EReal.coe_neg, abs_eq_max_neg]; exact (EReal.coe_strictMono.monotone.map_max).symm
  have el : Ideal.log1p (Ideal.exp (-FloatOps.absf (F := Ideal) (φ := .f32) (x : EReal))) = ((Real.log (1 + Real.exp (-|x|)) : ℝ) : EReal) := by
    rw [ea, ← EReal.coe_neg, Ideal.exp_coe]
    show Ideal.log (1 + _) = _
    rw [← EReal.coe_one, ← EReal.coe_add, Ideal.log_coe, if_neg h]
  rw [if_neg (not_not.2 rfl), coe_max0, el, ← EReal.coe_add]

theorem mask (t x : Fin 8192) {A : Type} (a b : A) :
    Scalar.select (Scalar.select (IntOp.cmpi .sge (IntOp.addi (BitVec.ofNat 32 t.val) 0#32) (BitVec.ofNat 32 x.val)) (1#1) (0#1)) a b = if x.val ≤ t.val then a else b := by
  have ht := t.isLt
  have hx := x.isLt
  have e : IntOp.cmpi .sge (IntOp.addi (BitVec.ofNat 32 t.val) 0#32) (BitVec.ofNat 32 x.val) = if x.val ≤ t.val then 1#1 else 0#1 := by
    rw [show IntOp.addi (BitVec.ofNat 32 t.val) 0#32 = BitVec.ofNat 32 t.val from BitVec.add_zero _,
      show IntOp.cmpi .sge (BitVec.ofNat 32 t.val) (BitVec.ofNat 32 x.val) = BitVec.ofBool (decide (x.val ≤ t.val)) from ?_]
    · split <;> simp [*]
    · have k := ofNat_sge (a := t.val) (b := x.val) (by norm_num; omega) (by norm_num; omega)
      by_cases hc : x.val ≤ t.val
      · rw [k.2 hc]; simp [hc]
      · have e2 : IntOp.cmpi .sge (BitVec.ofNat 32 t.val) (BitVec.ofNat 32 x.val) ≠ 1#1 := fun z => hc (k.1 z)
        simp only [IntOp.cmpi] at e2 ⊢
        rw [Ne, ofBool_one_iff, Bool.not_eq_true] at e2
        rw [e2]; simp [hc]
  rw [e]
  split <;> rfl

theorem rms (f : ℕ → ℝ) : Ideal.rsqrt (Ideal.div (∑ k : Fin 512, (f k.val : EReal) * (f k.val : EReal)) (Ideal.ofBits .f32 0x44000000#32) + Ideal.ofBits .f32 0x358637BD#32)
    = (((Real.sqrt ((∑ c ∈ Finset.range 512, f c * f c) / 512 + eps))⁻¹ : ℝ) : EReal) := by
  have hp : 0 < (∑ c ∈ Finset.range 512, f c * f c) * (1 / 512 : ℝ) + eps :=
    add_pos_of_nonneg_of_pos (mul_nonneg (Finset.sum_nonneg fun c _ => mul_self_nonneg _) (by norm_num)) eps_pos
  simp only [← EReal.coe_mul]
  rw [coe_sum_fin 512 (fun c => f c * f c), ofBits_512, ofBits_eps, Ideal.div_coe (by norm_num), ← EReal.coe_mul, ← EReal.coe_add, Ideal.rsqrt_coe,
    if_neg (not_lt.mpr hp.le), if_neg hp.ne', div_eq_mul_one_div (∑ c ∈ Finset.range 512, f c * f c)]

end Mixer

namespace Cert.ReferenceIdeal.Mixer

open Cert.ReferenceIdeal Cert.ReferenceIdeal.Gen Cert.ReferenceIdeal.Value
open Idealize.ShloMosaic Idealize.ShloMosaic.TcCoe Idealize.SL.Sem
open _root_.Mixer

/-- What the reference leaves. -/
def refOut (V0 : Valuation τ sig (Elt Ideal)) : (Proc.devRef .tc main_v171 : DevRef τ sig).ty.Contents (Elt Ideal) :=
  truncf .bf16 (addf (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extf .f32 (extractStridedSlice S8192x2048 ![0, 10240] (V0 (Proc.devRef .tc main_arg0)) slices_S8192x15360_S8192x2048_0_10240) bitsLt_bf16_f32))))) (mulf (shapeCast _ (mulf (res_main_v99 V0) (broadcastInDim S8192x4x512 ![0, 1, 2] bcast_S8192x4x1_S8192x4x512_0_1_2 (Host.rsqrt (addf (Host.divf (broadcastInDim S8192x4x1 ![0, 1] bcast_S8192x4_S8192x4x1_0_1 (Host.reduceAdd (mulf (res_main_v99 V0) (res_main_v99 V0)) (constant S_ .f32 0x00000000#32) reducesTo_S8192x4x512_S8192x4_d2 h_S_)) (broadcastInDim S8192x4x1 ![] bcast_S_S8192x4x1 (constant S_ .f32 0x44000000#32))) (broadcastInDim S8192x4x1 ![] bcast_S_S8192x4x1 (constant S_ .f32 0x358637BD#32)))))) shapeCasts_S8192x4x512_S8192x2048) (broadcastInDim S8192x2048 ![0, 1] bcast_S1x2048_S8192x2048_0_1 (broadcastInDim S1x2048 ![1] bcast_S2048_S1x2048_1 (V0 (Proc.devRef .tc main_arg7)))))) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extf .f32 (extractStridedSlice S8192x2048 ![0, 12288] (V0 (Proc.devRef .tc main_arg0)) slices_S8192x15360_S8192x2048_0_12288) bitsLt_bf16_f32))))) (shapeCast _ (mulf (mulf (mulf (res_main_v138 V0) (broadcastInDim S8192x4x512 ![0, 1, 2] bcast_S8192x4x1_S8192x4x512_0_1_2 (Host.rsqrt (addf (Host.divf (broadcastInDim S8192x4x1 ![0, 1] bcast_S8192x4_S8192x4x1_0_1 (Host.reduceAdd (mulf (res_main_v138 V0) (res_main_v138 V0)) (constant S_ .f32 0x00000000#32) reducesTo_S8192x4x512_S8192x4_d2 h_S_)) (broadcastInDim S8192x4x1 ![] bcast_S_S8192x4x1 (constant S_ .f32 0x44000000#32))) (broadcastInDim S8192x4x1 ![] bcast_S_S8192x4x1 (constant S_ .f32 0x358637BD#32)))))) (broadcastInDim S8192x4x512 ![0, 1, 2] bcast_S1x1x512_S8192x4x512_0_1_2 (broadcastInDim S1x1x512 ![2] bcast_S512_S1x1x512_2 (V0 (Proc.devRef .tc main_arg10))))) (mulf (res_main_v152 V0) (Host.divf (broadcastInDim S8192x4x512 ![] bcast_S_S8192x4x512 (constant S_ .f32 0x3F800000#32)) (addf (broadcastInDim S8192x4x512 ![] bcast_S_S8192x4x512 (constant S_ .f32 0x3F800000#32)) (Host.exp (Host.negf (res_main_v152 V0))))))) shapeCasts_S8192x4x512_S8192x2048))) bitsLt_bf16_f32

variable (α : Args) (V0 : Valuation τ sig (Elt Ideal))
  (h : α.Is (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)))

include h
theorem v1 (t : Fin 8192) (b : Fin 2048) : res_main_v1 V0 (ix2 t b) = ((α.P t.val b.val : ℝ) : EReal) := by
  unfold res_main_v1; pointwise
  exact h.P _ _
theorem v18 (t : Fin 8195) (b : Fin 3072) : res_main_v18 V0 (ix2 t b) = ((α.pd t.val b.val : ℝ) : EReal) := by
  unfold res_main_v18; pointwise
  have hb := b.isLt
  unfold Args.pd
  by_cases hc : 3 ≤ t.val ∧ t.val - 3 < 8192
  · rw [dif_pos hc]; rw [if_pos hc.1]; exact h.P _ _
  · rw [dif_neg hc, if_neg fun e => hc ⟨e, by have := t.isLt; omega⟩]; simp [FloatOps.sitofp]
theorem v50 (t : Fin 8192) (b : Fin 3072) : res_main_v50 V0 (ix2 t b) = ((α.cv t.val b.val : ℝ) : EReal) := by
  unfold res_main_v50; pointwise
  simp only [v18 α V0 h]
  rw [h.cw 0 b, h.cw 1 b, h.cw 2 b, h.cw 3 b, h.cb]
  simp only [← EReal.coe_mul, ← EReal.coe_add]
  refine congrArg _ ?_
  unfold Args.cv
  simp only [Nat.add_comm t.val]
  rfl
theorem v51 (t : Fin 8192) (b : Fin 3072) : res_main_v51 V0 (ix2 t b) = ((α.xc t.val b.val : ℝ) : EReal) := by
  unfold res_main_v51; pointwise
  rw [v50 α V0 h, coe_lgs, ← EReal.coe_mul]; rfl
theorem v55 (t : Fin 8192) (b : Fin 32) : res_main_v55 V0 (ix2 t b) = ((α.dt t.val b.val : ℝ) : EReal) := by
  unfold res_main_v55 res_main_call2_v3 res_main_v54 res_main_call2_cst; pointwise
  rw [h.sm, h.dtb, ← EReal.coe_add]
  exact coe_softplus _
theorem v59 (t : Fin 8192) (i : Fin 32) (d : Fin 64) : res_main_v59 V0 (ix3 t i d) = ((α.xc t.val (i.val * 64 + d.val) : ℝ) : EReal) := by
  unfold res_main_v59; pointwise
  exact v51 α V0 h _ _
theorem v71 (t : Fin 8192) (i : Fin 32) : res_main_v71 V0 (ix2 t i) = ((α.S (t.val + 1) i.val : ℝ) : EReal) := by
  unfold res_main_v71
  refine cumsum2 (by rfl) _ (fun t i => α.dt t i * -Real.exp (α.al i)) (fun t i => ?_) _ (fun i => ?_) _ _ t i
  · pointwise
    rw [v55 α V0 h, h.al, Ideal.exp_coe, ← EReal.coe_neg, ← EReal.coe_mul]
  · pointwise; rfl
theorem call7 (t : Fin 8192) (b : Fin 1024) : res_main_call7_v0 V0 (ix2 t b) = ((-α.gx t.val b.val : ℝ) : EReal) := by
  unfold res_main_call7_v0; pointwise
  simp only [h.sm, h.gw, h.gb, ← EReal.coe_mul]
  rw [coe_sum_fin 16 (fun j => α.sm t.val (32 + j) * α.gw j b.val), ← EReal.coe_add, ← EReal.coe_neg]; rfl
theorem v125 (t : Fin 8192) (i : Fin 4) (d : Fin 256) : res_main_v125 V0 (ix3 t i d) = ((α.W (t.val + 1) (256 * i.val + d.val) : ℝ) : EReal) := by
  unfold res_main_v125
  refine cumsum3 (by rfl) _ (fun t i d => α.gk t (256 * i + d)) (fun t i d => ?_) _ (fun i => ?_) _ _ t i d
  · unfold res_main_call7_call0_v3 res_main_call7_call0_cst; pointwise
    simp only [call7 α V0 h]
    rw [coe_softplus, ofBits_16, ← EReal.coe_neg, Ideal.div_coe (by norm_num), ← EReal.coe_mul, Nat.mul_comm i.val]
    exact congrArg _ (by unfold Args.gk; ring)
  · pointwise; rfl
theorem v138 (t : Fin 8192) (i : Fin 4) (d : Fin 512) : res_main_v138 V0 (ix3 t i d) = ((α.yh i.val t.val d.val : ℝ) : EReal) := by
  unfold res_main_v138; pointwise
  simp only [v125 α V0 h, mask, h.P, ofBits_sixteenth, ← EReal.coe_neg, Ideal.exp_coe, ← EReal.coe_mul, Nat.mul_comm _ 256, Nat.mul_comm _ 512]
  have e (x : Fin 8192) : (if x.val ≤ t.val then ∑ k : Fin 256, ((α.P t.val (5120 + (256 * i.val + k.val)) * (1 / 16) * Real.exp (α.W (t.val + 1) (256 * i.val + k.val))
      * (α.P x.val (14336 + (256 * i.val + k.val)) * Real.exp (-α.W (x.val + 1) (256 * i.val + k.val))) : ℝ) : EReal)
      else id (constant (F := Ideal) S_ .f32 0#32) ix0) = ((if x.val ≤ t.val then α.gs i.val t.val x.val else 0 : ℝ) : EReal) := by
    split
    · exact coe_sum_fin 256 (fun c => α.P t.val (5120 + (256 * i.val + c)) * (1 / 16) * Real.exp (α.W (t.val + 1) (256 * i.val + c))
        * (α.P x.val (14336 + (256 * i.val + c)) * Real.exp (-α.W (x.val + 1) (256 * i.val + c))))
    · exact Ideal.ofBits_zero_f32.trans EReal.coe_zero.symm
  simp only [e, ← EReal.coe_mul]
  exact coe_sum_fin 8192 (fun s => α.P s (6144 + (512 * i.val + d.val)) * (if s ≤ t.val then α.gs i.val t.val s else 0))
theorem v152 (t : Fin 8192) (i : Fin 4) (d : Fin 512) : res_main_v152 V0 (ix3 t i d) = ((α.P t.val (8192 + (512 * i.val + d.val)) : ℝ) : EReal) := by
  unfold res_main_v152; pointwise
  rw [h.P]
  simp only [Nat.mul_comm]
theorem v99 (t : Fin 8192) (i : Fin 4) (d : Fin 512) : res_main_v99 V0 (ix3 t i d) = ((α.yg t.val (512 * i.val + d.val) : ℝ) : EReal) := by
  unfold res_main_v99; pointwise
  simp only [v1 α V0 h, coe_lgs, v59 α V0 h, v55 α V0 h, v51 α V0 h, v71 α V0 h, mask, h.ds]
  have hd := d.isLt
  have hi := i.isLt
  have e1 : i.val * 8 + (i.val * 512 + d.val) / 64 % 8 = (512 * i.val + d.val) / 64 := by omega
  have e2 : (512 * i.val + d.val) / 64 * 64 + (512 * i.val + d.val) % 64 = 512 * i.val + d.val := by omega
  have e3 : i.val * 512 + d.val = 512 * i.val + d.val := by omega
  have e (x : Fin 8192) (a b : ℝ) : Ideal.exp (if x.val ≤ t.val then (a : EReal) - b else id (constant (F := Ideal) S_ .f32 4286578688#32) ix0)
      = ((if x.val ≤ t.val then Real.exp (a - b) else 0 : ℝ) : EReal) := by
    split
    · rw [← EReal.coe_sub, Ideal.exp_coe]
    · exact (congrArg Ideal.exp ofBits_ninf).trans (Ideal.exp_bot.trans EReal.coe_zero.symm)
  rw [e1]
  simp only [e, e3, ← EReal.coe_mul]
  simp only [e2]
  have hc (x : Fin 8192) : ∑ n : Fin 128, ((α.xc x.val (2048 + (i.val * 128 + n.val)) * α.xc t.val (2560 + (i.val * 128 + n.val)) : ℝ) : EReal)
      = ((α.cbg ((512 * i.val + d.val) / 512) t.val x.val : ℝ) : EReal) := by
    rw [coe_sum_fin 128 (fun n => α.xc x.val (2048 + (i.val * 128 + n)) * α.xc t.val (2560 + (i.val * 128 + n)))]
    unfold Args.cbg
    rw [show (512 * i.val + d.val) / 512 = i.val by omega]
    simp only [Nat.mul_comm 128, Nat.add_assoc]
  simp only [hc, ← EReal.coe_mul]
  rw [coe_sum_fin 8192 (fun s => α.xc s (512 * i.val + d.val) * α.dt s ((512 * i.val + d.val) / 64) * (α.cbg ((512 * i.val + d.val) / 512) t.val s
    * (if s ≤ t.val then Real.exp (α.S (t.val + 1) ((512 * i.val + d.val) / 64) - α.S (s + 1) ((512 * i.val + d.val) / 64)) else 0)))]
  simp only [← EReal.coe_add, ← EReal.coe_mul]
  rfl
theorem final (t : Fin 8192) (b : Fin 2048) : refOut V0 (ix2 t b) = ((α.out t.val b.val : ℝ) : EReal) := by
  unfold refOut; pointwise
  simp only [v99 α V0 h, v138 α V0 h, v152 α V0 h, coe_lgs, h.P, h.ng, h.gn, rms (fun c => α.yg t.val (512 * (b.val / 512) + c)), rms (fun c => α.yh (b.val / 512) t.val c)]
  simp only [← EReal.coe_mul, ← EReal.coe_add]
  refine congrArg _ ?_
  unfold Args.out Args.so Args.go
  rw [Nat.div_add_mod b.val 512]
end Cert.ReferenceIdeal.Mixer
-- ==== Proof.Mixer.Host.lean ====
module

public import proofs.«01_k».proof.Proof.Mixer.Sweep
public import proofs.«01_k».proof.Proof.Mixer.Ref

@[expose] public section

set_option maxRecDepth 65536

noncomputable section

/-! What the kernel's blocks hold of its arguments. -/

namespace Cert.KernelIdeal.Mixer
open Cert.KernelIdeal Cert.KernelIdeal.Gen
open Idealize.ShloMosaic Idealize.ShloMosaic.TcCoe Idealize.SL.Sem
open _root_.Mixer

/-- Where each window's block lies at a point. -/
theorem place : ∀ t : Fin cfg0.N,
    (win0_0.index t (0 : Fin 2) = t.val ∧ win0_0.index t (1 : Fin 2) = 1)
    ∧ (win0_1.index t (0 : Fin 2) = t.val ∧ win0_1.index t (1 : Fin 2) = 4)
    ∧ (win0_2.index t (0 : Fin 2) = t.val ∧ win0_2.index t (1 : Fin 2) = 0)
    ∧ (win0_3.index t (0 : Fin 2) = t.val ∧ win0_3.index t (1 : Fin 2) = 5)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 2)
    ∧ (win0_7.index t (0 : Fin 2) = 0 ∧ win0_7.index t (1 : Fin 2) = 0)
    ∧ (win0_8.index t (0 : Fin 2) = 0 ∧ win0_8.index t (1 : Fin 2) = 2)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = t.val ∧ win0_13.index t (1 : Fin 2) = 5)
    ∧ (win0_14.index t (0 : Fin 2) = t.val ∧ win0_14.index t (1 : Fin 2) = 14)
    ∧ (win0_15.index t (0 : Fin 2) = t.val ∧ win0_15.index t (1 : Fin 2) = 3)
    ∧ (win0_16.index t (0 : Fin 2) = t.val ∧ win0_16.index t (1 : Fin 2) = 4)
    ∧ (win0_17.index t (0 : Fin 2) = t.val ∧ win0_17.index t (1 : Fin 2) = 6)
    ∧ (win0_18.index t (0 : Fin 2) = t.val ∧ win0_18.index t (1 : Fin 2) = 0)
    ∧ (win0_19.index t (0 : Fin 2) = 0 ∧ win0_19.index t (1 : Fin 2) = 0)
    ∧ (win0_20.index t (0 : Fin 2) = 0 ∧ win0_20.index t (1 : Fin 2) = 0)
    ∧ (win0_21.index t (0 : Fin 2) = 0 ∧ win0_21.index t (1 : Fin 2) = 0) :=
  (by decide +kernel : ∀ t : Fin grid0.N, _)

variable (m : (ℓ : Loc nD τ sig) → Buf (Elt Ideal) ℓ) (c : Dev nD) (α : Args)

theorem host_main_v3 (h : ∀ b : Fin 3072, (m ((c : Thread nD τ).loc main_arg3) : Vec Ideal S3072 .f32) (ix1 b) = ((α.cb b.val : ℝ) : EReal)) (a : Fin 1) (b : Fin 3072) :
    (V m c main_v3 : Vec Ideal S1x3072 .f32) (ix2 a b) = ((α.cb b.val : ℝ) : EReal) := by
  have e : V m c main_v3 = shapeCast S1x3072 (m ((c : Thread nD τ).loc main_arg3) : Vec Ideal S3072 .f32) shapeCasts_S3072_S1x3072 := by
    show StableHlo.after hostOps0 _ _ = _
    after_results
    rfl
  rw [e]; pointwise
  rw [h]
theorem host_main_v4 (h : ∀ b : Fin 32, (m ((c : Thread nD τ).loc main_arg4) : Vec Ideal S32 .f32) (ix1 b) = ((α.dtb b.val : ℝ) : EReal)) (a : Fin 1) (b : Fin 32) :
    (V m c main_v4 : Vec Ideal S1x32 .f32) (ix2 a b) = ((α.dtb b.val : ℝ) : EReal) := by
  have e : V m c main_v4 = shapeCast S1x32 (m ((c : Thread nD τ).loc main_arg4) : Vec Ideal S32 .f32) shapeCasts_S32_S1x32 := by
    show StableHlo.after hostOps0 _ _ = _
    after_results
    rfl
  rw [e]; pointwise
  rw [h]
theorem host_main_v5 (h : ∀ b : Fin 32, (m ((c : Thread nD τ).loc main_arg5) : Vec Ideal S32 .f32) (ix1 b) = ((α.al b.val : ℝ) : EReal)) (a : Fin 1) (b : Fin 32) :
    (V m c main_v5 : Vec Ideal S1x32 .f32) (ix2 a b) = ((α.al b.val : ℝ) : EReal) := by
  have e : V m c main_v5 = shapeCast S1x32 (m ((c : Thread nD τ).loc main_arg5) : Vec Ideal S32 .f32) shapeCasts_S32_S1x32 := by
    show StableHlo.after hostOps0 _ _ = _
    after_results
    rfl
  rw [e]; pointwise
  rw [h]
theorem host_main_v6 (h : ∀ b : Fin 2048, (m ((c : Thread nD τ).loc main_arg7) : Vec Ideal S2048 .f32) (ix1 b) = ((α.ng b.val : ℝ) : EReal)) (a : Fin 1) (b : Fin 2048) :
    (V m c main_v6 : Vec Ideal S1x2048 .f32) (ix2 a b) = ((α.ng b.val : ℝ) : EReal) := by
  have e : V m c main_v6 = shapeCast S1x2048 (m ((c : Thread nD τ).loc main_arg7) : Vec Ideal S2048 .f32) shapeCasts_S2048_S1x2048 := by
    show StableHlo.after hostOps0 _ _ = _
    after_results
    rfl
  rw [e]; pointwise
  rw [h]
theorem host_main_v7 (h : ∀ b : Fin 1024, (m ((c : Thread nD τ).loc main_arg9) : Vec Ideal S1024 .f32) (ix1 b) = ((α.gb b.val : ℝ) : EReal)) (a : Fin 1) (b : Fin 1024) :
    (V m c main_v7 : Vec Ideal S1x1024 .f32) (ix2 a b) = ((α.gb b.val : ℝ) : EReal) := by
  have e : V m c main_v7 = shapeCast S1x1024 (m ((c : Thread nD τ).loc main_arg9) : Vec Ideal S1024 .f32) shapeCasts_S1024_S1x1024 := by
    show StableHlo.after hostOps0 _ _ = _
    after_results
    rfl
  rw [e]; pointwise
  rw [h]
theorem host_main_v8 (h : ∀ b : Fin 512, (m ((c : Thread nD τ).loc main_arg10) : Vec Ideal S512 .f32) (ix1 b) = ((α.gn b.val : ℝ) : EReal)) (a : Fin 1) (b : Fin 512) :
    (V m c main_v8 : Vec Ideal S1x512 .f32) (ix2 a b) = ((α.gn b.val : ℝ) : EReal) := by
  have e : V m c main_v8 = shapeCast S1x512 (m ((c : Thread nD τ).loc main_arg10) : Vec Ideal S512 .f32) shapeCasts_S512_S1x512 := by
    show StableHlo.after hostOps0 _ _ = _
    after_results
    rfl
  rw [e]; pointwise
  rw [h]
theorem host_main_v2 (h : ∀ b : Fin 32, (m ((c : Thread nD τ).loc main_arg6) : Vec Ideal S32 .f32) (ix1 b) = ((α.ds b.val : ℝ) : EReal)) (a : Fin 1) (b : Fin 2048) :
    (V m c main_v2 : Vec Ideal S1x2048 .f32) (ix2 a b) = ((α.ds (b.val / 64) : ℝ) : EReal) := by
  have e : V m c main_v2 = shapeCast S1x2048 (shapeCast S2048 (broadcastInDim S32x64 ![0] bcast_S32_S32x64_0 (m ((c : Thread nD τ).loc main_arg6) : Vec Ideal S32 .f32)) shapeCasts_S32x64_S2048) shapeCasts_S2048_S1x2048 := by
    show StableHlo.after hostOps0 _ _ = _
    after_results
    rfl
  rw [e]; pointwise
  rw [h]

variable (h : α.Is (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
include h
theorem read_0 (t : Fin cfg0.N) : R2 (φ := .bf16) (X0_0 m c t) (α.blk t.val).x0 := ⟨fun i => by
  have hN : t.val < 64 := t.isLt
  have h0 : (i 0).val < 128 := (i 0).isLt
  have h1 : (i 1).val < 2048 := (i 1).isLt
  have p : win0_0.index t (0 : Fin 2) = t.val ∧ win0_0.index t (1 : Fin 2) = 1 := by have e := place t; tauto
  unfold X0_0 Pipeline.Window.fill
  rw [dif_pos (moved0_0 t i)]
  show V m c main_arg0 (((cfg0.win 0).blk t).view.emb _) = _
  rw [V_main_arg0]
  refine (congrArg (m ((c : Thread nD τ).loc main_arg0) : Vec Ideal S8192x15360 .bf16) (?_ : _ = ix2 (⟨128 * t.val + (i 0).val, by omega⟩ : Fin 8192) (⟨2048 + (i 1).val, by omega⟩ : Fin 15360))).trans (h.P _ _)
  refine funext fun d => Fin.ext ?_
  match d with
  | ⟨0, _⟩ => show win0_0.index t (0 : Fin 2) * 128 + 1 * (i 0).val = 128 * t.val + (i 0).val; rw [p.1]; omega
  | ⟨1, _⟩ => show win0_0.index t (1 : Fin 2) * 2048 + 1 * (i 1).val = 2048 + (i 1).val; rw [p.2]; omega⟩
theorem read_1 (t : Fin cfg0.N) : R2 (φ := .bf16) (iblk m c 1 t) (α.blk t.val).x1 := ⟨fun i => by
  have hN : t.val < 64 := t.isLt
  have h0 : (i 0).val < 128 := (i 0).isLt
  have h1 : (i 1).val < 1024 := (i 1).isLt
  have p : win0_1.index t (0 : Fin 2) = t.val ∧ win0_1.index t (1 : Fin 2) = 4 := by have e := place t; tauto
  show V m c main_arg0 (((cfg0.win 1).blk t).view.emb _) = _
  rw [V_main_arg0]
  refine (congrArg (m ((c : Thread nD τ).loc main_arg0) : Vec Ideal S8192x15360 .bf16) (?_ : _ = ix2 (⟨128 * t.val + (i 0).val, by omega⟩ : Fin 8192) (⟨4096 + (i 1).val, by omega⟩ : Fin 15360))).trans (h.P _ _)
  refine funext fun d => Fin.ext ?_
  match d with
  | ⟨0, _⟩ => show win0_1.index t (0 : Fin 2) * 128 + 1 * (i 0).val = 128 * t.val + (i 0).val; rw [p.1]; omega
  | ⟨1, _⟩ => show win0_1.index t (1 : Fin 2) * 1024 + 1 * (i 1).val = 4096 + (i 1).val; rw [p.2]; omega⟩
theorem read_2 (t : Fin cfg0.N) : R2 (φ := .bf16) (X0_2 m c t) (α.blk t.val).z := ⟨fun i => by
  have hN : t.val < 64 := t.isLt
  have h0 : (i 0).val < 128 := (i 0).isLt
  have h1 : (i 1).val < 2048 := (i 1).isLt
  have p : win0_2.index t (0 : Fin 2) = t.val ∧ win0_2.index t (1 : Fin 2) = 0 := by have e := place t; tauto
  unfold X0_2 Pipeline.Window.fill
  rw [dif_pos (moved0_2 t i)]
  show V m c main_arg0 (((cfg0.win 2).blk t).view.emb _) = _
  rw [V_main_arg0]
  refine (congrArg (m ((c : Thread nD τ).loc main_arg0) : Vec Ideal S8192x15360 .bf16) (?_ : _ = ix2 (⟨128 * t.val + (i 0).val, by omega⟩ : Fin 8192) (⟨(i 1).val, by omega⟩ : Fin 15360))).trans (h.P _ _)
  refine funext fun d => Fin.ext ?_
  match d with
  | ⟨0, _⟩ => show win0_2.index t (0 : Fin 2) * 128 + 1 * (i 0).val = 128 * t.val + (i 0).val; rw [p.1]; omega
  | ⟨1, _⟩ => show win0_2.index t (1 : Fin 2) * 2048 + 1 * (i 1).val = (i 1).val; rw [p.2]; omega⟩
theorem read_3 (t : Fin cfg0.N) : R2 (φ := .bf16) (X0_3 m c t) (α.blk t.val).ma := ⟨fun i => by
  have hN : t.val < 64 := t.isLt
  have h0 : (i 0).val < 128 := (i 0).isLt
  have h1 : (i 1).val < 2048 := (i 1).isLt
  have p : win0_3.index t (0 : Fin 2) = t.val ∧ win0_3.index t (1 : Fin 2) = 5 := by have e := place t; tauto
  unfold X0_3 Pipeline.Window.fill
  rw [dif_pos (moved0_3 t i)]
  show V m c main_arg0 (((cfg0.win 3).blk t).view.emb _) = _
  rw [V_main_arg0]
  refine (congrArg (m ((c : Thread nD τ).loc main_arg0) : Vec Ideal S8192x15360 .bf16) (?_ : _ = ix2 (⟨128 * t.val + (i 0).val, by omega⟩ : Fin 8192) (⟨10240 + (i 1).val, by omega⟩ : Fin 15360))).trans (h.P _ _)
  refine funext fun d => Fin.ext ?_
  match d with
  | ⟨0, _⟩ => show win0_3.index t (0 : Fin 2) * 128 + 1 * (i 0).val = 128 * t.val + (i 0).val; rw [p.1]; omega
  | ⟨1, _⟩ => show win0_3.index t (1 : Fin 2) * 2048 + 1 * (i 1).val = 10240 + (i 1).val; rw [p.2]; omega⟩
theorem read_4 (t : Fin cfg0.N) : R2 (φ := .f32) (iblk m c 4 t) (α.blk t.val).sm := ⟨fun i => by
  have hN : t.val < 64 := t.isLt
  have h0 : (i 0).val < 128 := (i 0).isLt
  have h1 : (i 1).val < 128 := (i 1).isLt
  have p : win0_4.index t (0 : Fin 2) = t.val ∧ win0_4.index t (1 : Fin 2) = 0 := by have e := place t; tauto
  show V m c main_arg1 (((cfg0.win 4).blk t).view.emb _) = _
  rw [V_main_arg1]
  refine (congrArg (m ((c : Thread nD τ).loc main_arg1) : Vec Ideal S8192x128 .f32) (?_ : _ = ix2 (⟨128 * t.val + (i 0).val, by omega⟩ : Fin 8192) (⟨(i 1).val, by omega⟩ : Fin 128))).trans (h.sm _ _)
  refine funext fun d => Fin.ext ?_
  match d with
  | ⟨0, _⟩ => show win0_4.index t (0 : Fin 2) * 128 + 1 * (i 0).val = 128 * t.val + (i 0).val; rw [p.1]; omega
  | ⟨1, _⟩ => show win0_4.index t (1 : Fin 2) * 128 + 1 * (i 1).val = (i 1).val; rw [p.2]; omega⟩
theorem read_5 (t : Fin cfg0.N) : R2 (φ := .f32) (X0_5 m c t) (α.blk t.val).w := ⟨fun i => by
  have hN : t.val < 64 := t.isLt
  have h0 : (i 0).val < 4 := (i 0).isLt
  have h1 : (i 1).val < 2048 := (i 1).isLt
  have p : win0_5.index t (0 : Fin 2) = 0 ∧ win0_5.index t (1 : Fin 2) = 0 := by have e := place t; tauto
  unfold X0_5 Pipeline.Window.fill
  rw [dif_pos (moved0_5 t i)]
  show V m c main_arg2 (((cfg0.win 5).blk t).view.emb _) = _
  rw [V_main_arg2]
  refine (congrArg (m ((c : Thread nD τ).loc main_arg2) : Vec Ideal S4x3072 .f32) (?_ : _ = ix2 (⟨(i 0).val, by omega⟩ : Fin 4) (⟨(i 1).val, by omega⟩ : Fin 3072))).trans (h.cw _ _)
  refine funext fun d => Fin.ext ?_
  match d with
  | ⟨0, _⟩ => show win0_5.index t (0 : Fin 2) * 4 + 1 * (i 0).val = (i 0).val; rw [p.1]; omega
  | ⟨1, _⟩ => show win0_5.index t (1 : Fin 2) * 2048 + 1 * (i 1).val = (i 1).val; rw [p.2]; omega⟩
theorem read_6 (t : Fin cfg0.N) : R2 (φ := .f32) (iblk m c 6 t) (α.blk t.val).u := ⟨fun i => by
  have hN : t.val < 64 := t.isLt
  have h0 : (i 0).val < 4 := (i 0).isLt
  have h1 : (i 1).val < 1024 := (i 1).isLt
  have p : win0_6.index t (0 : Fin 2) = 0 ∧ win0_6.index t (1 : Fin 2) = 2 := by have e := place t; tauto
  show V m c main_arg2 (((cfg0.win 6).blk t).view.emb _) = _
  rw [V_main_arg2]
  refine (congrArg (m ((c : Thread nD τ).loc main_arg2) : Vec Ideal S4x3072 .f32) (?_ : _ = ix2 (⟨(i 0).val, by omega⟩ : Fin 4) (⟨2048 + (i 1).val, by omega⟩ : Fin 3072))).trans (h.cw _ _)
  refine funext fun d => Fin.ext ?_
  match d with
  | ⟨0, _⟩ => show win0_6.index t (0 : Fin 2) * 4 + 1 * (i 0).val = (i 0).val; rw [p.1]; omega
  | ⟨1, _⟩ => show win0_6.index t (1 : Fin 2) * 1024 + 1 * (i 1).val = 2048 + (i 1).val; rw [p.2]; omega⟩
theorem read_7 (t : Fin cfg0.N) : R2 (φ := .f32) (X0_7 m c t) (fun _ b => (α.blk t.val).cx b) := ⟨fun i => by
  have hN : t.val < 64 := t.isLt
  have h0 : (i 0).val < 1 := (i 0).isLt
  have h1 : (i 1).val < 2048 := (i 1).isLt
  have p : win0_7.index t (0 : Fin 2) = 0 ∧ win0_7.index t (1 : Fin 2) = 0 := by have e := place t; tauto
  unfold X0_7 Pipeline.Window.fill
  rw [dif_pos (moved0_7 t i)]
  show V m c main_v3 (((cfg0.win 7).blk t).view.emb _) = _
  refine (congrArg (V m c main_v3 : Vec Ideal S1x3072 .f32) (?_ : _ = ix2 (⟨(i 0).val, by omega⟩ : Fin 1) (⟨(i 1).val, by omega⟩ : Fin 3072))).trans (host_main_v3 m c α h.cb _ _)
  refine funext fun d => Fin.ext ?_
  match d with
  | ⟨0, _⟩ => show win0_7.index t (0 : Fin 2) * 1 + 1 * (i 0).val = (i 0).val; rw [p.1]; omega
  | ⟨1, _⟩ => show win0_7.index t (1 : Fin 2) * 2048 + 1 * (i 1).val = (i 1).val; rw [p.2]; omega⟩
theorem read_8 (t : Fin cfg0.N) : R2 (φ := .f32) (iblk m c 8 t) (fun _ b => (α.blk t.val).cu b) := ⟨fun i => by
  have hN : t.val < 64 := t.isLt
  have h0 : (i 0).val < 1 := (i 0).isLt
  have h1 : (i 1).val < 1024 := (i 1).isLt
  have p : win0_8.index t (0 : Fin 2) = 0 ∧ win0_8.index t (1 : Fin 2) = 2 := by have e := place t; tauto
  show V m c main_v3 (((cfg0.win 8).blk t).view.emb _) = _
  refine (congrArg (V m c main_v3 : Vec Ideal S1x3072 .f32) (?_ : _ = ix2 (⟨(i 0).val, by omega⟩ : Fin 1) (⟨2048 + (i 1).val, by omega⟩ : Fin 3072))).trans (host_main_v3 m c α h.cb _ _)
  refine funext fun d => Fin.ext ?_
  match d with
  | ⟨0, _⟩ => show win0_8.index t (0 : Fin 2) * 1 + 1 * (i 0).val = (i 0).val; rw [p.1]; omega
  | ⟨1, _⟩ => show win0_8.index t (1 : Fin 2) * 1024 + 1 * (i 1).val = 2048 + (i 1).val; rw [p.2]; omega⟩
theorem read_9 (t : Fin cfg0.N) : R2 (φ := .f32) (iblk m c 9 t) (fun _ b => (α.blk t.val).dtb b) := ⟨fun i => by
  have hN : t.val < 64 := t.isLt
  have h0 : (i 0).val < 1 := (i 0).isLt
  have h1 : (i 1).val < 32 := (i 1).isLt
  have p : win0_9.index t (0 : Fin 2) = 0 ∧ win0_9.index t (1 : Fin 2) = 0 := by have e := place t; tauto
  show V m c main_v4 (((cfg0.win 9).blk t).view.emb _) = _
  refine (congrArg (V m c main_v4 : Vec Ideal S1x32 .f32) (?_ : _ = ix2 (⟨(i 0).val, by omega⟩ : Fin 1) (⟨(i 1).val, by omega⟩ : Fin 32))).trans (host_main_v4 m c α h.dtb _ _)
  refine funext fun d => Fin.ext ?_
  match d with
  | ⟨0, _⟩ => show win0_9.index t (0 : Fin 2) * 1 + 1 * (i 0).val = (i 0).val; rw [p.1]; omega
  | ⟨1, _⟩ => show win0_9.index t (1 : Fin 2) * 32 + 1 * (i 1).val = (i 1).val; rw [p.2]; omega⟩
theorem read_10 (t : Fin cfg0.N) : R2 (φ := .f32) (iblk m c 10 t) (fun _ b => (α.blk t.val).al b) := ⟨fun i => by
  have hN : t.val < 64 := t.isLt
  have h0 : (i 0).val < 1 := (i 0).isLt
  have h1 : (i 1).val < 32 := (i 1).isLt
  have p : win0_10.index t (0 : Fin 2) = 0 ∧ win0_10.index t (1 : Fin 2) = 0 := by have e := place t; tauto
  show V m c main_v5 (((cfg0.win 10).blk t).view.emb _) = _
  refine (congrArg (V m c main_v5 : Vec Ideal S1x32 .f32) (?_ : _ = ix2 (⟨(i 0).val, by omega⟩ : Fin 1) (⟨(i 1).val, by omega⟩ : Fin 32))).trans (host_main_v5 m c α h.al _ _)
  refine funext fun d => Fin.ext ?_
  match d with
  | ⟨0, _⟩ => show win0_10.index t (0 : Fin 2) * 1 + 1 * (i 0).val = (i 0).val; rw [p.1]; omega
  | ⟨1, _⟩ => show win0_10.index t (1 : Fin 2) * 32 + 1 * (i 1).val = (i 1).val; rw [p.2]; omega⟩
theorem read_11 (t : Fin cfg0.N) : R2 (φ := .f32) (iblk m c 11 t) (fun _ b => (α.blk t.val).dx b) := ⟨fun i => by
  have hN : t.val < 64 := t.isLt
  have h0 : (i 0).val < 1 := (i 0).isLt
  have h1 : (i 1).val < 2048 := (i 1).isLt
  have p : win0_11.index t (0 : Fin 2) = 0 ∧ win0_11.index t (1 : Fin 2) = 0 := by have e := place t; tauto
  show V m c main_v2 (((cfg0.win 11).blk t).view.emb _) = _
  refine (congrArg (V m c main_v2 : Vec Ideal S1x2048 .f32) (?_ : _ = ix2 (⟨(i 0).val, by omega⟩ : Fin 1) (⟨(i 1).val, by omega⟩ : Fin 2048))).trans (host_main_v2 m c α h.ds _ _)
  refine funext fun d => Fin.ext ?_
  match d with
  | ⟨0, _⟩ => show win0_11.index t (0 : Fin 2) * 1 + 1 * (i 0).val = (i 0).val; rw [p.1]; omega
  | ⟨1, _⟩ => show win0_11.index t (1 : Fin 2) * 2048 + 1 * (i 1).val = (i 1).val; rw [p.2]; omega⟩
theorem read_12 (t : Fin cfg0.N) : R2 (φ := .f32) (iblk m c 12 t) (fun _ b => (α.blk t.val).ng b) := ⟨fun i => by
  have hN : t.val < 64 := t.isLt
  have h0 : (i 0).val < 1 := (i 0).isLt
  have h1 : (i 1).val < 2048 := (i 1).isLt
  have p : win0_12.index t (0 : Fin 2) = 0 ∧ win0_12.index t (1 : Fin 2) = 0 := by have e := place t; tauto
  show V m c main_v6 (((cfg0.win 12).blk t).view.emb _) = _
  refine (congrArg (V m c main_v6 : Vec Ideal S1x2048 .f32) (?_ : _ = ix2 (⟨(i 0).val, by omega⟩ : Fin 1) (⟨(i 1).val, by omega⟩ : Fin 2048))).trans (host_main_v6 m c α h.ng _ _)
  refine funext fun d => Fin.ext ?_
  match d with
  | ⟨0, _⟩ => show win0_12.index t (0 : Fin 2) * 1 + 1 * (i 0).val = (i 0).val; rw [p.1]; omega
  | ⟨1, _⟩ => show win0_12.index t (1 : Fin 2) * 2048 + 1 * (i 1).val = (i 1).val; rw [p.2]; omega⟩
theorem read_13 (t : Fin cfg0.N) : R2 (φ := .bf16) (iblk m c 13 t) (α.blk t.val).q := ⟨fun i => by
  have hN : t.val < 64 := t.isLt
  have h0 : (i 0).val < 128 := (i 0).isLt
  have h1 : (i 1).val < 1024 := (i 1).isLt
  have p : win0_13.index t (0 : Fin 2) = t.val ∧ win0_13.index t (1 : Fin 2) = 5 := by have e := place t; tauto
  show V m c main_arg0 (((cfg0.win 13).blk t).view.emb _) = _
  rw [V_main_arg0]
  refine (congrArg (m ((c : Thread nD τ).loc main_arg0) : Vec Ideal S8192x15360 .bf16) (?_ : _ = ix2 (⟨128 * t.val + (i 0).val, by omega⟩ : Fin 8192) (⟨5120 + (i 1).val, by omega⟩ : Fin 15360))).trans (h.P _ _)
  refine funext fun d => Fin.ext ?_
  match d with
  | ⟨0, _⟩ => show win0_13.index t (0 : Fin 2) * 128 + 1 * (i 0).val = 128 * t.val + (i 0).val; rw [p.1]; omega
  | ⟨1, _⟩ => show win0_13.index t (1 : Fin 2) * 1024 + 1 * (i 1).val = 5120 + (i 1).val; rw [p.2]; omega⟩
theorem read_14 (t : Fin cfg0.N) : R2 (φ := .bf16) (iblk m c 14 t) (α.blk t.val).k := ⟨fun i => by
  have hN : t.val < 64 := t.isLt
  have h0 : (i 0).val < 128 := (i 0).isLt
  have h1 : (i 1).val < 1024 := (i 1).isLt
  have p : win0_14.index t (0 : Fin 2) = t.val ∧ win0_14.index t (1 : Fin 2) = 14 := by have e := place t; tauto
  show V m c main_arg0 (((cfg0.win 14).blk t).view.emb _) = _
  rw [V_main_arg0]
  refine (congrArg (m ((c : Thread nD τ).loc main_arg0) : Vec Ideal S8192x15360 .bf16) (?_ : _ = ix2 (⟨128 * t.val + (i 0).val, by omega⟩ : Fin 8192) (⟨14336 + (i 1).val, by omega⟩ : Fin 15360))).trans (h.P _ _)
  refine funext fun d => Fin.ext ?_
  match d with
  | ⟨0, _⟩ => show win0_14.index t (0 : Fin 2) * 128 + 1 * (i 0).val = 128 * t.val + (i 0).val; rw [p.1]; omega
  | ⟨1, _⟩ => show win0_14.index t (1 : Fin 2) * 1024 + 1 * (i 1).val = 14336 + (i 1).val; rw [p.2]; omega⟩
theorem read_15 (t : Fin cfg0.N) : R2 (φ := .bf16) (X0_15 m c t) (α.blk t.val).v := ⟨fun i => by
  have hN : t.val < 64 := t.isLt
  have h0 : (i 0).val < 128 := (i 0).isLt
  have h1 : (i 1).val < 2048 := (i 1).isLt
  have p : win0_15.index t (0 : Fin 2) = t.val ∧ win0_15.index t (1 : Fin 2) = 3 := by have e := place t; tauto
  unfold X0_15 Pipeline.Window.fill
  rw [dif_pos (moved0_15 t i)]
  show V m c main_arg0 (((cfg0.win 15).blk t).view.emb _) = _
  rw [V_main_arg0]
  refine (congrArg (m ((c : Thread nD τ).loc main_arg0) : Vec Ideal S8192x15360 .bf16) (?_ : _ = ix2 (⟨128 * t.val + (i 0).val, by omega⟩ : Fin 8192) (⟨6144 + (i 1).val, by omega⟩ : Fin 15360))).trans (h.P _ _)
  refine funext fun d => Fin.ext ?_
  match d with
  | ⟨0, _⟩ => show win0_15.index t (0 : Fin 2) * 128 + 1 * (i 0).val = 128 * t.val + (i 0).val; rw [p.1]; omega
  | ⟨1, _⟩ => show win0_15.index t (1 : Fin 2) * 2048 + 1 * (i 1).val = 6144 + (i 1).val; rw [p.2]; omega⟩
theorem read_16 (t : Fin cfg0.N) : R2 (φ := .bf16) (X0_16 m c t) (α.blk t.val).r := ⟨fun i => by
  have hN : t.val < 64 := t.isLt
  have h0 : (i 0).val < 128 := (i 0).isLt
  have h1 : (i 1).val < 2048 := (i 1).isLt
  have p : win0_16.index t (0 : Fin 2) = t.val ∧ win0_16.index t (1 : Fin 2) = 4 := by have e := place t; tauto
  unfold X0_16 Pipeline.Window.fill
  rw [dif_pos (moved0_16 t i)]
  show V m c main_arg0 (((cfg0.win 16).blk t).view.emb _) = _
  rw [V_main_arg0]
  refine (congrArg (m ((c : Thread nD τ).loc main_arg0) : Vec Ideal S8192x15360 .bf16) (?_ : _ = ix2 (⟨128 * t.val + (i 0).val, by omega⟩ : Fin 8192) (⟨8192 + (i 1).val, by omega⟩ : Fin 15360))).trans (h.P _ _)
  refine funext fun d => Fin.ext ?_
  match d with
  | ⟨0, _⟩ => show win0_16.index t (0 : Fin 2) * 128 + 1 * (i 0).val = 128 * t.val + (i 0).val; rw [p.1]; omega
  | ⟨1, _⟩ => show win0_16.index t (1 : Fin 2) * 2048 + 1 * (i 1).val = 8192 + (i 1).val; rw [p.2]; omega⟩
theorem read_17 (t : Fin cfg0.N) : R2 (φ := .bf16) (X0_17 m c t) (α.blk t.val).mb := ⟨fun i => by
  have hN : t.val < 64 := t.isLt
  have h0 : (i 0).val < 128 := (i 0).isLt
  have h1 : (i 1).val < 2048 := (i 1).isLt
  have p : win0_17.index t (0 : Fin 2) = t.val ∧ win0_17.index t (1 : Fin 2) = 6 := by have e := place t; tauto
  unfold X0_17 Pipeline.Window.fill
  rw [dif_pos (moved0_17 t i)]
  show V m c main_arg0 (((cfg0.win 17).blk t).view.emb _) = _
  rw [V_main_arg0]
  refine (congrArg (m ((c : Thread nD τ).loc main_arg0) : Vec Ideal S8192x15360 .bf16) (?_ : _ = ix2 (⟨128 * t.val + (i 0).val, by omega⟩ : Fin 8192) (⟨12288 + (i 1).val, by omega⟩ : Fin 15360))).trans (h.P _ _)
  refine funext fun d => Fin.ext ?_
  match d with
  | ⟨0, _⟩ => show win0_17.index t (0 : Fin 2) * 128 + 1 * (i 0).val = 128 * t.val + (i 0).val; rw [p.1]; omega
  | ⟨1, _⟩ => show win0_17.index t (1 : Fin 2) * 2048 + 1 * (i 1).val = 12288 + (i 1).val; rw [p.2]; omega⟩
theorem read_18 (t : Fin cfg0.N) : R2 (φ := .f32) (iblk m c 18 t) (α.blk t.val).sg := ⟨fun i => by
  have hN : t.val < 64 := t.isLt
  have h0 : (i 0).val < 128 := (i 0).isLt
  have h1 : (i 1).val < 128 := (i 1).isLt
  have p : win0_18.index t (0 : Fin 2) = t.val ∧ win0_18.index t (1 : Fin 2) = 0 := by have e := place t; tauto
  show V m c main_arg1 (((cfg0.win 18).blk t).view.emb _) = _
  rw [V_main_arg1]
  refine (congrArg (m ((c : Thread nD τ).loc main_arg1) : Vec Ideal S8192x128 .f32) (?_ : _ = ix2 (⟨128 * t.val + (i 0).val, by omega⟩ : Fin 8192) (⟨(i 1).val, by omega⟩ : Fin 128))).trans (h.sm _ _)
  refine funext fun d => Fin.ext ?_
  match d with
  | ⟨0, _⟩ => show win0_18.index t (0 : Fin 2) * 128 + 1 * (i 0).val = 128 * t.val + (i 0).val; rw [p.1]; omega
  | ⟨1, _⟩ => show win0_18.index t (1 : Fin 2) * 128 + 1 * (i 1).val = (i 1).val; rw [p.2]; omega⟩
theorem read_19 (t : Fin cfg0.N) : R2 (φ := .f32) (iblk m c 19 t) (α.blk t.val).gw := ⟨fun i => by
  have hN : t.val < 64 := t.isLt
  have h0 : (i 0).val < 16 := (i 0).isLt
  have h1 : (i 1).val < 1024 := (i 1).isLt
  have p : win0_19.index t (0 : Fin 2) = 0 ∧ win0_19.index t (1 : Fin 2) = 0 := by have e := place t; tauto
  show V m c main_arg8 (((cfg0.win 19).blk t).view.emb _) = _
  rw [V_main_arg8]
  refine (congrArg (m ((c : Thread nD τ).loc main_arg8) : Vec Ideal S16x1024 .f32) (?_ : _ = ix2 (⟨(i 0).val, by omega⟩ : Fin 16) (⟨(i 1).val, by omega⟩ : Fin 1024))).trans (h.gw _ _)
  refine funext fun d => Fin.ext ?_
  match d with
  | ⟨0, _⟩ => show win0_19.index t (0 : Fin 2) * 16 + 1 * (i 0).val = (i 0).val; rw [p.1]; omega
  | ⟨1, _⟩ => show win0_19.index t (1 : Fin 2) * 1024 + 1 * (i 1).val = (i 1).val; rw [p.2]; omega⟩
theorem read_20 (t : Fin cfg0.N) : R2 (φ := .f32) (iblk m c 20 t) (fun _ b => (α.blk t.val).gb b) := ⟨fun i => by
  have hN : t.val < 64 := t.isLt
  have h0 : (i 0).val < 1 := (i 0).isLt
  have h1 : (i 1).val < 1024 := (i 1).isLt
  have p : win0_20.index t (0 : Fin 2) = 0 ∧ win0_20.index t (1 : Fin 2) = 0 := by have e := place t; tauto
  show V m c main_v7 (((cfg0.win 20).blk t).view.emb _) = _
  refine (congrArg (V m c main_v7 : Vec Ideal S1x1024 .f32) (?_ : _ = ix2 (⟨(i 0).val, by omega⟩ : Fin 1) (⟨(i 1).val, by omega⟩ : Fin 1024))).trans (host_main_v7 m c α h.gb _ _)
  refine funext fun d => Fin.ext ?_
  match d with
  | ⟨0, _⟩ => show win0_20.index t (0 : Fin 2) * 1 + 1 * (i 0).val = (i 0).val; rw [p.1]; omega
  | ⟨1, _⟩ => show win0_20.index t (1 : Fin 2) * 1024 + 1 * (i 1).val = (i 1).val; rw [p.2]; omega⟩
theorem read_21 (t : Fin cfg0.N) : R2 (φ := .f32) (iblk m c 21 t) (fun _ b => (α.blk t.val).gn b) := ⟨fun i => by
  have hN : t.val < 64 := t.isLt
  have h0 : (i 0).val < 1 := (i 0).isLt
  have h1 : (i 1).val < 512 := (i 1).isLt
  have p : win0_21.index t (0 : Fin 2) = 0 ∧ win0_21.index t (1 : Fin 2) = 0 := by have e := place t; tauto
  show V m c main_v8 (((cfg0.win 21).blk t).view.emb _) = _
  refine (congrArg (V m c main_v8 : Vec Ideal S1x512 .f32) (?_ : _ = ix2 (⟨(i 0).val, by omega⟩ : Fin 1) (⟨(i 1).val, by omega⟩ : Fin 512))).trans (host_main_v8 m c α h.gn _ _)
  refine funext fun d => Fin.ext ?_
  match d with
  | ⟨0, _⟩ => show win0_21.index t (0 : Fin 2) * 1 + 1 * (i 0).val = (i 0).val; rw [p.1]; omega
  | ⟨1, _⟩ => show win0_21.index t (1 : Fin 2) * 512 + 1 * (i 1).val = (i 1).val; rw [p.2]; omega⟩

theorem reads (t : Fin cfg0.N) : Reads m c α t :=
  ⟨read_0 m c α h t, read_1 m c α h t, read_2 m c α h t, read_3 m c α h t, read_4 m c α h t, read_5 m c α h t, read_6 m c α h t, read_7 m c α h t, read_8 m c α h t, read_9 m c α h t, read_10 m c α h t, read_11 m c α h t, read_12 m c α h t, read_13 m c α h t, read_14 m c α h t, read_15 m c α h t, read_16 m c α h t, read_17 m c α h t, read_18 m c α h t, read_19 m c α h t, read_20 m c α h t, read_21 m c α h t⟩

end Cert.KernelIdeal.Mixer
-- ==== Proof.Inproj.Host.lean ====
/- The input projection's reference over the reals extended by ±∞, element by element: a row's root-mean-square norm,
   scaled, modulated, and its product with each weight column. -/
module

public import proofs.«01_k».proof.Proof.Gen.Reference2Ideal.Run
public import Idealize.ShloMosaic.Lib.Pointwise

@[expose] public section

set_option maxRecDepth 16384

noncomputable section

namespace Cert.Reference2Ideal.Inproj

open Cert.Reference2Ideal Cert.Reference2Ideal.Gen
open Idealize.ShloMosaic Idealize.ShloMosaic.TcCoe Idealize.SL.Sem

/-- One element of a modulated norm: `row` is the row it lies in and `x` the row's element, `g` the gain, `sc` and `sh` the
    modulation of its column. -/
def modNorm (row : Fin 2048 → EReal) (x g sc sh : EReal) : EReal :=
  x * Ideal.rsqrt (Ideal.div (∑ k : Fin 2048, row k * row k) (Ideal.ofBits .f32 0x45000000#32) + Ideal.ofBits .f32 0x358637BD#32) * g
    * (Ideal.ofBits .f32 0x3F800000#32 + sc) + sh

/-- The reference's modulated rows, as its operations compose them. -/
abbrev rows (x : Vec Ideal S8192x2048 .f32) (g : Vec Ideal S2048 .f32) (sc sh : Vec Ideal S1x2048 .f32) : FVec Ideal S8192x2048 .f32 :=
  addf (mulf (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) (broadcastInDim S8192x2048 ![0, 1] bcast_S1x2048_S8192x2048_0_1 (addf (broadcastInDim S1x2048 ![] bcast_S_S1x2048 (constant S_ .f32 0x3F800000#32)) sc))) (broadcastInDim S8192x2048 ![0, 1] bcast_S1x2048_S8192x2048_0_1 sh)

/-- The reference's first result. -/
abbrev big (x : Vec Ideal S8192x2048 .f32) (g : Vec Ideal S2048 .f32) (sc sh : Vec Ideal S1x2048 .f32) (w : Vec Ideal S2048x15360 .bf16) : FVec Ideal S8192x15360 .bf16 :=
  truncf .bf16 (Host.dotGeneral dot_S8192x2048_S2048x15360_S8192x15360_1_0_0_1_n_n none (rows x g sc sh) (extf .f32 w bitsLt_bf16_f32)) bitsLt_bf16_f32

/-- The reference's second result. -/
abbrev small (x : Vec Ideal S8192x2048 .f32) (g : Vec Ideal S2048 .f32) (sc sh : Vec Ideal S1x2048 .f32) (w : Vec Ideal S128x2048 .f32) : FVec Ideal S8192x128 .f32 :=
  Host.dotGeneral (φ₁ := .f32) (φ₂ := .f32) dot_S8192x2048_S2048x128_S8192x128_1_0_0_1_n_n none (rows x g sc sh) (transpose S2048x128 [1, 0] w transposes_S128x2048_S2048x128_1_0)

/-- An element of the reference's modulated rows. -/
theorem rows_apply (x : Vec Ideal S8192x2048 .f32) (g : Vec Ideal S2048 .f32) (sc sh : Vec Ideal S1x2048 .f32) (r : Fin 8192) (k : Fin 2048) :
    rows x g sc sh (ix2 r k) = modNorm (fun k => x (ix2 r k)) (x (ix2 r k)) (g (ix1 k)) (sc (ix2 0 k)) (sh (ix2 0 k)) := by
  pointwise! [modNorm]

/-- An element of the reference's first result: a sum of products over the 2048 columns of the rows. -/
theorem big_apply (x : Vec Ideal S8192x2048 .f32) (g : Vec Ideal S2048 .f32) (sc sh : Vec Ideal S1x2048 .f32) (w : Vec Ideal S2048x15360 .bf16)
    (r : Fin 8192) (q : Fin 15360) :
    big x g sc sh w (ix2 r q) = ∑ k : Fin 2048, modNorm (fun k => x (ix2 r k)) (x (ix2 r k)) (g (ix1 k)) (sc (ix2 0 k)) (sh (ix2 0 k)) * w (ix2 k q) := by
  pointwise! [modNorm]

/-- An element of the reference's second result, likewise. -/
theorem small_apply (x : Vec Ideal S8192x2048 .f32) (g : Vec Ideal S2048 .f32) (sc sh : Vec Ideal S1x2048 .f32) (w : Vec Ideal S128x2048 .f32)
    (r : Fin 8192) (q : Fin 128) :
    small x g sc sh w (ix2 r q) = ∑ k : Fin 2048, modNorm (fun k => x (ix2 r k)) (x (ix2 r k)) (g (ix1 k)) (sc (ix2 0 k)) (sh (ix2 0 k)) * w (ix2 q k) := by
  pointwise! [modNorm]

end Cert.Reference2Ideal.Inproj

end
-- ==== Proof.Outproj.Real.lean ====
/- Real numbers among the reals extended by ±∞: what the operations of a modulated norm make of them, and what the
   claim's precondition says, that every element of the eight arguments is one. -/
module

public import proofs.«01_k».proof.Proof.Inproj.Host
public import proofs.«01_k».proof.Proof.Gen.Pre_finite3
public import Idealize.ShloMosaic.Lib.ReduceAll
public import Idealize.ShloMosaic.Lib.Pointwise

@[expose] public section

set_option maxRecDepth 16384

noncomputable section

namespace Cert.Outproj

open Idealize.ShloMosaic
open Cert.Reference2Ideal.Inproj (modNorm)

/-- `a` is a real number. -/
def IsReal (a : EReal) : Prop := ∃ r : ℝ, a = r

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sum {n : ℕ} {f : Fin n → EReal} (h : ∀ k, IsReal (f k)) : IsReal (∑ k, f k) := by
  choose g hg using h
  refine ⟨∑ k, g k, ?_⟩
  rw [Finset.sum_congr rfl fun k _ => hg k]
  exact (map_sum (⟨⟨Real.toEReal, EReal.coe_zero⟩, EReal.coe_add⟩ : ℝ →+ EReal) g Finset.univ).symm

/-- A real number less itself is nothing; of an infinity this is false. -/
theorem IsReal.sub_self {a : EReal} (h : IsReal a) : a - a = 0 := by
  obtain ⟨x, rfl⟩ := h; rw [← EReal.coe_sub, _root_.sub_self]; rfl

/-- The norm's count of columns. -/
theorem columns : Ideal.ofBits .f32 0x45000000#32 = ((2048 : ℝ) : EReal) := by
  simp [Ideal.ofBits, Ideal.ieee]; norm_num; rw [← EReal.coe_mul]; norm_num

/-- The norm's guard against a zero row is a positive real number. -/
theorem guard : ∃ e : ℝ, 0 < e ∧ Ideal.ofBits .f32 0x358637BD#32 = e := by
  refine ⟨8796093 / 2 ^ 43, by norm_num, ?_⟩
  simp [Ideal.ofBits, Ideal.ieee]; norm_num; rw [← EReal.coe_mul]; norm_num

/-- The norm's factor is real for a row of real numbers: the mean of the squares is no less than nothing, and the guard
    is positive. -/
theorem real_factor {row : Fin 2048 → EReal} (h : ∀ k, IsReal (row k)) :
    IsReal (Ideal.rsqrt (Ideal.div (∑ k : Fin 2048, row k * row k) (Ideal.ofBits .f32 0x45000000#32) + Ideal.ofBits .f32 0x358637BD#32)) := by
  choose g hg using h
  obtain ⟨e, he, h0⟩ := guard
  have hs : (∑ k : Fin 2048, row k * row k) = ((∑ k, g k * g k : ℝ) : EReal) := by
    rw [Finset.sum_congr rfl fun k _ => by rw [hg k, ← EReal.coe_mul]]
    exact (map_sum (⟨⟨Real.toEReal, EReal.coe_zero⟩, EReal.coe_add⟩ : ℝ →+ EReal) (fun k => g k * g k) Finset.univ).symm
  have hn : 0 ≤ ∑ k, g k * g k := Finset.sum_nonneg fun k _ => mul_self_nonneg (g k)
  have hp : 0 < (∑ k, g k * g k) * (1 / 2048) + e := by positivity
  rw [hs, columns, h0, Ideal.div_coe (by norm_num), ← EReal.coe_mul, ← EReal.coe_add, Ideal.rsqrt_coe, if_neg (not_lt.mpr hp.le), if_neg hp.ne']
  exact ⟨_, rfl⟩

/-- A modulated norm of real numbers is real. -/
theorem real_modNorm {row : Fin 2048 → EReal} {x g sc sh : EReal} (hr : ∀ k, IsReal (row k)) (hx : IsReal x) (hg : IsReal g)
    (hc : IsReal sc) (hh : IsReal sh) : IsReal (modNorm row x g sc sh) :=
  (((hx.mul (real_factor hr)).mul hg).mul (IsReal.add ⟨1, Ideal.ofBits_one_f32⟩ hc)).add hh

/-! ## The precondition -/

/-- A value whose magnitude is less than +∞ is a real number. -/
theorem real_of_cmp (a : EReal) (h : Ideal.cmp .olt (max a (-a)) (Ideal.ofBits .f32 0x7F800000#32) = 1#1) : IsReal a := by
  have ht : Ideal.ofBits .f32 0x7F800000#32 = ⊤ := by simp [Ideal.ofBits, Ideal.ieee]
  rw [ht] at h
  induction a using EReal.rec with
  | bot => simp [Ideal.cmp] at h
  | top => simp [Ideal.cmp] at h
  | coe r => exact ⟨r, rfl⟩

instance : Subsingleton Cert.Pre_finite3.S_.Idx := ⟨fun a b => funext fun d => d.elim0⟩

/-- The printed test of one array: all its elements are real. -/
theorem real_of_all {s : Shape} {axes : List (Fin s.rank)} (x : FVec Ideal s .f32) (init : Cert.Pre_finite3.S_.Idx → BitVec 1)
    (b : Cert.Pre_finite3.S_.BroadcastsInDim s (![] : Fin 0 → Fin s.rank)) (r : s.ReducesTo axes Cert.Pre_finite3.S_) (hu : 0 < Cert.Pre_finite3.S_.numel)
    (j : Cert.Pre_finite3.S_.Idx)
    (h : Host.reduce IntOp.andi (cmpf .olt (Host.absf x) (broadcastInDim s ![] b (constant Cert.Pre_finite3.S_ .f32 0x7F800000#32))) init r hu j = 1#1)
    (i : s.Idx) : IsReal (x i) :=
  real_of_cmp _ (Host.reduce_andi_all _ _ _ _ j h i)

/-- The precondition, read: every element of every argument is a real number. -/
theorem real_of_finite3 (mixed : FVec Ideal Cert.Pre_finite3.S8192x2048 .bf16) (x : FVec Ideal Cert.Pre_finite3.S8192x2048 .f32)
    (w : FVec Ideal Cert.Pre_finite3.S2048x2048 .bf16) (g1 : FVec Ideal Cert.Pre_finite3.S1x2048 .f32) (g : FVec Ideal Cert.Pre_finite3.S2048 .f32)
    (sc sh : FVec Ideal Cert.Pre_finite3.S1x2048 .f32) (wr : FVec Ideal Cert.Pre_finite3.S64x2048 .f32)
    (h : Cert.Pre_finite3.fn (F := Ideal) mixed x w g1 g sc sh wr = fun _ => 1#1) :
    (∀ i, IsReal (mixed i)) ∧ (∀ i, IsReal (x i)) ∧ (∀ i, IsReal (w i)) ∧ (∀ i, IsReal (g1 i)) ∧ (∀ i, IsReal (g i))
      ∧ (∀ i, IsReal (sc i)) ∧ (∀ i, IsReal (sh i)) ∧ (∀ i, IsReal (wr i)) := by
  have h := congrFun h (fun d => d.elim0)
  dsimp only [Cert.Pre_finite3.fn, Cert.Pre_finite3.fn_part1, Cert.Pre_finite3.fn_part2] at h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨real_of_all _ _ _ _ _ _ h0, real_of_all x _ _ _ _ _ h1, real_of_all _ _ _ _ _ _ h2, real_of_all g1 _ _ _ _ _ h3,
    real_of_all g _ _ _ _ _ h4, real_of_all sc _ _ _ _ _ h5, real_of_all sh _ _ _ _ _ h6, real_of_all wr _ _ _ _ _ h7⟩

end Cert.Outproj

end
-- ==== Proof.Mixer.Algebra.lean ====
/- The mixer's call computes its reference over the reals extended by ±∞, from arguments that are real numbers. -/
module

public import proofs.«01_k».proof.Proof.Mixer.Host
public import proofs.«01_k».proof.Proof.Outproj.Real
public import proofs.«01_k».proof.Proof.Gen.Pre_finite1
public import proofs.«01_k».proof.Defs

@[expose] public section

set_option maxRecDepth 16384

noncomputable section

namespace Mixer
open Idealize.ShloMosaic
open Cert.Outproj (IsReal real_of_all)

/-- The real numbers a matrix holds. -/
def n2 {R C : ℕ} (x : (⟨2, ![R, C]⟩ : Shape).Idx → EReal) (a b : ℕ) : ℝ := if h : a < R ∧ b < C then (x (ix2 ⟨a, h.1⟩ ⟨b, h.2⟩)).toReal else 0
/-- The real numbers a vector holds. -/
def n1 {C : ℕ} (x : (⟨1, ![C]⟩ : Shape).Idx → EReal) (b : ℕ) : ℝ := if h : b < C then (x (ix1 ⟨b, h⟩)).toReal else 0

theorem n2_is {R C : ℕ} (x : (⟨2, ![R, C]⟩ : Shape).Idx → EReal) (hx : ∀ i, IsReal (x i)) (t : Fin R) (b : Fin C) : x (ix2 t b) = ((n2 x t.val b.val : ℝ) : EReal) := by
  unfold n2
  rw [dif_pos ⟨t.isLt, b.isLt⟩]
  obtain ⟨r, e⟩ := hx (ix2 t b)
  show x (ix2 t b) = ((x (ix2 t b)).toReal : EReal)
  rw [e, EReal.toReal_coe]
theorem n1_is {C : ℕ} (x : (⟨1, ![C]⟩ : Shape).Idx → EReal) (hx : ∀ i, IsReal (x i)) (b : Fin C) : x (ix1 b) = ((n1 x b.val : ℝ) : EReal) := by
  unfold n1
  rw [dif_pos b.isLt]
  obtain ⟨r, e⟩ := hx (ix1 b)
  show x (ix1 b) = ((x (ix1 b)).toReal : EReal)
  rw [e, EReal.toReal_coe]

/-- The precondition, read: the arguments hold real numbers. -/
theorem real_of_finite1 (x0 : FVec Ideal Cert.Pre_finite1.S8192x15360 .bf16) (x1 : FVec Ideal Cert.Pre_finite1.S8192x128 .f32) (x2 : FVec Ideal Cert.Pre_finite1.S4x3072 .f32) (x3 : FVec Ideal Cert.Pre_finite1.S3072 .f32) (x4 : FVec Ideal Cert.Pre_finite1.S32 .f32) (x5 : FVec Ideal Cert.Pre_finite1.S32 .f32) (x6 : FVec Ideal Cert.Pre_finite1.S32 .f32) (x7 : FVec Ideal Cert.Pre_finite1.S2048 .f32) (x8 : FVec Ideal Cert.Pre_finite1.S16x1024 .f32) (x9 : FVec Ideal Cert.Pre_finite1.S1024 .f32) (x10 : FVec Ideal Cert.Pre_finite1.S512 .f32)
    (h : Cert.Pre_finite1.fn (F := Ideal) x0 x1 x2 x3 x4 x5 x6 x7 x8 x9 x10 = fun _ => 1#1) : ∃ α : Args, α.Is x0 x1 x2 x3 x4 x5 x6 x7 x8 x9 x10 := by
  have h := congrFun h (fun d => d.elim0)
  dsimp only [Cert.Pre_finite1.fn, Cert.Pre_finite1.fn_part1, Cert.Pre_finite1.fn_part2, Cert.Pre_finite1.fn_part3] at h
  obtain ⟨h, h10⟩ := IntOp.andi_eq_one.mp h
  obtain ⟨h, h9⟩ := IntOp.andi_eq_one.mp h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨⟨n2 x0, n2 x1, n2 x2, n1 x3, n1 x4, n1 x5, n1 x6, n1 x7, n2 x8, n1 x9, n1 x10⟩,
    ⟨n2_is x0 (real_of_all _ _ _ _ _ _ h0),
    n2_is x1 (real_of_all x1 _ _ _ _ _ h1),
    n2_is x2 (real_of_all x2 _ _ _ _ _ h2),
    n1_is x3 (real_of_all x3 _ _ _ _ _ h3),
    n1_is x4 (real_of_all x4 _ _ _ _ _ h4),
    n1_is x5 (real_of_all x5 _ _ _ _ _ h5),
    n1_is x6 (real_of_all x6 _ _ _ _ _ h6),
    n1_is x7 (real_of_all x7 _ _ _ _ _ h7),
    n2_is x8 (real_of_all x8 _ _ _ _ _ h8),
    n1_is x9 (real_of_all x9 _ _ _ _ _ h9),
    n1_is x10 (real_of_all x10 _ _ _ _ _ h10)⟩⟩

end Mixer

namespace Cert.KernelIdeal.Mixer
open Cert.KernelIdeal Cert.KernelIdeal.Gen
open Idealize.ShloMosaic Idealize.ShloMosaic.TcCoe Idealize.SL.Sem
open _root_.Mixer

theorem algebraic : Cert.algebraic_KernelIdeal_ReferenceIdeal_pre_finite1 := by
  intro m g m' g' hp he
  choose α hα using fun c => real_of_finite1 _ _ _ _ _ _ _ _ _ _ _ (hp c)
  refine ⟨fun c => G22 m c, (θ_run _ _ _).mono (fun r h c => h c) (run m g), (θ_run _ _ _).mono (fun r h c => ?_) (Cert.ReferenceIdeal.Value.run (F := Ideal) m' g')⟩
  obtain ⟨h0, hargs⟩ := h c
  obtain ⟨e0, e1, e2, e3, e4, e5, e6, e7, e8, e9, e10⟩ := he c
  refine ⟨h0.trans ?_, hargs⟩
  have hr := hα c
  rw [← e0, ← e1, ← e2, ← e3, ← e4, ← e5, ← e6, ← e7, ← e8, ← e9, ← e10] at hr
  refine funext fun i => ?_
  have e : i = ix2 (⟨(i 0).val, (i 0).isLt⟩ : Fin 8192) (⟨(i 1).val, (i 1).isLt⟩ : Fin 2048) := funext fun d => Fin.ext (match d with | ⟨0, _⟩ => rfl | ⟨1, _⟩ => rfl)
  rw [e]
  exact (Cert.ReferenceIdeal.Mixer.final (α c) (StableHlo.launchContents m' c) hr _ _).trans (result m c (α c) (reads m c (α c) (hα c)) _ _).symm

end Cert.KernelIdeal.Mixer
-- ==== Proof.Inproj.Run.lean ====
/- The body of the input projection's call on any staging memrefs, in its two cases: where the second grid coordinate is
   0 it normalises the rows, keeps them in the scratch and stores both outputs; elsewhere it stores the first output only,
   from the rows the scratch holds. -/
module

public import proofs.«01_k».proof.Proof.Gen.Kernel2Ideal.Frame
public import proofs.«01_k».proof.Proof.Gen.Kernel2Ideal.Skeleton
public import Idealize.ShloMosaic.Lib.VecWindow

@[expose] public section

set_option maxRecDepth 16384

noncomputable section

namespace Cert.Kernel2Ideal.Inproj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's branch: the second grid coordinate is 0. -/
abbrev First (i : grid0.Coords) : Prop := k0_cond1 i = 1#1

/-- A whole memref whose contents are one store of its own sizes over anything is owned at the payload. -/
theorem read_of_store {s : Shape} {e : EltTy} (a : Memref sig .tc .vmem s e) (f : a.view.ty.Contents (Elt F))
    {off : Fin s.rank → ℕ} (inb : ∀ x, off x + s.size x ≤ s.size x) (w w' : s.Idx → Elt F e)
    (L : List (View.Piece (Elt F) s e)) (h : w = w') :
    a.view.read (Elt F) (a.view.writes (Elt F) f (⟨Rect.unit off s.size inb, w⟩ :: L)) = w' := by
  rw [View.read_writes_full]; exact h

/-- A load of a whole memref's own sizes reads the contents it is owned at. -/
theorem load_unread {s : Shape} {e : EltTy} (a : Memref sig .tc .vmem s e) (ha : a.IsWhole) (x : s.Idx → Elt F e)
    {off : Fin s.rank → ℕ} (inb : ∀ y, off y + s.size y ≤ s.size y) :
    a.view.readAt (Elt F) (Rect.unit off s.size inb).toLoadRect (ha.unread x) = x := by
  rw [View.readAt_full, ha.read_unread]

/-- The scratch's rows from equal operands. -/
theorem rows_congr {x x' : Vec F S1024x2048 .f32} {g g' a a' b b' : Vec F S1x2048 .f32} (h0 : x = x') (h1 : g = g')
    (h2 : a = a') (h3 : b = b') : k0_pay2 x g a b = k0_pay2 x' g' a' b' := by
  subst h0 h1 h2 h3; rfl

/-- The second output from equal operands. -/
theorem small_congr {x x' : Vec F S1024x2048 .f32} {g g' a a' b b' : Vec F S1x2048 .f32} {w w' : Vec F S128x2048 .f32}
    (h0 : x = x') (h1 : g = g') (h2 : a = a') (h3 : b = b') (h4 : w = w') :
    k0_pay3 x g a b w = k0_pay3 x' g' a' b' w' := by
  subst h0 h1 h2 h3 h4; rfl

set_option maxHeartbeats 1000000 in
/-- THE FIRST POINT OF A ROW BLOCK: the body leaves the inputs as they were, the normalised rows in the scratch, their
    product with the small weights in the second output and with the block of the big weights in the first. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S128x2048 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc : First i)
    (x0 : Vec F S1024x2048 .f32) (x1 x2 x3 : Vec F S1x2048 .f32) (x4 : Vec F S2048x1024 .bf16) (x5 : Vec F S128x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 (k0_pay2 x0 x1 x2 x3) x4) ∗ owns (c : Thread nD τ) arg9 fullShare (k0_pay3 x0 x1 x2 x3 x5) ∗ owns (c : Thread nD τ) arg10 fullShare (k0_pay2 x0 x1 x2 x3)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap
    · iexact H6
    ipureintro
    refine read_of_store arg8 _ _ _ _ _ (congrArg₂ k0_pay4 ?_ (load_unread arg6 harg6 _ _))
    refine (View.readCov_full _ _ _ _ _).trans ?_
    exact rows_congr (load_unread arg2 harg2 _ _) (load_unread arg3 harg3 _ _) (load_unread arg4 harg4 _ _) (load_unread arg5 harg5 _ _)
  isplitl [H7]
  · iexists _; isplitr; swap
    · iexact H7
    ipureintro
    refine read_of_store arg9 _ _ _ _ _ ?_
    exact small_congr (load_unread arg2 harg2 _ _) (load_unread arg3 harg3 _ _) (load_unread arg4 harg4 _ _) (load_unread arg5 harg5 _ _) (load_unread arg7 harg7 _ _)
  iexists _; isplitr; swap
  · iexact HS0
  ipureintro
  refine read_of_store arg10 _ _ _ _ _ ?_
  exact rows_congr (load_unread arg2 harg2 _ _) (load_unread arg3 harg3 _ _) (load_unread arg4 harg4 _ _) (load_unread arg5 harg5 _ _)

set_option maxHeartbeats 1000000 in
/-- THE OTHER POINTS OF A ROW BLOCK: the body leaves the inputs, the second output and the scratch as they were, and the
    product of the scratch's rows with the block of the big weights in the first output. -/
theorem run_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S128x2048 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc : ¬First i)
    (x0 : Vec F S1024x2048 .f32) (x1 x2 x3 : Vec F S1x2048 .f32) (x4 : Vec F S2048x1024 .bf16) (x5 : Vec F S128x2048 .f32) (xo : Vec F S1024x128 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 xs x4) ∗ owns (c : Thread nD τ) arg9 fullShare xo ∗ owns (c : Thread nD τ) arg10 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf7; obtain rfl := harg10.eq_unread hfs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap
    · iexact H6
    ipureintro
    refine read_of_store arg8 _ _ _ _ _ ?_
    exact congrArg₂ k0_pay4 (load_unread arg10 harg10 _ _) (load_unread arg6 harg6 _ _)
  isplitl [H7]
  · iexists _; isplitr; · ipureintro; exact harg9.read_unread _
    iexact H7
  iexists _; isplitr; · ipureintro; exact harg10.read_unread _
  iexact HS0

end Cert.Kernel2Ideal.Inproj

end
-- ==== Proof.Inproj.Frame.lean ====
/- The frame of the input projection's call. Each grid point's buffers hold closed forms of the blocks at that point: the
   scratch the normalised rows of its row block, the first output their product with the point's block of the big weights,
   the second output their product with the small weights. The second output is written back at the last point of a row
   block, where the body stores nothing into it: it holds there what the row block's first point stored. -/
module

public import proofs.«01_k».proof.Proof.Inproj.Run
public import Idealize.ShloMosaic.Lib.Pipeline.TableIdle
public import Idealize.ShloMosaic.Lib.Claim

@[expose] public section

set_option maxRecDepth 16384

noncomputable section

namespace Cert.Kernel2Ideal.Inproj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch, the idle table, the buffers -/

/-- The branch is taken at the first point of a row block. -/
theorem first_iff : ∀ t : Fin cfg0.N, First (grid0.coords t) ↔ t.val % 15 = 0 :=
  (fun t => by
    have ht : t.val < 120 := Nat.lt_of_lt_of_eq t.isLt N_0
    have e1 : (grid0.coords t 1).val = t.val / 1 % 15 := Pipeline.Grid.coords_val t 1 (by decide) rfl
    simp only [First, k0_cond1, e1]
    word_cmp
   : ∀ t : Fin grid0.N, First (grid0.coords t) ↔ t.val % 15 = 0)

/-- The second output is stored at the first point of a row block; -/
theorem live7 (t : Fin cfg0.N) (h : t.val % 15 = 0) : cfg0.idle 7 (grid0.coords t) = false := by
  show (!(k0_cond1 (grid0.coords t) == 1#1)) = false
  rw [(first_iff t).mpr h]; rfl

/-- elsewhere it is left alone. -/
theorem idle7 (t : Fin cfg0.N) (h : ¬t.val % 15 = 0) : cfg0.idle 7 (grid0.coords t) = true := by
  show (!(k0_cond1 (grid0.coords t) == 1#1)) = true
  have h' : ¬k0_cond1 (grid0.coords t) = 1#1 := fun e => h ((first_iff t).mp e)
  rw [beq_eq_false_iff_ne.mpr h']; rfl

/-- Whether the second output's buffer holds nothing stored since its last write-back, before point `n`: at the first
    point of a row block only. -/
def freshTab (n : ℕ) : Bool := n % 15 == 0

theorem freshTab_step : ∀ t : Fin cfg0.N,
    freshTab (t.val + 1) = ((cfg0.win 7).flush t || (cfg0.idle 7 (cfg0.grid.coords t) && freshTab t.val)) := by
  intro t
  have hf := flush0_7 t
  by_cases h0 : t.val % 15 = 0
  · have e : (cfg0.win 7).flush t = false := by
      rw [Bool.eq_false_iff]; exact fun h => by have := hf.mp h; omega
    rw [e, live7 t h0]
    show (((t.val + 1) % 15 == 0) : Bool) = _
    rw [beq_eq_false_iff_ne.mpr (by omega)]; rfl
  · have e : freshTab t.val = false := beq_eq_false_iff_ne.mpr h0
    rw [e, Bool.and_false, Bool.or_false]
    show (((t.val + 1) % 15 == 0) : Bool) = _
    by_cases h1 : t.val % 15 = 14
    · rw [hf.mpr h1, beq_iff_eq]; omega
    · rw [Bool.eq_false_iff.mpr (fun h => h1 (hf.mp h)), beq_eq_false_iff_ne]; omega

theorem fresh7 (t : Fin cfg0.N) : cfg0.fresh 7 t.val = freshTab t.val :=
  Pipeline.Cfg.fresh_tab cfg0 7 freshTab rfl freshTab_step t.val (Nat.le_of_lt t.isLt)

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S1x2048 .f32 := win0_2.stage (cfg0.slots t 2)
abbrev ms3 (t : Fin cfg0.N) : Memref sig .tc .vmem S1x2048 .f32 := win0_3.stage (cfg0.slots t 3)
abbrev ms4 (t : Fin cfg0.N) : Memref sig .tc .vmem S2048x1024 .bf16 := win0_4.stage (cfg0.slots t 4)
abbrev ms5 (t : Fin cfg0.N) : Memref sig .tc .vmem S128x2048 .f32 := win0_5.stage (cfg0.slots t 5)
abbrev ms6 (t : Fin cfg0.N) : Memref sig .tc .vmem S1024x1024 .bf16 := win0_6.stage (cfg0.slots t 6)
abbrev ms7 (t : Fin cfg0.N) : Memref sig .tc .vmem S1024x128 .f32 := win0_7.stage (cfg0.slots t 7)
/-- The scratch the row block's normalised rows are kept in. -/
abbrev scM : Memref sig .tc .vmem S1024x2048 .bf16 := Memref.whole cc0_scratch0

/-- What the launch hands the region of the call's own state: the scratch at some contents, the generator register. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## What the buffers hold -/

/-- The normalised rows of point `t`'s row block. -/
def rowsAt (c : Dev nD) (t : Fin cfg0.N) : Vec F S1024x2048 .bf16 :=
  k0_pay2 (iblk m c 0 t) (iblk m c 1 t) (iblk m c 2 t) (iblk m c 3 t)

/-- The first output's block at point `t`. -/
def bigAt (c : Dev nD) (t : Fin cfg0.N) : Vec F S1024x1024 .bf16 := k0_pay4 (rowsAt m c t) (iblk m c 4 t)

/-- The second output's block at point `t`. -/
def smallAt (c : Dev nD) (t : Fin cfg0.N) : Vec F S1024x128 .f32 :=
  k0_pay3 (iblk m c 0 t) (iblk m c 1 t) (iblk m c 2 t) (iblk m c 3 t) (iblk m c 5 t)

/-- The region's invariant before position `n`: what the launch hands it before the first point, afterwards the scratch
    at the rows of the point before. -/
def PhiS (c : Dev nD) : (n : ℕ) → n ≤ cfg0.N → sProp 𝕄
  | 0, _ => Pipeline.ΦA spec0 c
  | n + 1, hn => iprop(iprop(owns (c : Thread nD τ) scM fullShare (rowsAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) (h : t.val + 1 ≤ cfg0.N) :
    PhiS m c (t.val + 1) h = iprop(iprop(owns (c : Thread nD τ) scM fullShare (rowsAt m c t)) ∗ (∃ r, prngReg c r)) := rfl

theorem PhiS_pos (c : Dev nD) (n : ℕ) (h : n ≤ cfg0.N) (hz : n ≠ 0) :
    PhiS m c n h = iprop(iprop(owns (c : Thread nD τ) scM fullShare (rowsAt m c ⟨n - 1, by omega⟩)) ∗ (∃ r, prngReg c r)) := by
  cases n with
  | zero => exact absurd rfl hz
  | succ n => rfl

/-- The proof data: the arrays as the region finds them, the inputs' buffers at their blocks, the outputs' and the scratch
    at the closed forms above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => bigAt m c t
    | ⟨7, _⟩ => smallAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = bigAt m c t := by dsimp only [dats]
theorem after_7 (c : Dev nD) (t : Fin cfg0.N) : (dats m 0 c).after 7 t = smallAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## Within a row block -/

/-- Window 0's block does not move within a row block. -/
theorem iblk_prev_0 (c : Dev nD) (t : Fin cfg0.N) (h : ¬t.val % 15 = 0) :
    iblk m c 0 t = iblk m c 0 ⟨t.val - 1, Nat.lt_of_le_of_lt (Nat.sub_le _ _) t.isLt⟩ := by
  have hN : t.val < 120 := lt_of_lt_of_eq t.isLt (show cfg0.N = 120 from N_0)
  have hf : (cfg0.win 0).fetch t = false :=
    Bool.eq_false_iff.mpr fun e => by have := (fetch0_0 t).mp e; omega
  obtain ⟨_, hix⟩ := (cfg0.win 0).index_eq_of_fetch rfl t hf
  rw [← before_0 m c t (fun _ => Classical.arbitrary _), ← before_0 m c _ (fun _ => Classical.arbitrary _),
    (dats m 0 c).before_in_eq_fetched 0 rfl (fun _ => rfl) (fun _ _ _ => rfl)
      (fun t => by rw [after_0]; unfold Dat.blockOf iblk; rw [A_eq]; try rfl),
    (dats m 0 c).before_in_eq_fetched 0 rfl (fun _ => rfl) (fun _ _ _ => rfl)
      (fun t => by rw [after_0]; unfold Dat.blockOf iblk; rw [A_eq]; try rfl)]
  exact (dats m 0 c).fetched_congr 0 hix rfl _
/-- Window 1's block does not move within a row block. -/
theorem iblk_prev_1 (c : Dev nD) (t : Fin cfg0.N) (h : ¬t.val % 15 = 0) :
    iblk m c 1 t = iblk m c 1 ⟨t.val - 1, Nat.lt_of_le_of_lt (Nat.sub_le _ _) t.isLt⟩ := by
  have hN : t.val < 120 := lt_of_lt_of_eq t.isLt (show cfg0.N = 120 from N_0)
  have hf : (cfg0.win 1).fetch t = false :=
    Bool.eq_false_iff.mpr fun e => by have := (fetch0_1 t).mp e; omega
  obtain ⟨_, hix⟩ := (cfg0.win 1).index_eq_of_fetch rfl t hf
  rw [← before_1 m c t (fun _ => Classical.arbitrary _), ← before_1 m c _ (fun _ => Classical.arbitrary _),
    (dats m 0 c).before_in_eq_fetched 1 rfl (fun _ => rfl) (fun _ _ _ => rfl)
      (fun t => by rw [after_1]; unfold Dat.blockOf iblk; rw [A_eq]; try rfl),
    (dats m 0 c).before_in_eq_fetched 1 rfl (fun _ => rfl) (fun _ _ _ => rfl)
      (fun t => by rw [after_1]; unfold Dat.blockOf iblk; rw [A_eq]; try rfl)]
  exact (dats m 0 c).fetched_congr 1 hix rfl _
/-- Window 2's block does not move within a row block. -/
theorem iblk_prev_2 (c : Dev nD) (t : Fin cfg0.N) (h : ¬t.val % 15 = 0) :
    iblk m c 2 t = iblk m c 2 ⟨t.val - 1, Nat.lt_of_le_of_lt (Nat.sub_le _ _) t.isLt⟩ := by
  have hN : t.val < 120 := lt_of_lt_of_eq t.isLt (show cfg0.N = 120 from N_0)
  have hf : (cfg0.win 2).fetch t = false :=
    Bool.eq_false_iff.mpr fun e => by have := (fetch0_2 t).mp e; omega
  obtain ⟨_, hix⟩ := (cfg0.win 2).index_eq_of_fetch rfl t hf
  rw [← before_2 m c t (fun _ => Classical.arbitrary _), ← before_2 m c _ (fun _ => Classical.arbitrary _),
    (dats m 0 c).before_in_eq_fetched 2 rfl (fun _ => rfl) (fun _ _ _ => rfl)
      (fun t => by rw [after_2]; unfold Dat.blockOf iblk; rw [A_eq]; try rfl),
    (dats m 0 c).before_in_eq_fetched 2 rfl (fun _ => rfl) (fun _ _ _ => rfl)
      (fun t => by rw [after_2]; unfold Dat.blockOf iblk; rw [A_eq]; try rfl)]
  exact (dats m 0 c).fetched_congr 2 hix rfl _
/-- Window 3's block does not move within a row block. -/
theorem iblk_prev_3 (c : Dev nD) (t : Fin cfg0.N) (h : ¬t.val % 15 = 0) :
    iblk m c 3 t = iblk m c 3 ⟨t.val - 1, Nat.lt_of_le_of_lt (Nat.sub_le _ _) t.isLt⟩ := by
  have hN : t.val < 120 := lt_of_lt_of_eq t.isLt (show cfg0.N = 120 from N_0)
  have hf : (cfg0.win 3).fetch t = false :=
    Bool.eq_false_iff.mpr fun e => by have := (fetch0_3 t).mp e; omega
  obtain ⟨_, hix⟩ := (cfg0.win 3).index_eq_of_fetch rfl t hf
  rw [← before_3 m c t (fun _ => Classical.arbitrary _), ← before_3 m c _ (fun _ => Classical.arbitrary _),
    (dats m 0 c).before_in_eq_fetched 3 rfl (fun _ => rfl) (fun _ _ _ => rfl)
      (fun t => by rw [after_3]; unfold Dat.blockOf iblk; rw [A_eq]; try rfl),
    (dats m 0 c).before_in_eq_fetched 3 rfl (fun _ => rfl) (fun _ _ _ => rfl)
      (fun t => by rw [after_3]; unfold Dat.blockOf iblk; rw [A_eq]; try rfl)]
  exact (dats m 0 c).fetched_congr 3 hix rfl _
/-- Window 5's block does not move within a row block. -/
theorem iblk_prev_5 (c : Dev nD) (t : Fin cfg0.N) (h : ¬t.val % 15 = 0) :
    iblk m c 5 t = iblk m c 5 ⟨t.val - 1, Nat.lt_of_le_of_lt (Nat.sub_le _ _) t.isLt⟩ := by
  have hN : t.val < 120 := lt_of_lt_of_eq t.isLt (show cfg0.N = 120 from N_0)
  have hf : (cfg0.win 5).fetch t = false :=
    Bool.eq_false_iff.mpr fun e => by have := (fetch0_5 t).mp e; omega
  obtain ⟨_, hix⟩ := (cfg0.win 5).index_eq_of_fetch rfl t hf
  rw [← before_5 m c t (fun _ => Classical.arbitrary _), ← before_5 m c _ (fun _ => Classical.arbitrary _),
    (dats m 0 c).before_in_eq_fetched 5 rfl (fun _ => rfl) (fun _ _ _ => rfl)
      (fun t => by rw [after_5]; unfold Dat.blockOf iblk; rw [A_eq]; try rfl),
    (dats m 0 c).before_in_eq_fetched 5 rfl (fun _ => rfl) (fun _ _ _ => rfl)
      (fun t => by rw [after_5]; unfold Dat.blockOf iblk; rw [A_eq]; try rfl)]
  exact (dats m 0 c).fetched_congr 5 hix rfl _

/-- Nor do the normalised rows; -/
theorem rows_prev (c : Dev nD) (t : Fin cfg0.N) (h : ¬t.val % 15 = 0) :
    rowsAt m c ⟨t.val - 1, Nat.lt_of_le_of_lt (Nat.sub_le _ _) t.isLt⟩ = rowsAt m c t := by
  unfold rowsAt
  rw [iblk_prev_0 m c t h, iblk_prev_1 m c t h, iblk_prev_2 m c t h, iblk_prev_3 m c t h]

/-- nor the second output's block. -/
theorem small_prev (c : Dev nD) (t : Fin cfg0.N) (h : ¬t.val % 15 = 0) :
    smallAt m c ⟨t.val - 1, Nat.lt_of_le_of_lt (Nat.sub_le _ _) t.isLt⟩ = smallAt m c t := by
  unfold smallAt
  rw [iblk_prev_0 m c t h, iblk_prev_1 m c t h, iblk_prev_2 m c t h, iblk_prev_3 m c t h, iblk_prev_5 m c t h]

/-- Through the points that leave it alone the second output's contents are carried. -/
theorem carry7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have h : ¬t.val % 15 = 0 := fun h => by rw [live7 t h] at hi; exact absurd hi Bool.false_ne_true
  rw [after_7, after_7]; exact (small_prev m c t h).symm

/-- After the first point of a row block the second output's buffer holds the row block's second output. -/
theorem before_7 (c : Dev nD) (t : Fin cfg0.N) (h : ¬t.val % 15 = 0) (d) : (dats m 0 c).before 7 t d = smallAt m c t := by
  rw [Dat.before_out_traj _ 7 rfl (fun _ _ => rfl) (carry7 m c) t.val t rfl d,
    if_neg (by rw [fresh7 t, show freshTab t.val = false from beq_eq_false_iff_ne.mpr h]; exact Bool.false_ne_true)]
  rw [after_7]; exact small_prev m c t h

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_0 (c : Dev nD) (t : Fin cfg0.N) :
    (dats m 0 c).leavesExact 0 t = owns (c : Thread nD τ) (ms0 t) fullShare (iblk m c 0 t) := by
  unfold Dat.leavesExact; rw [show cfg0.idle 0 (cfg0.grid.coords t) = false from rfl, after_0]
theorem leaves_1 (c : Dev nD) (t : Fin cfg0.N) :
    (dats m 0 c).leavesExact 1 t = owns (c : Thread nD τ) (ms1 t) fullShare (iblk m c 1 t) := by
  unfold Dat.leavesExact; rw [show cfg0.idle 1 (cfg0.grid.coords t) = false from rfl, after_1]
theorem leaves_2 (c : Dev nD) (t : Fin cfg0.N) :
    (dats m 0 c).leavesExact 2 t = owns (c : Thread nD τ) (ms2 t) fullShare (iblk m c 2 t) := by
  unfold Dat.leavesExact; rw [show cfg0.idle 2 (cfg0.grid.coords t) = false from rfl, after_2]
theorem leaves_3 (c : Dev nD) (t : Fin cfg0.N) :
    (dats m 0 c).leavesExact 3 t = owns (c : Thread nD τ) (ms3 t) fullShare (iblk m c 3 t) := by
  unfold Dat.leavesExact; rw [show cfg0.idle 3 (cfg0.grid.coords t) = false from rfl, after_3]
theorem leaves_4 (c : Dev nD) (t : Fin cfg0.N) :
    (dats m 0 c).leavesExact 4 t = owns (c : Thread nD τ) (ms4 t) fullShare (iblk m c 4 t) := by
  unfold Dat.leavesExact; rw [show cfg0.idle 4 (cfg0.grid.coords t) = false from rfl, after_4]
theorem leaves_5 (c : Dev nD) (t : Fin cfg0.N) :
    (dats m 0 c).leavesExact 5 t = owns (c : Thread nD τ) (ms5 t) fullShare (iblk m c 5 t) := by
  unfold Dat.leavesExact; rw [show cfg0.idle 5 (cfg0.grid.coords t) = false from rfl, after_5]
theorem leaves_6 (c : Dev nD) (t : Fin cfg0.N) :
    (dats m 0 c).leavesExact 6 t = owns (c : Thread nD τ) (ms6 t) fullShare (bigAt m c t) := by
  unfold Dat.leavesExact; rw [show cfg0.idle 6 (cfg0.grid.coords t) = false from rfl, after_6]
theorem leaves_7_first (c : Dev nD) (t : Fin cfg0.N) (h : t.val % 15 = 0) :
    (dats m 0 c).leavesExact 7 t = owns (c : Thread nD τ) (ms7 t) fullShare (smallAt m c t) := by
  unfold Dat.leavesExact; rw [live7 t h, after_7]

/-- Where the body leaves the second output alone, its buffer holding the row block's second output is all the obligation
    asks, written back there or not. -/
theorem leaves_7_later (c : Dev nD) (t : Fin cfg0.N) (h : ¬t.val % 15 = 0) :
    owns (c : Thread nD τ) (ms7 t) fullShare (smallAt m c t) ⊢ ((dats m 0 c).leavesExact 7 t : sProp 𝕄) := by
  unfold Dat.leavesExact; rw [idle7 t h]
  cases hf : (cfg0.win 7).flush t with
  | true => rw [after_7]
  | false =>
    simp only [before_7 m c t h]
    iintro H
    iexists (fun _ => Classical.arbitrary _)
    iexact H

set_option maxHeartbeats 6400000 in
/-- The body at any point: the inputs' buffers hold their blocks; at the first point of a row block `run_first` applies,
    elsewhere `run_later` at the scratch's rows and the second output the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ, Phi_castSucc]
  rw [leaves_0, leaves_1, leaves_2, leaves_3, leaves_4, leaves_5, leaves_6]
  by_cases h0 : t.val % 15 = 0
  · rw [leaves_7_first m c t h0]
    have hΦ : PhiS m c t.val (Nat.le_of_lt t.isLt)
        ⊢ iprop(iprop((∃ d, owns (c : Thread nD τ) scM fullShare d)) ∗ (∃ r, prngReg c r)) := by
      by_cases hz : t.val = 0
      · rw [PhiS_zero m c _ _ hz, PhiA_eq]
      · rw [PhiS_pos m c _ _ hz]
        iintro ⟨HS, Hg⟩
        isplitl [HS]
        · iexists _; iexact HS
        iexact Hg
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ := hΦ $$ HΦ
    icases HΦ with ⟨HS, Hg⟩
    iapply (run_first c (grid0.coords t) _ _ _ _ _ _ _ _ _ _ _ _ _ _ _ _ scM (Memref.isWhole_whole _) ((first_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun e => h0 (by rw [e])
    rw [PhiS_pos m c _ _ hz, rows_prev m c t h0]
    simp only [before_7 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ scM (Memref.isWhole_whole _) (fun h => h0 ((first_iff t).mp h)) (iblk m c 0 t) (iblk m c 1 t) (iblk m c 2 t) (iblk m c 3 t) (iblk m c 4 t) (iblk m c 5 t) (smallAt m c t) (rowsAt m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_7_later m c t h0)
    iexact H7

/-- The body table's row at point `t`'s slots is the body at point `t`. -/
theorem defs_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hN : cfg0.N = 120 := N_0
  rw [show (dats m 0 c).Φ (Fin.last cfg0.N) = PhiS m c cfg0.N (Nat.le_refl _) from rfl, PhiS_pos m c _ _ (by omega), PhiA_eq]
  iintro ⟨HS, Hg⟩
  isplitl [HS]
  · iexists _; iexact HS
  iexact Hg

/-! ## The run and the frame -/

set_option backward.isDefEq.respectTransparency.types false in
/-- The run: every array of the call ends at what the write-backs of the proof data's contents make of it, every other
    buffer as the region found it, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: the call runs to its end, keeps its arguments and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel2Ideal.Inproj

end
-- ==== Proof.Inproj.Value.lean ====
/- What the input projection's two output arrays hold after the call. Each output block is written back once, by one grid
   point, and the blocks written back tile the array; so each element of an output array is an element of the closed form
   of one point's block. -/
module

public import proofs.«01_k».proof.Proof.Inproj.Frame
public import Idealize.ShloMosaic.Lib.Pointwise

@[expose] public section

set_option maxRecDepth 16384

noncomputable section

namespace Cert.Kernel2Ideal.Inproj

open Cert.Kernel2Ideal Cert.Kernel2Ideal.Gen
open Idealize.ShloMosaic Idealize.ShloMosaic.TcCoe Idealize.SL.Sem
open Idealize.ShloMosaic.Pipeline (Dat Cfg Window)

variable {F : FTy → Type} [FloatOps F]

variable (m : (ℓ : Loc nD τ sig) → Buf (Elt F) ℓ) (ρ : Dev nD → PrngReg)

/-- Point `n` of the grid: row block `n / 15`, column block `n % 15`. -/
abbrev point (n : ℕ) (h : n < 120) : Fin cfg0.N := ⟨n, Nat.lt_of_lt_of_eq h N_0.symm⟩

/-- The point that computes the first output at an index. -/
abbrev bigPoint (i : S8192x15360.Idx) : Fin cfg0.N :=
  point (15 * ((i 0).val / 1024) + (i 1).val / 1024) (by
    have h0 : (i 0).val < 8192 := (i 0).isLt
    have h1 : (i 1).val < 15360 := (i 1).isLt
    omega)

/-- The point that writes back the second output at an index. -/
abbrev smallPoint (i : S8192x128.Idx) : Fin cfg0.N :=
  point (15 * ((i 0).val / 1024) + 14) (by have h0 : (i 0).val < 8192 := (i 0).isLt; omega)

/-- The first output: at each index, the closed form of the block that holds the index, at its place in the block. -/
def bigOut (c : Dev nD) : Buf (Elt F) ((c : Thread nD τ).loc main_v1_0) := fun i =>
  bigAt m c (bigPoint i) (ix2 (⟨(i 0).val % 1024, Nat.mod_lt _ (by decide)⟩ : Fin 1024) (⟨(i 1).val % 1024, Nat.mod_lt _ (by decide)⟩ : Fin 1024))

/-- The second output, likewise: its blocks are as wide as the array. -/
def smallOut (c : Dev nD) : Buf (Elt F) ((c : Thread nD τ).loc main_v1_1) := fun i =>
  smallAt m c (smallPoint i) (ix2 (⟨(i 0).val % 1024, Nat.mod_lt _ (by decide)⟩ : Fin 1024) (⟨(i 1).val, (i 1).isLt⟩ : Fin 128))

/-! ## Where the blocks lie -/

/-- The first output's block at a point: its row block and its column block. -/
theorem index_6 : ∀ t : Fin cfg0.N, win0_6.index t (0 : Fin 2) = t.val / 15 ∧ win0_6.index t (1 : Fin 2) = t.val % 15 :=
  (by decide +kernel : ∀ t : Fin grid0.N, _)

/-- The second output's block at a point: its row block. -/
theorem index_7 : ∀ t : Fin cfg0.N, win0_7.index t (0 : Fin 2) = t.val / 15 ∧ win0_7.index t (1 : Fin 2) = 0 :=
  (by decide +kernel : ∀ t : Fin grid0.N, _)

/-- An index lies in a point's block of the first output when each coordinate lies in the block's range. -/
theorem mem_6 (t : Fin cfg0.N) (i : S8192x15360.Idx)
    (h : ∀ a : Fin 2, win0_6.index t a * S1024x1024.size a ≤ (i a).val ∧ (i a).val < win0_6.index t a * S1024x1024.size a + S1024x1024.size a) :
    i ∈ ((cfg0.win 6).blk t).view.set := by
  show i ∈ ((View.whole main_v1_0).slice (win0_6.rect t)).set
  rw [View.set_slice_whole, Rect.mem_set_unit]
  exact h

/-- An index lies in a point's block of the second output when each coordinate lies in the block's range. -/
theorem mem_7 (t : Fin cfg0.N) (i : S8192x128.Idx)
    (h : ∀ a : Fin 2, win0_7.index t a * S1024x128.size a ≤ (i a).val ∧ (i a).val < win0_7.index t a * S1024x128.size a + S1024x128.size a) :
    i ∈ ((cfg0.win 7).blk t).view.set := by
  show i ∈ ((View.whole main_v1_1).slice (win0_7.rect t)).set
  rw [View.set_slice_whole, Rect.mem_set_unit]
  exact h

/-! ## The arrays after the call -/

/-- What a point writes back to the first output is its block of `bigOut`. -/
theorem flushed_6 (c : Dev nD) (t : Fin cfg0.N) (_ : (cfg0.win 6).flush t = true) :
    (dats m 0 c).flushed 6 t = ((cfg0.win 6).blk t).view.read (Elt F) (bigOut m c) := by
  show (cfg0.win 6).cut (grid0.coords t) ((dats m 0 c).after 6 t) = _
  rw [after_6]
  obtain ⟨e0, e1⟩ := index_6 t
  funext y
  have hy0 : (y 0).val < 1024 := (y 0).isLt
  have hy1 : (y 1).val < 1024 := (y 1).isLt
  have hb0 : (((cfg0.win 6).blk t).view.emb y 0).val = win0_6.index t (0 : Fin 2) * 1024 + 1 * (y 0).val := rfl
  have hb1 : (((cfg0.win 6).blk t).view.emb y 1).val = win0_6.index t (1 : Fin 2) * 1024 + 1 * (y 1).val := rfl
  have hp : bigPoint (((cfg0.win 6).blk t).view.emb y) = t := Fin.ext (by
    show 15 * ((((cfg0.win 6).blk t).view.emb y 0).val / 1024) + (((cfg0.win 6).blk t).view.emb y 1).val / 1024 = t.val
    rw [hb0, hb1, e0, e1]; omega)
  show bigAt m c t ((cfg0.win 6).xinj (grid0.coords t) y) = bigAt m c (bigPoint (((cfg0.win 6).blk t).view.emb y)) _
  rw [hp]
  refine congrArg (bigAt m c t) (funext fun a => Fin.ext ?_)
  match a with
  | ⟨0, _⟩ => show (y 0).val = (((cfg0.win 6).blk t).view.emb y 0).val % 1024; rw [hb0]; omega
  | ⟨1, _⟩ => show (y 1).val = (((cfg0.win 6).blk t).view.emb y 1).val % 1024; rw [hb1]; omega

/-- What a row block's last point writes back to the second output is its block of `smallOut`. -/
theorem flushed_7 (c : Dev nD) (t : Fin cfg0.N) (hf : (cfg0.win 7).flush t = true) :
    (dats m 0 c).flushed 7 t = ((cfg0.win 7).blk t).view.read (Elt F) (smallOut m c) := by
  show (cfg0.win 7).cut (grid0.coords t) ((dats m 0 c).after 7 t) = _
  rw [after_7]
  obtain ⟨e0, e1⟩ := index_7 t
  have hm : t.val % 15 = 14 := (flush0_7 t).mp hf
  funext y
  have hy0 : (y 0).val < 1024 := (y 0).isLt
  have hy1 : (y 1).val < 128 := (y 1).isLt
  have hb0 : (((cfg0.win 7).blk t).view.emb y 0).val = win0_7.index t (0 : Fin 2) * 1024 + 1 * (y 0).val := rfl
  have hb1 : (((cfg0.win 7).blk t).view.emb y 1).val = win0_7.index t (1 : Fin 2) * 128 + 1 * (y 1).val := rfl
  have hp : smallPoint (((cfg0.win 7).blk t).view.emb y) = t := Fin.ext (by
    show 15 * ((((cfg0.win 7).blk t).view.emb y 0).val / 1024) + 14 = t.val
    rw [hb0, e0]; omega)
  show smallAt m c t ((cfg0.win 7).xinj (grid0.coords t) y) = smallAt m c (smallPoint (((cfg0.win 7).blk t).view.emb y)) _
  rw [hp]
  refine congrArg (smallAt m c t) (funext fun a => Fin.ext ?_)
  match a with
  | ⟨0, _⟩ => show (y 0).val = (((cfg0.win 7).blk t).view.emb y 0).val % 1024; rw [hb0]; omega
  | ⟨1, _⟩ => show (y 1).val = (((cfg0.win 7).blk t).view.emb y 1).val; rw [hb1, e1]; omega

/-- The first output array after the call. -/
theorem final_6 (c : Dev nD) : (dats m 0 c).arrAt 6 cfg0.N = bigOut m c :=
  (dats m 0 c).arrAt_eq_of_cover 6 _ (flushed_6 m c) fun i => by
    have h0 : (i 0).val < 8192 := (i 0).isLt
    have h1 : (i 1).val < 15360 := (i 1).isLt
    refine ⟨bigPoint i, flush0_6 _, mem_6 _ i ?_⟩
    obtain ⟨e0, e1⟩ := index_6 (bigPoint i)
    intro a
    match a with
    | ⟨0, _⟩ =>
      show win0_6.index (bigPoint i) (0 : Fin 2) * 1024 ≤ (i 0).val ∧ (i 0).val < win0_6.index (bigPoint i) (0 : Fin 2) * 1024 + 1024
      rw [e0]; dsimp only [bigPoint, point]; omega
    | ⟨1, _⟩ =>
      show win0_6.index (bigPoint i) (1 : Fin 2) * 1024 ≤ (i 1).val ∧ (i 1).val < win0_6.index (bigPoint i) (1 : Fin 2) * 1024 + 1024
      rw [e1]; dsimp only [bigPoint, point]; omega

/-- The second output array after the call. -/
theorem final_7 (c : Dev nD) : (dats m 0 c).arrAt 7 cfg0.N = smallOut m c :=
  (dats m 0 c).arrAt_eq_of_cover 7 _ (flushed_7 m c) fun i => by
    have h0 : (i 0).val < 8192 := (i 0).isLt
    have h1 : (i 1).val < 128 := (i 1).isLt
    refine ⟨smallPoint i, (flush0_7 _).mpr (by dsimp only [smallPoint, point]; omega), mem_7 _ i ?_⟩
    obtain ⟨e0, e1⟩ := index_7 (smallPoint i)
    intro a
    match a with
    | ⟨0, _⟩ =>
      show win0_7.index (smallPoint i) (0 : Fin 2) * 1024 ≤ (i 0).val ∧ (i 0).val < win0_7.index (smallPoint i) (0 : Fin 2) * 1024 + 1024
      rw [e0]; dsimp only [smallPoint, point]; omega
    | ⟨1, _⟩ =>
      show win0_7.index (smallPoint i) (1 : Fin 2) * 128 ≤ (i 1).val ∧ (i 1).val < win0_7.index (smallPoint i) (1 : Fin 2) * 128 + 128
      rw [e1]; omega

/-- An argument that a window reads keeps its contents: no point writes an input's array. -/
theorem kept (r : PUnit × MemSt nD τ sig (Elt F)) (h : Pipeline.FramePost cfgs (dats m) 0 (V m) r) (c : Dev nD) (w : Fin cfg0.W)
    (hw : (cfg0.win w).isOut = false) :
    r.2.mem ((c : Thread nD τ).loc (Pipeline.arrRef spec0 w)) = V m c (Pipeline.arrRef spec0 w) :=
  ((h c).1 w).trans (((dats m 0 c).arrAt_in w hw _).trans (A_eq m c w))

/-- The call from any memory: the output arrays end holding `bigOut` and `smallOut`, the arguments what they held. -/
theorem run_value : θ_run defs (onTc (τ := τ) (main (F := F))) ⟨m, fun _ => 0, ρ⟩ fun r => ∀ c : Dev nD,
      r.2.mem ((c : Thread nD τ).loc main_v1_0) = bigOut m c
      ∧ r.2.mem ((c : Thread nD τ).loc main_v1_1) = smallOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final_6 m c),
      ((h c).1 7).trans (final_7 m c),
      (kept m r h c 0 rfl).trans (V_main_arg0 m c),
      ((h c).2 main_arg1 (Pipeline.mem_restRefs_of main_arg1 (by decide) (by decide))).trans (V_main_arg1 m c),
      (kept m r h c 2 rfl).trans (V_main_arg2 m c),
      (kept m r h c 3 rfl).trans (V_main_arg3 m c),
      (kept m r h c 4 rfl).trans (V_main_arg4 m c),
      (kept m r h c 5 rfl).trans (V_main_arg5 m c)⟩)
    (run_main m ρ)

end Cert.Kernel2Ideal.Inproj

end
-- ==== Proof.Inproj.Algebra.lean ====
/- The input projection's call computes its reference over the reals extended by ±∞: each element of the two output arrays
   is the sum of products that the reference's element is. -/
module

public import proofs.«01_k».proof.Proof.Inproj.Value
public import proofs.«01_k».proof.Proof.Inproj.Host
public import proofs.«01_k».proof.Defs

@[expose] public section

set_option maxRecDepth 16384

noncomputable section

namespace Cert.Kernel2Ideal.Inproj

open Cert.Kernel2Ideal Cert.Kernel2Ideal.Gen
open Idealize.ShloMosaic Idealize.ShloMosaic.TcCoe Idealize.SL.Sem
open Cert.Reference2Ideal.Inproj (modNorm)

/-! ## The body's values, element by element -/

/-- An element of the rows a row block's first point leaves in the scratch. -/
theorem rows_apply (x : Vec Ideal S1024x2048 .f32) (g sc sh : Vec Ideal S1x2048 .f32) (a : Fin 1024) (k : Fin 2048) :
    k0_pay1 x g sc sh (ix2 a k) = modNorm (fun k => x (ix2 a k)) (x (ix2 a k)) (g (ix2 0 k)) (sc (ix2 0 k)) (sh (ix2 0 k)) := by
  pointwise! [k0_pay1, modNorm]

/-- An element of a point's block of the first output. -/
theorem big_apply (x : Vec Ideal S1024x2048 .f32) (g sc sh : Vec Ideal S1x2048 .f32) (w : Vec Ideal S2048x1024 .bf16) (a b : Fin 1024) :
    k0_pay4 (k0_pay2 x g sc sh) w (ix2 a b)
      = ∑ k : Fin 2048, modNorm (fun k => x (ix2 a k)) (x (ix2 a k)) (g (ix2 0 k)) (sc (ix2 0 k)) (sh (ix2 0 k)) * w (ix2 k b) := by
  pointwise [k0_pay4, k0_pay2]
  simp only [rows_apply]

/-- An element of a row block's part of the second output. -/
theorem small_apply (x : Vec Ideal S1024x2048 .f32) (g sc sh : Vec Ideal S1x2048 .f32) (w : Vec Ideal S128x2048 .f32) (a : Fin 1024) (b : Fin 128) :
    k0_pay3 x g sc sh w (ix2 a b)
      = ∑ k : Fin 2048, modNorm (fun k => x (ix2 a k)) (x (ix2 a k)) (g (ix2 0 k)) (sc (ix2 0 k)) (sh (ix2 0 k)) * w (ix2 b k) := by
  pointwise [k0_pay3]
  simp only [rows_apply]

/-! ## The blocks, read off the arguments -/

variable (m : (ℓ : Loc nD τ sig) → Buf (Elt Ideal) ℓ)

/-- The gain as the call's window finds it: the argument as one row. -/
theorem gain_row (c : Dev nD) : V m c main_v0 = shapeCast S1x2048 (m ((c : Thread nD τ).loc main_arg1) : Vec Ideal S2048 .f32) shapeCasts_S2048_S1x2048 := by
  show StableHlo.after hostOps0 _ _ = _
  after_results
  rfl

/-- Where each input's block lies at a point. -/
theorem index_in : ∀ t : Fin cfg0.N,
    (win0_0.index t (0 : Fin 2) = t.val / 15 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = t.val % 15)
    ∧ (win0_5.index t (0 : Fin 2) = 0 ∧ win0_5.index t (1 : Fin 2) = 0) :=
  (by decide +kernel : ∀ t : Fin grid0.N, _)

/-- The rows' block at a point holds the row block's rows. -/
theorem block_rows (c : Dev nD) (t : Fin cfg0.N) (a : Fin 1024) (k : Fin 2048) (r : Fin 8192) (hr : r.val = t.val / 15 * 1024 + a.val) :
    iblk m c 0 t (ix2 a k) = (m ((c : Thread nD τ).loc main_arg0) : Vec Ideal S8192x2048 .f32) (ix2 r k) := by
  obtain ⟨⟨e0, e1⟩, -⟩ := index_in t
  show V m c main_arg0 (((cfg0.win 0).blk t).view.emb (ix2 a k)) = _
  rw [V_main_arg0]
  refine congrArg (m ((c : Thread nD τ).loc main_arg0) : Vec Ideal S8192x2048 .f32) (funext fun d => Fin.ext ?_)
  match d with
  | ⟨0, _⟩ => show win0_0.index t (0 : Fin 2) * 1024 + 1 * a.val = r.val; rw [e0]; omega
  | ⟨1, _⟩ => show win0_0.index t (1 : Fin 2) * 2048 + 1 * k.val = k.val; rw [e1]; omega

/-- The gain's block at a point is the whole gain. -/
theorem block_gain (c : Dev nD) (t : Fin cfg0.N) (k : Fin 2048) :
    iblk m c 1 t (ix2 0 k) = (m ((c : Thread nD τ).loc main_arg1) : Vec Ideal S2048 .f32) (ix1 k) := by
  obtain ⟨-, ⟨e0, e1⟩, -⟩ := index_in t
  have h : ((cfg0.win 1).blk t).view.emb (ix2 0 k) = ix2 (0 : Fin 1) k := funext fun d => Fin.ext (by
    match d with
    | ⟨0, _⟩ => show win0_1.index t (0 : Fin 2) * 1 + 1 * 0 = 0; rw [e0]
    | ⟨1, _⟩ => show win0_1.index t (1 : Fin 2) * 2048 + 1 * k.val = k.val; rw [e1]; omega)
  show V m c main_v0 (((cfg0.win 1).blk t).view.emb (ix2 0 k)) = _
  rw [h, gain_row]
  pointwise []

/-- The scale's block at a point is the whole scale. -/
theorem block_scale (c : Dev nD) (t : Fin cfg0.N) (k : Fin 2048) :
    iblk m c 2 t (ix2 0 k) = (m ((c : Thread nD τ).loc main_arg2) : Vec Ideal S1x2048 .f32) (ix2 0 k) := by
  obtain ⟨-, -, ⟨e0, e1⟩, -⟩ := index_in t
  show V m c main_arg2 (((cfg0.win 2).blk t).view.emb (ix2 0 k)) = _
  rw [V_main_arg2]
  refine congrArg (m ((c : Thread nD τ).loc main_arg2) : Vec Ideal S1x2048 .f32) (funext fun d => Fin.ext ?_)
  match d with
  | ⟨0, _⟩ => show win0_2.index t (0 : Fin 2) * 1 + 1 * 0 = 0; rw [e0]
  | ⟨1, _⟩ => show win0_2.index t (1 : Fin 2) * 2048 + 1 * k.val = k.val; rw [e1]; omega

/-- The shift's block at a point is the whole shift. -/
theorem block_shift (c : Dev nD) (t : Fin cfg0.N) (k : Fin 2048) :
    iblk m c 3 t (ix2 0 k) = (m ((c : Thread nD τ).loc main_arg3) : Vec Ideal S1x2048 .f32) (ix2 0 k) := by
  obtain ⟨-, -, -, ⟨e0, e1⟩, -⟩ := index_in t
  show V m c main_arg3 (((cfg0.win 3).blk t).view.emb (ix2 0 k)) = _
  rw [V_main_arg3]
  refine congrArg (m ((c : Thread nD τ).loc main_arg3) : Vec Ideal S1x2048 .f32) (funext fun d => Fin.ext ?_)
  match d with
  | ⟨0, _⟩ => show win0_3.index t (0 : Fin 2) * 1 + 1 * 0 = 0; rw [e0]
  | ⟨1, _⟩ => show win0_3.index t (1 : Fin 2) * 2048 + 1 * k.val = k.val; rw [e1]; omega

/-- The big weights' block at a point holds the column block's columns. -/
theorem block_big (c : Dev nD) (t : Fin cfg0.N) (k : Fin 2048) (b : Fin 1024) (q : Fin 15360) (hq : q.val = t.val % 15 * 1024 + b.val) :
    iblk m c 4 t (ix2 k b) = (m ((c : Thread nD τ).loc main_arg4) : Vec Ideal S2048x15360 .bf16) (ix2 k q) := by
  obtain ⟨-, -, -, -, ⟨e0, e1⟩, -⟩ := index_in t
  show V m c main_arg4 (((cfg0.win 4).blk t).view.emb (ix2 k b)) = _
  rw [V_main_arg4]
  refine congrArg (m ((c : Thread nD τ).loc main_arg4) : Vec Ideal S2048x15360 .bf16) (funext fun d => Fin.ext ?_)
  match d with
  | ⟨0, _⟩ => show win0_4.index t (0 : Fin 2) * 2048 + 1 * k.val = k.val; rw [e0]; omega
  | ⟨1, _⟩ => show win0_4.index t (1 : Fin 2) * 1024 + 1 * b.val = q.val; rw [e1]; omega

/-- The small weights' block at a point is the whole of them. -/
theorem block_small (c : Dev nD) (t : Fin cfg0.N) (b : Fin 128) (k : Fin 2048) :
    iblk m c 5 t (ix2 b k) = (m ((c : Thread nD τ).loc main_arg5) : Vec Ideal S128x2048 .f32) (ix2 b k) := by
  obtain ⟨-, -, -, -, -, e0, e1⟩ := index_in t
  show V m c main_arg5 (((cfg0.win 5).blk t).view.emb (ix2 b k)) = _
  rw [V_main_arg5]
  refine congrArg (m ((c : Thread nD τ).loc main_arg5) : Vec Ideal S128x2048 .f32) (funext fun d => Fin.ext ?_)
  match d with
  | ⟨0, _⟩ => show win0_5.index t (0 : Fin 2) * 128 + 1 * b.val = b.val; rw [e0]; omega
  | ⟨1, _⟩ => show win0_5.index t (1 : Fin 2) * 2048 + 1 * k.val = k.val; rw [e1]; omega

/-! ## The arrays, element by element -/

/-- The first output array is the reference's first result at the same arguments. -/
theorem bigOut_eq (c : Dev nD) : bigOut m c = Cert.Reference2Ideal.Inproj.big (m ((c : Thread nD τ).loc main_arg0)) (m ((c : Thread nD τ).loc main_arg1))
    (m ((c : Thread nD τ).loc main_arg2)) (m ((c : Thread nD τ).loc main_arg3)) (m ((c : Thread nD τ).loc main_arg4)) := by
  funext (i : S8192x15360.Idx)
  obtain ⟨r, q, rfl⟩ : ∃ (r : Fin 8192) (q : Fin 15360), i = ix2 r q := ⟨i 0, i 1, eq_ix2 i⟩
  have hr : r.val = (15 * (r.val / 1024) + q.val / 1024) / 15 * 1024 + r.val % 1024 := by omega
  have hq : q.val = (15 * (r.val / 1024) + q.val / 1024) % 15 * 1024 + q.val % 1024 := by omega
  rw [Cert.Reference2Ideal.Inproj.big_apply]
  show k0_pay4 (k0_pay2 (iblk m c 0 (bigPoint (ix2 r q))) (iblk m c 1 (bigPoint (ix2 r q))) (iblk m c 2 (bigPoint (ix2 r q)))
    (iblk m c 3 (bigPoint (ix2 r q)))) (iblk m c 4 (bigPoint (ix2 r q)))
    (ix2 (⟨r.val % 1024, Nat.mod_lt _ (by decide)⟩ : Fin 1024) (⟨q.val % 1024, Nat.mod_lt _ (by decide)⟩ : Fin 1024)) = _
  rw [big_apply]
  refine Finset.sum_congr rfl fun k _ => ?_
  simp only [block_rows m c (bigPoint (ix2 r q)) ⟨r.val % 1024, Nat.mod_lt _ (by decide)⟩ _ r hr, block_gain, block_scale, block_shift,
    block_big m c (bigPoint (ix2 r q)) k ⟨q.val % 1024, Nat.mod_lt _ (by decide)⟩ q hq]

/-- The second output array is the reference's second result at the same arguments. -/
theorem smallOut_eq (c : Dev nD) : smallOut m c = Cert.Reference2Ideal.Inproj.small (m ((c : Thread nD τ).loc main_arg0)) (m ((c : Thread nD τ).loc main_arg1))
    (m ((c : Thread nD τ).loc main_arg2)) (m ((c : Thread nD τ).loc main_arg3)) (m ((c : Thread nD τ).loc main_arg5)) := by
  funext (i : S8192x128.Idx)
  obtain ⟨r, q, rfl⟩ : ∃ (r : Fin 8192) (q : Fin 128), i = ix2 r q := ⟨i 0, i 1, eq_ix2 i⟩
  have hr : r.val = (15 * (r.val / 1024) + 14) / 15 * 1024 + r.val % 1024 := by omega
  rw [Cert.Reference2Ideal.Inproj.small_apply]
  show k0_pay3 (iblk m c 0 (smallPoint (ix2 r q))) (iblk m c 1 (smallPoint (ix2 r q))) (iblk m c 2 (smallPoint (ix2 r q)))
    (iblk m c 3 (smallPoint (ix2 r q))) (iblk m c 5 (smallPoint (ix2 r q)))
    (ix2 (⟨r.val % 1024, Nat.mod_lt _ (by decide)⟩ : Fin 1024) q) = _
  rw [small_apply]
  refine Finset.sum_congr rfl fun k _ => ?_
  simp only [block_rows m c (smallPoint (ix2 r q)) ⟨r.val % 1024, Nat.mod_lt _ (by decide)⟩ _ r hr, block_gain, block_scale, block_shift, block_small]

/-- From memories that agree on the six arguments, the call and its reference end with the same two results, and each
    leaves its arguments as they were. -/
theorem algebraic : Cert.algebraic_Kernel2Ideal_Reference2Ideal := by
  intro m g m' g' _ he
  refine ⟨fun c => bigOut m c, fun c => smallOut m c, run_value m g, ?_⟩
  refine (θ_run _ _ _).mono (fun r h c => ?_) (Cert.Reference2Ideal.Value.run (F := Ideal) m' g')
  obtain ⟨h0, h1, hargs⟩ := h c
  obtain ⟨e0, e1, e2, e3, e4, e5⟩ := he c
  refine ⟨h0.trans ?_, h1.trans ?_, hargs⟩
  · rw [e0, e1, e2, e3, e4]; exact (bigOut_eq m c).symm
  · rw [e0, e1, e2, e3, e5]; exact (smallOut_eq m c).symm

end Cert.Kernel2Ideal.Inproj

end
-- ==== Proof.Outproj.Host.lean ====
/- The output projection's reference over the reals extended by ±∞, element by element: the residual stream with the
   mixer's result added, its modulated norm, and the router's logits. -/
module

public import proofs.«01_k».proof.Proof.Inproj.Host
public import proofs.«01_k».proof.Proof.Gen.Reference3Ideal.Run
public import Idealize.ShloMosaic.Lib.Pointwise

@[expose] public section

set_option maxRecDepth 16384

noncomputable section

namespace Cert.Reference3Ideal.Outproj

open Cert.Reference3Ideal Cert.Reference3Ideal.Gen
open Idealize.ShloMosaic Idealize.ShloMosaic.TcCoe Idealize.SL.Sem
open Cert.Reference2Ideal.Inproj (modNorm)

/-- The reference's first result: the residual stream. -/
abbrev stream (mixed : Vec Ideal S8192x2048 .bf16) (x : Vec Ideal S8192x2048 .f32) (w : Vec Ideal S2048x2048 .bf16) (g1 : Vec Ideal S1x2048 .f32) :
    FVec Ideal S8192x2048 .f32 :=
  addf x (mulf (broadcastInDim S8192x2048 ![0, 1] bcast_S1x2048_S8192x2048_0_1 g1) (Host.dotGeneral dot_S8192x2048_S2048x2048_S8192x2048_1_0_0_1_n_n none (extf .f32 mixed bitsLt_bf16_f32) (extf .f32 w bitsLt_bf16_f32)))

/-- The modulated norm of a stream, as the reference's operations compose it. -/
abbrev normed (y : Vec Ideal S8192x2048 .f32) (g : Vec Ideal S2048 .f32) (sc sh : Vec Ideal S1x2048 .f32) : FVec Ideal S8192x2048 .f32 :=
  addf (mulf (mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) (broadcastInDim S8192x2048 ![0, 1] bcast_S1x2048_S8192x2048_0_1 (addf (broadcastInDim S1x2048 ![] bcast_S_S1x2048 (constant S_ .f32 0x3F800000#32)) sc))) (broadcastInDim S8192x2048 ![0, 1] bcast_S1x2048_S8192x2048_0_1 sh)

/-- The router's logits of normed rows, one row per expert. -/
abbrev logits (h : Vec Ideal S8192x2048 .f32) (wr : Vec Ideal S64x2048 .f32) : FVec Ideal S64x8192 .f32 :=
  transpose S64x8192 [1, 0] (Host.dotGeneral (φ₁ := .f32) (φ₂ := .f32) dot_S8192x2048_S2048x64_S8192x64_1_0_0_1_n_n none h (transpose S2048x64 [1, 0] wr transposes_S64x2048_S2048x64_1_0)) transposes_S8192x64_S64x8192_1_0

/-- An element of the stream. -/
theorem stream_apply (mixed : Vec Ideal S8192x2048 .bf16) (x : Vec Ideal S8192x2048 .f32) (w : Vec Ideal S2048x2048 .bf16) (g1 : Vec Ideal S1x2048 .f32)
    (r : Fin 8192) (q : Fin 2048) :
    stream mixed x w g1 (ix2 r q) = x (ix2 r q) + g1 (ix2 0 q) * ∑ k : Fin 2048, mixed (ix2 r k) * w (ix2 k q) := by
  pointwise!

/-- An element of the modulated norm. -/
theorem normed_apply (y : Vec Ideal S8192x2048 .f32) (g : Vec Ideal S2048 .f32) (sc sh : Vec Ideal S1x2048 .f32) (r : Fin 8192) (q : Fin 2048) :
    normed y g sc sh (ix2 r q) = modNorm (fun k => y (ix2 r k)) (y (ix2 r q)) (g (ix1 q)) (sc (ix2 0 q)) (sh (ix2 0 q)) := by
  pointwise! [modNorm]

/-- An element of the logits. -/
theorem logits_apply (h : Vec Ideal S8192x2048 .f32) (wr : Vec Ideal S64x2048 .f32) (e : Fin 64) (r : Fin 8192) :
    logits h wr (ix2 e r) = ∑ k : Fin 2048, h (ix2 r k) * wr (ix2 e k) := by
  pointwise!

end Cert.Reference3Ideal.Outproj

end
-- ==== Proof.Outproj.Value.lean ====
/- The blocks of the output projection's call over the reals extended by ±∞: what each input's block holds of its
   argument, and what a point leaves of each output, element by element. -/
module

public import proofs.«01_k».proof.Proof.Gen.Kernel3Ideal.Value
public import proofs.«01_k».proof.Proof.Outproj.Host
public import proofs.«01_k».proof.Proof.Outproj.Real

@[expose] public section

set_option maxRecDepth 16384

noncomputable section

namespace Cert.Kernel3Ideal.Outproj

open Cert.Kernel3Ideal Cert.Kernel3Ideal.Gen
open Idealize.ShloMosaic Idealize.ShloMosaic.TcCoe Idealize.SL.Sem
open Idealize.ShloMosaic.Pipeline (Dat Cfg Window)
open Cert.Outproj (IsReal)
open Cert.Reference2Ideal.Inproj (modNorm)

/-! ## The body's values, element by element -/

/-- An element of the stream a point computes. -/
theorem stream_apply (x : Vec Ideal S512x2048 .f32) (g1 : Vec Ideal S1x2048 .f32) (mixed : Vec Ideal S512x2048 .bf16) (w : Vec Ideal S2048x2048 .bf16)
    (a : Fin 512) (q : Fin 2048) :
    k0_pay2 x g1 mixed w (ix2 a q) = x (ix2 a q) + g1 (ix2 0 q) * ∑ k : Fin 2048, mixed (ix2 a k) * w (ix2 k q) := by
  pointwise [k0_pay2]

/-- An element of the modulated norm of that stream. -/
theorem normed_apply (x : Vec Ideal S512x2048 .f32) (g1 : Vec Ideal S1x2048 .f32) (mixed : Vec Ideal S512x2048 .bf16) (w : Vec Ideal S2048x2048 .bf16)
    (g sc sh : Vec Ideal S1x2048 .f32) (a : Fin 512) (q : Fin 2048) :
    k0_pay3 x g1 mixed w g sc sh (ix2 a q)
      = modNorm (fun k => k0_pay2 x g1 mixed w (ix2 a k)) (k0_pay2 x g1 mixed w (ix2 a q)) (g (ix2 0 q)) (sc (ix2 0 q)) (sh (ix2 0 q)) := by
  pointwise! [k0_pay3, modNorm]

/-- An element of the logits, as the three products of rounded parts and remainders that make it up. -/
theorem logits_parts (h : Vec Ideal S512x2048 .f32) (wr : Vec Ideal S64x2048 .f32) (e : Fin 64) (a : Fin 512) :
    k0_pay1 h wr (ix2 e a) = (∑ k : Fin 2048, wr (ix2 e k) * h (ix2 a k)) + (∑ k : Fin 2048, wr (ix2 e k) * (h (ix2 a k) - h (ix2 a k)))
      + ∑ k : Fin 2048, (wr (ix2 e k) - wr (ix2 e k)) * h (ix2 a k) := by
  pointwise [k0_pay1]

/-- Of real numbers the remainders are nothing, so the logits are the one product. -/
theorem logits_apply (h : Vec Ideal S512x2048 .f32) (wr : Vec Ideal S64x2048 .f32) (e : Fin 64) (a : Fin 512)
    (hh : ∀ k : Fin 2048, IsReal (h (ix2 a k))) (hw : ∀ k : Fin 2048, IsReal (wr (ix2 e k))) :
    k0_pay1 h wr (ix2 e a) = ∑ k : Fin 2048, h (ix2 a k) * wr (ix2 e k) := by
  have h1 : ∑ k : Fin 2048, wr (ix2 e k) * (h (ix2 a k) - h (ix2 a k)) = 0 :=
    Finset.sum_eq_zero fun k _ => by rw [(hh k).sub_self, mul_zero]
  have h2 : ∑ k : Fin 2048, (wr (ix2 e k) - wr (ix2 e k)) * h (ix2 a k) = 0 :=
    Finset.sum_eq_zero fun k _ => by rw [(hw k).sub_self, zero_mul]
  rw [logits_parts, h1, h2, add_zero, add_zero]
  exact Finset.sum_congr rfl fun k _ => mul_comm _ _

/-! ## What a point leaves in the output blocks -/

/-- One store that covers the whole of a block leaves its value. -/
theorem canon_whole {S : Shape} {φ : EltTy} {off : Fin S.rank → Nat} (h : off = fun _ => 0) (inb : ∀ a, off a + S.size a ≤ S.size a)
    (w : S.Idx → Elt Ideal φ) (y : S.Idx) : View.canon (Val := Elt Ideal) (e := φ) [⟨Rect.unit off S.size inb, w⟩] y = w y := by
  subst h
  have e : (Rect.whole S).emb y = y := Rect.emb_whole_apply S y
  refine (congrArg (View.canon (Val := Elt Ideal) (e := φ) [⟨Rect.whole S, w⟩]) e.symm).trans ?_
  exact View.canon_cons_emb (Rect.whole S) w [] y

theorem zeros : (![0, 0] : Fin 2 → Nat) = fun _ => 0 := by decide

section Left
variable (x0 : Vec Ideal S512x2048 .bf16) (x1 : Vec Ideal S512x2048 .f32) (x2 : Vec Ideal S2048x2048 .bf16) (x3 x4 x5 x6 : Vec Ideal S1x2048 .f32)
  (x7 : Vec Ideal S64x2048 .f32)

theorem out8_eq (y : S512x2048.Idx) : out0_8 x0 x1 x2 x3 x4 x5 x6 x7 y = k0_pay2 x1 x3 x0 x2 y := by
  unfold out0_8 r0_0 r0_1 r0_2
  rw [View.ld_unit_zero zeros, View.ld_unit_zero zeros, View.ld_unit_zero zeros, View.ld_unit_zero zeros]
  exact canon_whole zeros _ _ y

theorem out9_eq (y : S512x2048.Idx) : out0_9 x0 x1 x2 x3 x4 x5 x6 x7 y = k0_pay3 x1 x3 x0 x2 x4 x5 x6 y := by
  unfold out0_9 r0_0 r0_1 r0_2
  rw [View.ld_unit_zero zeros, View.ld_unit_zero zeros, View.ld_unit_zero zeros, View.ld_unit_zero zeros, View.ld_unit_zero zeros,
    View.ld_unit_zero zeros, View.ld_unit_zero zeros]
  exact canon_whole zeros _ _ y

theorem out10_eq (y : S64x512.Idx) : out0_10 x0 x1 x2 x3 x4 x5 x6 x7 y = k0_pay1 (k0_pay3 x1 x3 x0 x2 x4 x5 x6) x7 y := by
  unfold out0_10 r0_0 r0_1 r0_2 r0_3 r0_4
  rw [View.ld_unit_zero zeros, View.ld_unit_zero zeros, View.ld_unit_zero zeros, View.ld_unit_zero zeros, View.ld_unit_zero zeros,
    View.ld_unit_zero zeros, View.ld_unit_zero zeros, View.ld_unit_zero zeros]
  exact canon_whole zeros _ _ y

end Left

/-! ## The blocks, read off the arguments -/

variable (m : (ℓ : Loc nD τ sig) → Buf (Elt Ideal) ℓ)

/-- The gain as the call's window finds it: the argument as one row. -/
theorem gain_row (c : Dev nD) : V m c main_v0 = shapeCast S1x2048 (m ((c : Thread nD τ).loc main_arg4) : Vec Ideal S2048 .f32) shapeCasts_S2048_S1x2048 := by
  show StableHlo.after hostOps0 _ _ = _
  after_results
  rfl

/-- Where each window's block lies at a point. -/
theorem index_at : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = 0 ∧ win0_10.index t (1 : Fin 2) = t.val) :=
  (by decide +kernel : ∀ t : Fin grid0.N, _)

/-- The mixer's result's block at a point holds the row block's rows. -/
theorem block_mixed (c : Dev nD) (t : Fin cfg0.N) (a : Fin 512) (k : Fin 2048) (r : Fin 8192) (hr : r.val = t.val * 512 + a.val) :
    iblk m c 0 t (ix2 a k) = (m ((c : Thread nD τ).loc main_arg0) : Vec Ideal S8192x2048 .bf16) (ix2 r k) := by
  obtain ⟨⟨e0, e1⟩, -⟩ := index_at t
  show V m c main_arg0 (((cfg0.win 0).blk t).view.emb (ix2 a k)) = _
  rw [V_main_arg0]
  refine congrArg (m ((c : Thread nD τ).loc main_arg0) : Vec Ideal S8192x2048 .bf16) (funext fun d => Fin.ext ?_)
  match d with
  | ⟨0, _⟩ => show win0_0.index t (0 : Fin 2) * 512 + 1 * a.val = r.val; rw [e0]; omega
  | ⟨1, _⟩ => show win0_0.index t (1 : Fin 2) * 2048 + 1 * k.val = k.val; rw [e1]; omega

/-- The stream's block at a point likewise. -/
theorem block_rows (c : Dev nD) (t : Fin cfg0.N) (a : Fin 512) (k : Fin 2048) (r : Fin 8192) (hr : r.val = t.val * 512 + a.val) :
    iblk m c 1 t (ix2 a k) = (m ((c : Thread nD τ).loc main_arg1) : Vec Ideal S8192x2048 .f32) (ix2 r k) := by
  obtain ⟨-, ⟨e0, e1⟩, -⟩ := index_at t
  show V m c main_arg1 (((cfg0.win 1).blk t).view.emb (ix2 a k)) = _
  rw [V_main_arg1]
  refine congrArg (m ((c : Thread nD τ).loc main_arg1) : Vec Ideal S8192x2048 .f32) (funext fun d => Fin.ext ?_)
  match d with
  | ⟨0, _⟩ => show win0_1.index t (0 : Fin 2) * 512 + 1 * a.val = r.val; rw [e0]; omega
  | ⟨1, _⟩ => show win0_1.index t (1 : Fin 2) * 2048 + 1 * k.val = k.val; rw [e1]; omega

/-- The weights' block at a point is the whole of them. -/
theorem block_weights (c : Dev nD) (t : Fin cfg0.N) (k q : Fin 2048) :
    iblk m c 2 t (ix2 k q) = (m ((c : Thread nD τ).loc main_arg2) : Vec Ideal S2048x2048 .bf16) (ix2 k q) := by
  obtain ⟨-, -, ⟨e0, e1⟩, -⟩ := index_at t
  show V m c main_arg2 (((cfg0.win 2).blk t).view.emb (ix2 k q)) = _
  rw [V_main_arg2]
  refine congrArg (m ((c : Thread nD τ).loc main_arg2) : Vec Ideal S2048x2048 .bf16) (funext fun d => Fin.ext ?_)
  match d with
  | ⟨0, _⟩ => show win0_2.index t (0 : Fin 2) * 2048 + 1 * k.val = k.val; rw [e0]; omega
  | ⟨1, _⟩ => show win0_2.index t (1 : Fin 2) * 2048 + 1 * q.val = q.val; rw [e1]; omega

/-- The gate's block at a point is the whole gate. -/
theorem block_gate (c : Dev nD) (t : Fin cfg0.N) (k : Fin 2048) :
    iblk m c 3 t (ix2 0 k) = (m ((c : Thread nD τ).loc main_arg3) : Vec Ideal S1x2048 .f32) (ix2 0 k) := by
  obtain ⟨-, -, -, ⟨e0, e1⟩, -⟩ := index_at t
  show V m c main_arg3 (((cfg0.win 3).blk t).view.emb (ix2 0 k)) = _
  rw [V_main_arg3]
  refine congrArg (m ((c : Thread nD τ).loc main_arg3) : Vec Ideal S1x2048 .f32) (funext fun d => Fin.ext ?_)
  match d with
  | ⟨0, _⟩ => show win0_3.index t (0 : Fin 2) * 1 + 1 * 0 = 0; rw [e0]
  | ⟨1, _⟩ => show win0_3.index t (1 : Fin 2) * 2048 + 1 * k.val = k.val; rw [e1]; omega

/-- The gain's block at a point is the whole gain. -/
theorem block_gain (c : Dev nD) (t : Fin cfg0.N) (k : Fin 2048) :
    iblk m c 4 t (ix2 0 k) = (m ((c : Thread nD τ).loc main_arg4) : Vec Ideal S2048 .f32) (ix1 k) := by
  obtain ⟨-, -, -, -, ⟨e0, e1⟩, -⟩ := index_at t
  have h : ((cfg0.win 4).blk t).view.emb (ix2 0 k) = ix2 (0 : Fin 1) k := funext fun d => Fin.ext (by
    match d with
    | ⟨0, _⟩ => show win0_4.index t (0 : Fin 2) * 1 + 1 * 0 = 0; rw [e0]
    | ⟨1, _⟩ => show win0_4.index t (1 : Fin 2) * 2048 + 1 * k.val = k.val; rw [e1]; omega)
  show V m c main_v0 (((cfg0.win 4).blk t).view.emb (ix2 0 k)) = _
  rw [h, gain_row]
  pointwise []

/-- The scale's block at a point is the whole scale. -/
theorem block_scale (c : Dev nD) (t : Fin cfg0.N) (k : Fin 2048) :
    iblk m c 5 t (ix2 0 k) = (m ((c : Thread nD τ).loc main_arg5) : Vec Ideal S1x2048 .f32) (ix2 0 k) := by
  obtain ⟨-, -, -, -, -, ⟨e0, e1⟩, -⟩ := index_at t
  show V m c main_arg5 (((cfg0.win 5).blk t).view.emb (ix2 0 k)) = _
  rw [V_main_arg5]
  refine congrArg (m ((c : Thread nD τ).loc main_arg5) : Vec Ideal S1x2048 .f32) (funext fun d => Fin.ext ?_)
  match d with
  | ⟨0, _⟩ => show win0_5.index t (0 : Fin 2) * 1 + 1 * 0 = 0; rw [e0]
  | ⟨1, _⟩ => show win0_5.index t (1 : Fin 2) * 2048 + 1 * k.val = k.val; rw [e1]; omega

/-- The shift's block at a point is the whole shift. -/
theorem block_shift (c : Dev nD) (t : Fin cfg0.N) (k : Fin 2048) :
    iblk m c 6 t (ix2 0 k) = (m ((c : Thread nD τ).loc main_arg6) : Vec Ideal S1x2048 .f32) (ix2 0 k) := by
  obtain ⟨-, -, -, -, -, -, ⟨e0, e1⟩, -⟩ := index_at t
  show V m c main_arg6 (((cfg0.win 6).blk t).view.emb (ix2 0 k)) = _
  rw [V_main_arg6]
  refine congrArg (m ((c : Thread nD τ).loc main_arg6) : Vec Ideal S1x2048 .f32) (funext fun d => Fin.ext ?_)
  match d with
  | ⟨0, _⟩ => show win0_6.index t (0 : Fin 2) * 1 + 1 * 0 = 0; rw [e0]
  | ⟨1, _⟩ => show win0_6.index t (1 : Fin 2) * 2048 + 1 * k.val = k.val; rw [e1]; omega

/-- The router's weights' block at a point is the whole of them. -/
theorem block_router (c : Dev nD) (t : Fin cfg0.N) (e : Fin 64) (k : Fin 2048) :
    iblk m c 7 t (ix2 e k) = (m ((c : Thread nD τ).loc main_arg7) : Vec Ideal S64x2048 .f32) (ix2 e k) := by
  obtain ⟨-, -, -, -, -, -, -, ⟨e0, e1⟩, -⟩ := index_at t
  show V m c main_arg7 (((cfg0.win 7).blk t).view.emb (ix2 e k)) = _
  rw [V_main_arg7]
  refine congrArg (m ((c : Thread nD τ).loc main_arg7) : Vec Ideal S64x2048 .f32) (funext fun d => Fin.ext ?_)
  match d with
  | ⟨0, _⟩ => show win0_7.index t (0 : Fin 2) * 64 + 1 * e.val = e.val; rw [e0]; omega
  | ⟨1, _⟩ => show win0_7.index t (1 : Fin 2) * 2048 + 1 * k.val = k.val; rw [e1]; omega

end Cert.Kernel3Ideal.Outproj

end
-- ==== Proof.Outproj.Algebra.lean ====
/- The output projection's call computes its reference over the reals extended by ±∞, from arguments that are real
   numbers: each element of the three output arrays is the reference's element. -/
module

public import proofs.«01_k».proof.Proof.Outproj.Value
public import proofs.«01_k».proof.Defs

@[expose] public section

set_option maxRecDepth 16384

noncomputable section

namespace Cert.Kernel3Ideal.Outproj

open Cert.Kernel3Ideal Cert.Kernel3Ideal.Gen
open Idealize.ShloMosaic Idealize.ShloMosaic.TcCoe Idealize.SL.Sem
open Idealize.ShloMosaic.Pipeline (Dat Cfg Window)
open Cert.Outproj (IsReal)
open Cert.Reference2Ideal.Inproj (modNorm)

variable (m : (ℓ : Loc nD τ sig) → Buf (Elt Ideal) ℓ)

/-! ## The arrays the call ends with -/

/-- The reference's stream at the call's arguments. -/
def streamOut (c : Dev nD) : Buf (Elt Ideal) ((c : Thread nD τ).loc main_v1_0) :=
  Cert.Reference3Ideal.Outproj.stream (m ((c : Thread nD τ).loc main_arg0)) (m ((c : Thread nD τ).loc main_arg1))
    (m ((c : Thread nD τ).loc main_arg2)) (m ((c : Thread nD τ).loc main_arg3))

/-- The reference's modulated norm there. -/
def normedOut (c : Dev nD) : Buf (Elt Ideal) ((c : Thread nD τ).loc main_v1_1) :=
  Cert.Reference3Ideal.Outproj.normed (streamOut m c) (m ((c : Thread nD τ).loc main_arg4)) (m ((c : Thread nD τ).loc main_arg5))
    (m ((c : Thread nD τ).loc main_arg6))

/-- The reference's logits there. -/
def logitsOut (c : Dev nD) : Buf (Elt Ideal) ((c : Thread nD τ).loc main_v1_2) :=
  Cert.Reference3Ideal.Outproj.logits (normedOut m c) (m ((c : Thread nD τ).loc main_arg7))

/-- The row of the arrays that row `a` of point `t`'s blocks is. -/
abbrev rowAt (t : Fin cfg0.N) (a : Fin 512) : Fin 8192 :=
  ⟨t.val * 512 + a.val, by have h : t.val < 16 := Nat.lt_of_lt_of_eq t.isLt N_0; have := a.isLt; omega⟩

/-- A point's stream, an element of the reference's. -/
theorem stream_block (c : Dev nD) (t : Fin cfg0.N) (a : Fin 512) (q : Fin 2048) :
    k0_pay2 (iblk m c 1 t) (iblk m c 3 t) (iblk m c 0 t) (iblk m c 2 t) (ix2 a q) = streamOut m c (ix2 (rowAt t a) q) := by
  unfold streamOut
  rw [stream_apply, Cert.Reference3Ideal.Outproj.stream_apply, block_rows m c t a q (rowAt t a) rfl, block_gate]
  simp only [block_mixed m c t a _ (rowAt t a) rfl, block_weights]

/-- A point's modulated norm, an element of the reference's. -/
theorem normed_block (c : Dev nD) (t : Fin cfg0.N) (a : Fin 512) (q : Fin 2048) :
    k0_pay3 (iblk m c 1 t) (iblk m c 3 t) (iblk m c 0 t) (iblk m c 2 t) (iblk m c 4 t) (iblk m c 5 t) (iblk m c 6 t) (ix2 a q)
      = normedOut m c (ix2 (rowAt t a) q) := by
  unfold normedOut
  rw [normed_apply, Cert.Reference3Ideal.Outproj.normed_apply, block_gain, block_scale, block_shift]
  simp only [stream_block]

/-- The precondition, at one device: each argument's elements are real. -/
def Reals (c : Dev nD) : Prop :=
  (∀ i, IsReal ((m ((c : Thread nD τ).loc main_arg0) : Vec Ideal S8192x2048 .bf16) i))
    ∧ (∀ i, IsReal ((m ((c : Thread nD τ).loc main_arg1) : Vec Ideal S8192x2048 .f32) i))
    ∧ (∀ i, IsReal ((m ((c : Thread nD τ).loc main_arg2) : Vec Ideal S2048x2048 .bf16) i))
    ∧ (∀ i, IsReal ((m ((c : Thread nD τ).loc main_arg3) : Vec Ideal S1x2048 .f32) i))
    ∧ (∀ i, IsReal ((m ((c : Thread nD τ).loc main_arg4) : Vec Ideal S2048 .f32) i))
    ∧ (∀ i, IsReal ((m ((c : Thread nD τ).loc main_arg5) : Vec Ideal S1x2048 .f32) i))
    ∧ (∀ i, IsReal ((m ((c : Thread nD τ).loc main_arg6) : Vec Ideal S1x2048 .f32) i))
    ∧ (∀ i, IsReal ((m ((c : Thread nD τ).loc main_arg7) : Vec Ideal S64x2048 .f32) i))

/-- Then the stream's elements are real. -/
theorem real_stream (c : Dev nD) (h : Reals m c) (r : Fin 8192) (q : Fin 2048) : IsReal (streamOut m c (ix2 r q)) := by
  obtain ⟨h0, h1, h2, h3, -⟩ := h
  unfold streamOut
  rw [Cert.Reference3Ideal.Outproj.stream_apply]
  exact (h1 _).add ((h3 _).mul (IsReal.sum fun k => (h0 _).mul (h2 _)))

/-- And so are the modulated norm's. -/
theorem real_normed (c : Dev nD) (h : Reals m c) (r : Fin 8192) (q : Fin 2048) : IsReal (normedOut m c (ix2 r q)) := by
  have hs := real_stream m c h r
  obtain ⟨-, -, -, -, h4, h5, h6, -⟩ := h
  unfold normedOut
  rw [Cert.Reference3Ideal.Outproj.normed_apply]
  exact Cert.Outproj.real_modNorm hs (hs q) (h4 _) (h5 _) (h6 _)

/-- A point's logits, an element of the reference's. -/
theorem logits_block (c : Dev nD) (h : Reals m c) (t : Fin cfg0.N) (e : Fin 64) (a : Fin 512) :
    k0_pay1 (k0_pay3 (iblk m c 1 t) (iblk m c 3 t) (iblk m c 0 t) (iblk m c 2 t) (iblk m c 4 t) (iblk m c 5 t) (iblk m c 6 t)) (iblk m c 7 t) (ix2 e a)
      = logitsOut m c (ix2 e (rowAt t a)) := by
  rw [logits_apply]
  · unfold logitsOut
    rw [Cert.Reference3Ideal.Outproj.logits_apply]
    refine Finset.sum_congr rfl fun k _ => ?_
    rw [normed_block, block_router]
  · intro k
    rw [normed_block]
    exact real_normed m c h _ _
  · intro k
    rw [block_router]
    exact h.2.2.2.2.2.2.2 _

/-! ## The arrays after the call -/

/-- The point that computes a row of the arrays. -/
abbrev pointOf (n : ℕ) (h : n < 8192) : Fin cfg0.N := ⟨n / 512, Nat.lt_of_lt_of_eq (show n / 512 < 16 by omega) N_0.symm⟩

/-- An index lies in a point's block of the stream when each coordinate lies in the block's range. -/
theorem mem_8 (t : Fin cfg0.N) (i : S8192x2048.Idx)
    (h : ∀ a : Fin 2, win0_8.index t a * S512x2048.size a ≤ (i a).val ∧ (i a).val < win0_8.index t a * S512x2048.size a + S512x2048.size a) :
    i ∈ ((cfg0.win 8).blk t).view.set := by
  show i ∈ ((View.whole main_v1_0).slice (win0_8.rect t)).set
  rw [View.set_slice_whole, Rect.mem_set_unit]
  exact h

/-- An index lies in a point's block of the modulated norm when each coordinate lies in the block's range. -/
theorem mem_9 (t : Fin cfg0.N) (i : S8192x2048.Idx)
    (h : ∀ a : Fin 2, win0_9.index t a * S512x2048.size a ≤ (i a).val ∧ (i a).val < win0_9.index t a * S512x2048.size a + S512x2048.size a) :
    i ∈ ((cfg0.win 9).blk t).view.set := by
  show i ∈ ((View.whole main_v1_1).slice (win0_9.rect t)).set
  rw [View.set_slice_whole, Rect.mem_set_unit]
  exact h

/-- An index lies in a point's block of the logits when each coordinate lies in the block's range. -/
theorem mem_10 (t : Fin cfg0.N) (i : S64x8192.Idx)
    (h : ∀ a : Fin 2, win0_10.index t a * S64x512.size a ≤ (i a).val ∧ (i a).val < win0_10.index t a * S64x512.size a + S64x512.size a) :
    i ∈ ((cfg0.win 10).blk t).view.set := by
  show i ∈ ((View.whole main_v1_2).slice (win0_10.rect t)).set
  rw [View.set_slice_whole, Rect.mem_set_unit]
  exact h

/-- What a point writes back to the stream is its block of `streamOut`. -/
theorem flushed_8 (c : Dev nD) (t : Fin cfg0.N) (_ : (cfg0.win 8).flush t = true) :
    (dats m 0 c).flushed 8 t = ((cfg0.win 8).blk t).view.read (Elt Ideal) (streamOut m c) := by
  rw [Cert.Kernel3Ideal.Value.flushed8]
  obtain ⟨e0, e1⟩ := (index_at t).2.2.2.2.2.2.2.2.1
  funext (y : S512x2048.Idx)
  obtain ⟨a, q, rfl⟩ : ∃ (a : Fin 512) (q : Fin 2048), y = ix2 a q := ⟨y 0, y 1, eq_ix2 y⟩
  show out0_8 _ _ _ _ _ _ _ _ (ix2 a q) = streamOut m c (((cfg0.win 8).blk t).view.emb (ix2 a q))
  rw [out8_eq, stream_block]
  refine congrArg (streamOut m c) (funext fun d => Fin.ext ?_)
  match d with
  | ⟨0, _⟩ => show t.val * 512 + a.val = win0_8.index t (0 : Fin 2) * 512 + 1 * a.val; rw [e0]; omega
  | ⟨1, _⟩ => show q.val = win0_8.index t (1 : Fin 2) * 2048 + 1 * q.val; rw [e1]; omega

/-- What a point writes back to the modulated norm is its block of `normedOut`. -/
theorem flushed_9 (c : Dev nD) (t : Fin cfg0.N) (_ : (cfg0.win 9).flush t = true) :
    (dats m 0 c).flushed 9 t = ((cfg0.win 9).blk t).view.read (Elt Ideal) (normedOut m c) := by
  rw [Cert.Kernel3Ideal.Value.flushed9]
  obtain ⟨e0, e1⟩ := (index_at t).2.2.2.2.2.2.2.2.2.1
  funext (y : S512x2048.Idx)
  obtain ⟨a, q, rfl⟩ : ∃ (a : Fin 512) (q : Fin 2048), y = ix2 a q := ⟨y 0, y 1, eq_ix2 y⟩
  show out0_9 _ _ _ _ _ _ _ _ (ix2 a q) = normedOut m c (((cfg0.win 9).blk t).view.emb (ix2 a q))
  rw [out9_eq, normed_block]
  refine congrArg (normedOut m c) (funext fun d => Fin.ext ?_)
  match d with
  | ⟨0, _⟩ => show t.val * 512 + a.val = win0_9.index t (0 : Fin 2) * 512 + 1 * a.val; rw [e0]; omega
  | ⟨1, _⟩ => show q.val = win0_9.index t (1 : Fin 2) * 2048 + 1 * q.val; rw [e1]; omega

/-- What a point writes back to the logits is its block of `logitsOut`. -/
theorem flushed_10 (c : Dev nD) (h : Reals m c) (t : Fin cfg0.N) (_ : (cfg0.win 10).flush t = true) :
    (dats m 0 c).flushed 10 t = ((cfg0.win 10).blk t).view.read (Elt Ideal) (logitsOut m c) := by
  rw [Cert.Kernel3Ideal.Value.flushed10]
  obtain ⟨e0, e1⟩ := (index_at t).2.2.2.2.2.2.2.2.2.2
  funext (y : S64x512.Idx)
  obtain ⟨e, a, rfl⟩ : ∃ (e : Fin 64) (a : Fin 512), y = ix2 e a := ⟨y 0, y 1, eq_ix2 y⟩
  show out0_10 _ _ _ _ _ _ _ _ (ix2 e a) = logitsOut m c (((cfg0.win 10).blk t).view.emb (ix2 e a))
  rw [out10_eq, logits_block m c h]
  refine congrArg (logitsOut m c) (funext fun d => Fin.ext ?_)
  match d with
  | ⟨0, _⟩ => show e.val = win0_10.index t (0 : Fin 2) * 64 + 1 * e.val; rw [e0]; omega
  | ⟨1, _⟩ => show t.val * 512 + a.val = win0_10.index t (1 : Fin 2) * 512 + 1 * a.val; rw [e1]; omega

/-- The stream after the call. -/
theorem final_8 (c : Dev nD) : (dats m 0 c).arrAt 8 cfg0.N = streamOut m c :=
  (dats m 0 c).arrAt_eq_of_cover 8 _ (flushed_8 m c) fun i => by
    have h0 : (i 0).val < 8192 := (i 0).isLt
    have h1 : (i 1).val < 2048 := (i 1).isLt
    refine ⟨pointOf (i 0).val h0, flush0_8 _, mem_8 _ i ?_⟩
    obtain ⟨e0, e1⟩ := (index_at (pointOf (i 0).val h0)).2.2.2.2.2.2.2.2.1
    intro a
    match a with
    | ⟨0, _⟩ =>
      show win0_8.index (pointOf (i 0).val h0) (0 : Fin 2) * 512 ≤ (i 0).val ∧ (i 0).val < win0_8.index (pointOf (i 0).val h0) (0 : Fin 2) * 512 + 512
      rw [e0]; dsimp only [pointOf]; omega
    | ⟨1, _⟩ =>
      show win0_8.index (pointOf (i 0).val h0) (1 : Fin 2) * 2048 ≤ (i 1).val ∧ (i 1).val < win0_8.index (pointOf (i 0).val h0) (1 : Fin 2) * 2048 + 2048
      rw [e1]; omega

/-- The modulated norm after the call. -/
theorem final_9 (c : Dev nD) : (dats m 0 c).arrAt 9 cfg0.N = normedOut m c :=
  (dats m 0 c).arrAt_eq_of_cover 9 _ (flushed_9 m c) fun i => by
    have h0 : (i 0).val < 8192 := (i 0).isLt
    have h1 : (i 1).val < 2048 := (i 1).isLt
    refine ⟨pointOf (i 0).val h0, flush0_9 _, mem_9 _ i ?_⟩
    obtain ⟨e0, e1⟩ := (index_at (pointOf (i 0).val h0)).2.2.2.2.2.2.2.2.2.1
    intro a
    match a with
    | ⟨0, _⟩ =>
      show win0_9.index (pointOf (i 0).val h0) (0 : Fin 2) * 512 ≤ (i 0).val ∧ (i 0).val < win0_9.index (pointOf (i 0).val h0) (0 : Fin 2) * 512 + 512
      rw [e0]; dsimp only [pointOf]; omega
    | ⟨1, _⟩ =>
      show win0_9.index (pointOf (i 0).val h0) (1 : Fin 2) * 2048 ≤ (i 1).val ∧ (i 1).val < win0_9.index (pointOf (i 0).val h0) (1 : Fin 2) * 2048 + 2048
      rw [e1]; omega

/-- The logits after the call, whose rows lie along the blocks' columns. -/
theorem final_10 (c : Dev nD) (h : Reals m c) : (dats m 0 c).arrAt 10 cfg0.N = logitsOut m c :=
  (dats m 0 c).arrAt_eq_of_cover 10 _ (flushed_10 m c h) fun i => by
    have h0 : (i 0).val < 64 := (i 0).isLt
    have h1 : (i 1).val < 8192 := (i 1).isLt
    refine ⟨pointOf (i 1).val h1, flush0_10 _, mem_10 _ i ?_⟩
    obtain ⟨e0, e1⟩ := (index_at (pointOf (i 1).val h1)).2.2.2.2.2.2.2.2.2.2
    intro a
    match a with
    | ⟨0, _⟩ =>
      show win0_10.index (pointOf (i 1).val h1) (0 : Fin 2) * 64 ≤ (i 0).val ∧ (i 0).val < win0_10.index (pointOf (i 1).val h1) (0 : Fin 2) * 64 + 64
      rw [e0]; omega
    | ⟨1, _⟩ =>
      show win0_10.index (pointOf (i 1).val h1) (1 : Fin 2) * 512 ≤ (i 1).val ∧ (i 1).val < win0_10.index (pointOf (i 1).val h1) (1 : Fin 2) * 512 + 512
      rw [e1]; dsimp only [pointOf]; omega

/-- From memories that agree on the eight arguments, these real, the call and its reference end with the same three
    results, and each leaves its arguments as they were. -/
theorem algebraic : Cert.algebraic_Kernel3Ideal_Reference3Ideal_pre_finite3 := by
  intro m g m' g' hp he
  have hr : ∀ c, Reals m c := fun c => Cert.Outproj.real_of_finite3 _ _ _ _ _ _ _ _ (hp c)
  refine ⟨fun c => streamOut m c, fun c => normedOut m c, fun c => logitsOut m c, ?_, ?_⟩
  · refine (θ_run _ _ _).mono (fun r h c => ?_) (Cert.Kernel3Ideal.Value.run_blocks m g)
    obtain ⟨h0, h1, h2, hargs⟩ := h c
    exact ⟨h0.trans (final_8 m c), h1.trans (final_9 m c), h2.trans (final_10 m c (hr c)), hargs⟩
  · refine (θ_run _ _ _).mono (fun r h c => ?_) (Cert.Reference3Ideal.Value.run (F := Ideal) m' g')
    obtain ⟨h0, h1, h2, hargs⟩ := h c
    obtain ⟨e0, e1, e2, e3, e4, e5, e6, e7⟩ := he c
    refine ⟨h0.trans ?_, h1.trans ?_, h2.trans ?_, hargs⟩
    · rw [e0, e1, e2, e3]; rfl
    · rw [e0, e1, e2, e3, e4, e5, e6]; rfl
    · rw [e0, e1, e2, e3, e4, e5, e6, e7]; rfl

end Cert.Kernel3Ideal.Outproj

end
-- ==== Proof.Modulation.Algebra.lean ====
/- The modulation vector's call computes its reference over the reals extended by ±∞, from a conditioning vector of real
   numbers. -/
module

public import proofs.«01_k».proof.Proof.Gen.Kernel4Ideal.Value
public import proofs.«01_k».proof.Proof.Gen.Reference4Ideal.Run
public import proofs.«01_k».proof.Proof.Gen.Pre_finite4
public import proofs.«01_k».proof.Proof.Outproj.Value
public import proofs.«01_k».proof.Proof.Mixer.Ref
public import proofs.«01_k».proof.Defs

@[expose] public section

set_option maxRecDepth 16384

noncomputable section

namespace Cert.Reference4Ideal.Modulation
open Cert.Reference4Ideal Cert.Reference4Ideal.Gen
open Idealize.ShloMosaic Idealize.ShloMosaic.TcCoe Idealize.SL.Sem

/-- The reference's result. -/
def vec (c : Vec Ideal S1x2048 .f32) (w : Vec Ideal S2048x12288 .f32) (b : Vec Ideal S12288 .f32) : FVec Ideal S1x12288 .f32 :=
  addf (Host.dotGeneral (φ₁ := .f32) (φ₂ := .f32) dot_S1x2048_S2048x12288_S1x12288_1_0_0_1_n_n none (mulf c (Host.divf (broadcastInDim S1x2048 ![] bcast_S_S1x2048 (constant S_ .f32 0x3F800000#32)) (addf (broadcastInDim S1x2048 ![] bcast_S_S1x2048 (constant S_ .f32 0x3F800000#32)) (Host.exp (Host.negf c))))) w) (broadcastInDim S1x12288 ![1] bcast_S12288_S1x12288_1 b)

theorem vec_apply (c : Vec Ideal S1x2048 .f32) (w : Vec Ideal S2048x12288 .f32) (b : Vec Ideal S12288 .f32) (q : Fin 12288) :
    vec c w b (ix2 0 q) = ∑ k : Fin 2048, c (ix2 0 k) * Ideal.div 1 (1 + Ideal.exp (-c (ix2 0 k))) * w (ix2 k q) + b (ix1 q) := by
  unfold vec; pointwise

theorem vec_congr {c c' : Vec Ideal S1x2048 .f32} {w w' : Vec Ideal S2048x12288 .f32} {b b' : Vec Ideal S12288 .f32} (hc : c = c') (hw : w = w') (hb : b = b') :
    vec c w b = vec c' w' b' := by rw [hc, hw, hb]

end Cert.Reference4Ideal.Modulation

namespace Cert.Kernel4Ideal.Modulation
open Cert.Kernel4Ideal Cert.Kernel4Ideal.Gen
open Idealize.ShloMosaic Idealize.ShloMosaic.TcCoe Idealize.SL.Sem
open Cert.Outproj (IsReal)
open Cert.Kernel3Ideal.Outproj (canon_whole zeros)
open Cert.Reference4Ideal.Modulation (vec vec_apply vec_congr)

/-- Of a real number the two ways to write the gated identity agree. -/
theorem gated {a : EReal} (h : IsReal a) : Ideal.ofBits .f32 0x3F000000#32 * a + Ideal.ofBits .f32 0x3F000000#32 * a * Ideal.tanh (Ideal.ofBits .f32 0x3F000000#32 * a)
    = a * Ideal.div 1 (1 + Ideal.exp (-a)) := by
  obtain ⟨x, rfl⟩ := h
  rw [Mixer.ofBits_half, ← EReal.coe_mul, Ideal.tanh_coe, ← EReal.coe_mul, ← EReal.coe_add, Mixer.coe_lgs, ← EReal.coe_mul, ← Mixer.silu_eq]
  rfl

theorem pay_apply (c : Vec Ideal S2048x1 .f32) (w : Vec Ideal S2048x1024 .f32) (b : Vec Ideal S1x1024 .f32) (q : Fin 1024) (h : ∀ k : Fin 2048, IsReal (c (ix2 k 0))) :
    k0_pay1 c w b (ix2 0 q) = ∑ k : Fin 2048, c (ix2 k 0) * Ideal.div 1 (1 + Ideal.exp (-c (ix2 k 0))) * w (ix2 k q) + b (ix2 0 q) := by
  pointwise [k0_pay1]
  simp only [gated (h _), mul_comm (w _)]

variable (m : (ℓ : Loc nD τ sig) → Buf (Elt Ideal) ℓ)

/-- The reference's vector at the call's arguments. -/
def vecOut (c : Dev nD) : Buf (Elt Ideal) ((c : Thread nD τ).loc main_v2) :=
  vec (m ((c : Thread nD τ).loc main_arg0)) (m ((c : Thread nD τ).loc main_arg1)) (m ((c : Thread nD τ).loc main_arg2))

theorem cond_col (c : Dev nD) : V m c main_v0 = shapeCast S2048x1 (m ((c : Thread nD τ).loc main_arg0) : Vec Ideal S1x2048 .f32) shapeCasts_S1x2048_S2048x1 := by
  show StableHlo.after hostOps0 _ _ = _
  after_results
  rfl
theorem bias_row (c : Dev nD) : V m c main_v1 = shapeCast S1x12288 (m ((c : Thread nD τ).loc main_arg2) : Vec Ideal S12288 .f32) shapeCasts_S12288_S1x12288 := by
  show StableHlo.after hostOps0 _ _ = _
  after_results
  rfl

theorem row_apply (b : Vec Ideal S12288 .f32) (q : Fin 12288) : shapeCast S1x12288 b shapeCasts_S12288_S1x12288 (ix2 0 q) = b (ix1 q) := by
  pointwise

/-- Where each window's block lies at a point. -/
theorem index_at : ∀ t : Fin cfg0.N,
    (win0_0.index t (0 : Fin 2) = 0 ∧ win0_0.index t (1 : Fin 2) = 0) ∧ (win0_1.index t (0 : Fin 2) = 0 ∧ win0_1.index t (1 : Fin 2) = t.val)
    ∧ (win0_2.index t (0 : Fin 2) = 0 ∧ win0_2.index t (1 : Fin 2) = t.val) ∧ (win0_3.index t (0 : Fin 2) = 0 ∧ win0_3.index t (1 : Fin 2) = t.val) :=
  (by decide +kernel : ∀ t : Fin grid0.N, _)

/-- The column that column `a` of point `t`'s blocks is. -/
abbrev colAt (t : Fin cfg0.N) (a : Fin 1024) : Fin 12288 :=
  ⟨t.val * 1024 + a.val, by have h : t.val < 12 := Nat.lt_of_lt_of_eq t.isLt N_0; have := a.isLt; omega⟩

theorem block_cond (c : Dev nD) (t : Fin cfg0.N) (k : Fin 2048) :
    iblk m c 0 t (ix2 k 0) = (m ((c : Thread nD τ).loc main_arg0) : Vec Ideal S1x2048 .f32) (ix2 0 k) := by
  obtain ⟨⟨e0, e1⟩, -⟩ := index_at t
  have h : ((cfg0.win 0).blk t).view.emb (ix2 k 0) = ix2 k (0 : Fin 1) := funext fun d => Fin.ext (by
    match d with
    | ⟨0, _⟩ => show win0_0.index t (0 : Fin 2) * 2048 + 1 * k.val = k.val; rw [e0]; omega
    | ⟨1, _⟩ => show win0_0.index t (1 : Fin 2) * 1 + 1 * 0 = 0; rw [e1])
  show V m c main_v0 (((cfg0.win 0).blk t).view.emb (ix2 k 0)) = _
  rw [h, cond_col]
  pointwise []

theorem block_weights (c : Dev nD) (t : Fin cfg0.N) (k : Fin 2048) (a : Fin 1024) :
    iblk m c 1 t (ix2 k a) = (m ((c : Thread nD τ).loc main_arg1) : Vec Ideal S2048x12288 .f32) (ix2 k (colAt t a)) := by
  obtain ⟨-, ⟨e0, e1⟩, -⟩ := index_at t
  show V m c main_arg1 (((cfg0.win 1).blk t).view.emb (ix2 k a)) = _
  rw [V_main_arg1]
  refine congrArg (m ((c : Thread nD τ).loc main_arg1) : Vec Ideal S2048x12288 .f32) (funext fun d => Fin.ext ?_)
  match d with
  | ⟨0, _⟩ => show win0_1.index t (0 : Fin 2) * 2048 + 1 * k.val = k.val; rw [e0]; omega
  | ⟨1, _⟩ => show win0_1.index t (1 : Fin 2) * 1024 + 1 * a.val = t.val * 1024 + a.val; rw [e1]; omega

theorem block_bias (c : Dev nD) (t : Fin cfg0.N) (a : Fin 1024) :
    iblk m c 2 t (ix2 0 a) = (m ((c : Thread nD τ).loc main_arg2) : Vec Ideal S12288 .f32) (ix1 (colAt t a)) := by
  obtain ⟨-, -, ⟨e0, e1⟩, -⟩ := index_at t
  have h : ((cfg0.win 2).blk t).view.emb (ix2 0 a) = ix2 (0 : Fin 1) (colAt t a) := funext fun d => Fin.ext (by
    match d with
    | ⟨0, _⟩ => show win0_2.index t (0 : Fin 2) * 1 + 1 * 0 = 0; rw [e0]
    | ⟨1, _⟩ => show win0_2.index t (1 : Fin 2) * 1024 + 1 * a.val = t.val * 1024 + a.val; rw [e1]; omega)
  show V m c main_v1 (((cfg0.win 2).blk t).view.emb (ix2 0 a)) = _
  rw [h, bias_row]
  exact row_apply _ _

theorem out3_eq (x0 : Vec Ideal S2048x1 .f32) (x1 : Vec Ideal S2048x1024 .f32) (x2 : Vec Ideal S1x1024 .f32) (y : S1x1024.Idx) : out0_3 x0 x1 x2 y = k0_pay1 x0 x1 x2 y := by
  unfold out0_3 r0_0 r0_1 r0_2
  rw [View.ld_unit_zero zeros, View.ld_unit_zero zeros, View.ld_unit_zero zeros]
  exact canon_whole zeros _ _ y

/-- What a point writes back is its block of the vector. -/
theorem flushed_3 (c : Dev nD) (h : ∀ i, IsReal ((m ((c : Thread nD τ).loc main_arg0) : Vec Ideal S1x2048 .f32) i)) (t : Fin cfg0.N) (_ : (cfg0.win 3).flush t = true) :
    (dats m 0 c).flushed 3 t = ((cfg0.win 3).blk t).view.read (Elt Ideal) (vecOut m c) := by
  rw [Cert.Kernel4Ideal.Value.flushed3]
  obtain ⟨e0, e1⟩ := (index_at t).2.2.2
  funext (y : S1x1024.Idx)
  obtain ⟨z, a, rfl⟩ : ∃ (z : Fin 1) (a : Fin 1024), y = ix2 z a := ⟨y 0, y 1, eq_ix2 y⟩
  obtain rfl : z = 0 := Subsingleton.elim _ _
  show out0_3 _ _ _ (ix2 0 a) = vecOut m c (((cfg0.win 3).blk t).view.emb (ix2 0 a))
  have e : ((cfg0.win 3).blk t).view.emb (ix2 0 a) = ix2 (0 : Fin 1) (colAt t a) := funext fun d => Fin.ext (by
    match d with
    | ⟨0, _⟩ => show win0_3.index t (0 : Fin 2) * 1 + 1 * 0 = 0; rw [e0]
    | ⟨1, _⟩ => show win0_3.index t (1 : Fin 2) * 1024 + 1 * a.val = t.val * 1024 + a.val; rw [e1]; omega)
  rw [out3_eq, e, pay_apply _ _ _ _ fun k => by rw [block_cond]; exact h _]
  unfold vecOut
  rw [vec_apply, block_bias]
  simp only [block_cond, block_weights]

/-- The vector after the call. -/
theorem final_3 (c : Dev nD) (h : ∀ i, IsReal ((m ((c : Thread nD τ).loc main_arg0) : Vec Ideal S1x2048 .f32) i)) : (dats m 0 c).arrAt 3 cfg0.N = vecOut m c :=
  (dats m 0 c).arrAt_eq_of_cover 3 _ (flushed_3 m c h) fun i => by
    have h0 : (i 0).val < 1 := (i 0).isLt
    have h1 : (i 1).val < 12288 := (i 1).isLt
    let t : Fin cfg0.N := ⟨(i 1).val / 1024, Nat.lt_of_lt_of_eq (show (i 1).val / 1024 < 12 by omega) N_0.symm⟩
    obtain ⟨e0, e1⟩ := (index_at t).2.2.2
    refine ⟨t, flush0_3 _, ?_⟩
    show i ∈ ((View.whole main_v2).slice (win0_3.rect t)).set
    rw [View.set_slice_whole, Rect.mem_set_unit]
    intro a
    match a with
    | ⟨0, _⟩ => show win0_3.index t (0 : Fin 2) * 1 ≤ (i 0).val ∧ (i 0).val < win0_3.index t (0 : Fin 2) * 1 + 1; rw [e0]; omega
    | ⟨1, _⟩ => show win0_3.index t (1 : Fin 2) * 1024 ≤ (i 1).val ∧ (i 1).val < win0_3.index t (1 : Fin 2) * 1024 + 1024; rw [e1]; dsimp only [t]; omega

theorem algebraic : Cert.algebraic_Kernel4Ideal_Reference4Ideal_pre_finite4 := by
  intro m g m' g' hp he
  have hr (c : Dev nD) : ∀ i, IsReal ((m ((c : Thread nD τ).loc main_arg0) : Vec Ideal S1x2048 .f32) i) := Cert.Outproj.real_of_all _ _ _ _ _ _ (congrFun (hp c) fun d => d.elim0)
  refine ⟨fun c => vecOut m c, ?_, ?_⟩
  · refine (θ_run _ _ _).mono (fun r h c => ?_) (Cert.Kernel4Ideal.Value.run_blocks m g)
    obtain ⟨h0, hargs⟩ := h c
    exact ⟨h0.trans (final_3 m c (hr c)), hargs⟩
  · refine (θ_run _ _ _).mono (fun r h c => ?_) (Cert.Reference4Ideal.Value.run (F := Ideal) m' g')
    obtain ⟨h0, hargs⟩ := h c
    obtain ⟨e0, e1, e2⟩ := he c
    refine ⟨h0.trans ?_, hargs⟩
    have e := vec_congr e0 e1 e2
    unfold vecOut
    refine Eq.trans ?_ e
    unfold vec
    rfl

end Cert.Kernel4Ideal.Modulation
-- ==== Proof.lean ====
/- The certificate: `Cert.Claim`, for the mixer's call from the modules under Proof/Mixer/, for the input projection's
   call from those under Proof/Inproj/, for the output projection's call from those under Proof/Outproj/ and for the
   modulation vector's call from Proof/Modulation/. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Mixer.Algebra
public import proofs.«01_k».proof.Proof.Gen.Pre_finite1
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Points
public import proofs.«01_k».proof.Proof.Gen.Kernel2Ideal.Launch
public import proofs.«01_k».proof.Proof.Gen.Kernel2Ideal.Skeleton
public import proofs.«01_k».proof.Proof.Gen.Kernel2Ideal.Frame
public import proofs.«01_k».proof.Proof.Gen.Reference2Ideal
public import proofs.«01_k».proof.Proof.Gen.Reference2Ideal.Run
public import proofs.«01_k».proof.Proof.Inproj.Algebra
public import proofs.«01_k».proof.Proof.Gen.Pre_finite3
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Outproj.Algebra
public import proofs.«01_k».proof.Proof.Modulation.Algebra
public import proofs.«01_k».proof.Proof.Gen.Pre_finite4
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Adequacy
public import Idealize.ShloMosaic.Init

@[expose] public section

noncomputable section

namespace Cert.Proof

open Idealize.ShloMosaic Idealize.SL.Sem

set_option smartUnfolding false in
set_option maxRecDepth 100000 in
set_option maxHeartbeats 1000000 in
/-- The mixer's machine program runs to its end, keeps its arguments and leaves every counter at zero: its text is the
    ideal program's, so this is the ideal program's run read at the words. -/
theorem frame_kernel : Cert.quiescent_Kernel := fun m ρ _ => by
  exact Cert.KernelIdeal.Mixer.frame (F := Bits) m ρ

/-- The same of the mixer's program over the extended reals. -/
theorem frame_ideal : Cert.quiescent_KernelIdeal := fun m ρ _ => Cert.KernelIdeal.Mixer.frame m ρ

/-- The mixer's reference runs to its end and keeps its arguments; it declares no counter. -/
theorem frame_reference : Cert.quiescent_ReferenceIdeal := fun m ρ _ =>
  (θ_run Cert.ReferenceIdeal.defs _ _).mono
    (fun _ h => ⟨fun c => (h c).2, funext fun ⟨_, s⟩ => by rcases s with s | s <;> exact Fin.elim0 s⟩)
    (Cert.ReferenceIdeal.Value.run m ρ)

set_option smartUnfolding false in
set_option maxRecDepth 100000 in
set_option maxHeartbeats 1000000 in
/-- The input projection's machine program runs to its end, keeps its arguments and leaves every counter at zero, again by
    the ideal program's run read at the words. -/
theorem frame_kernel2 : Cert.quiescent_Kernel2 := fun m ρ _ => by
  exact Cert.Kernel2Ideal.Inproj.frame (F := Bits) m ρ

/-- The same of the input projection's program over the extended reals. -/
theorem frame_ideal2 : Cert.quiescent_Kernel2Ideal := fun m ρ _ => Cert.Kernel2Ideal.Inproj.frame m ρ

/-- The input projection's reference runs to its end and keeps its arguments; it declares no counter. -/
theorem frame_reference2 : Cert.quiescent_Reference2Ideal := fun m ρ _ =>
  (θ_run Cert.Reference2Ideal.defs _ _).mono
    (fun _ h => ⟨fun c => (h c).2.2, funext fun ⟨_, s⟩ => by rcases s with s | s <;> exact Fin.elim0 s⟩)
    (Cert.Reference2Ideal.Value.run m ρ)

set_option smartUnfolding false in
set_option maxRecDepth 100000 in
set_option maxHeartbeats 1000000 in
/-- The output projection's machine program runs to its end, keeps its arguments and leaves every counter at zero, by the
    ideal program's run read at the words. -/
theorem frame_kernel3 : Cert.quiescent_Kernel3 := fun m ρ _ => by
  exact Cert.Kernel3Ideal.Gen.frame (F := Bits) m ρ

/-- The same of the output projection's program over the extended reals. -/
theorem frame_ideal3 : Cert.quiescent_Kernel3Ideal := fun m ρ _ => Cert.Kernel3Ideal.Gen.frame m ρ

/-- The output projection's reference runs to its end and keeps its arguments; it declares no counter. -/
theorem frame_reference3 : Cert.quiescent_Reference3Ideal := fun m ρ _ =>
  (θ_run Cert.Reference3Ideal.defs _ _).mono
    (fun _ h => ⟨fun c => (h c).2.2.2, funext fun ⟨_, s⟩ => by rcases s with s | s <;> exact Fin.elim0 s⟩)
    (Cert.Reference3Ideal.Value.run m ρ)

set_option smartUnfolding false in
set_option maxRecDepth 100000 in
set_option maxHeartbeats 1000000 in
/-- The modulation vector's machine program runs to its end, keeps its arguments and leaves every counter at zero, by the
    ideal program's run read at the words. -/
theorem frame_kernel4 : Cert.quiescent_Kernel4 := fun m ρ _ => by
  exact Cert.Kernel4Ideal.Gen.frame (F := Bits) m ρ

/-- The same of the modulation vector's program over the extended reals. -/
theorem frame_ideal4 : Cert.quiescent_Kernel4Ideal := fun m ρ _ => Cert.Kernel4Ideal.Gen.frame m ρ

/-- The modulation vector's reference runs to its end and keeps its arguments; it declares no counter. -/
theorem frame_reference4 : Cert.quiescent_Reference4Ideal := fun m ρ _ =>
  (θ_run Cert.Reference4Ideal.defs _ _).mono
    (fun _ h => ⟨fun c => (h c).2, funext fun ⟨_, s⟩ => by rcases s with s | s <;> exact Fin.elim0 s⟩)
    (Cert.Reference4Ideal.Value.run m ρ)

/-- Every claim of the certificate. The runs of the programs need no precondition, so they hold under one. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite1.Gen.facts, Cert.Pre_finite3.Gen.facts, Cert.Pre_finite4.Gen.facts, frame_kernel, frame_ideal, fun m ρ _ => frame_ideal m ρ trivial,
    frame_reference, fun m ρ _ => frame_reference m ρ trivial, frame_kernel2,
    frame_ideal2, frame_reference2, frame_kernel3, frame_ideal3, fun m ρ _ => frame_ideal3 m ρ trivial, frame_reference3,
    fun m ρ _ => frame_reference3 m ρ trivial, frame_kernel4, frame_ideal4, fun m ρ _ => frame_ideal4 m ρ trivial, frame_reference4,
    fun m ρ _ => frame_reference4 m ρ trivial, trivial, Cert.KernelIdeal.Mixer.algebraic, trivial, Cert.Kernel2Ideal.Inproj.algebraic, trivial,
    Cert.Kernel3Ideal.Outproj.algebraic, trivial, Cert.Kernel4Ideal.Modulation.algebraic⟩

end Cert.Proof

end
